-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_products_within_clip_KernelIdeal [hPre_products_within_clip_KernelIdeal : Cert.Pre_products_within_clip_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_products_within_clip_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_products_within_clip_ReferenceIdeal [hPre_products_within_clip_ReferenceIdeal : Cert.Pre_products_within_clip_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_products_within_clip_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_products_within_clip_KernelIdeal [hKernelIdeal : Cert.KernelIdeal.Facts] [hPre_products_within_clip_KernelIdeal : Cert.Pre_products_within_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_products_within_clip_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_products_within_clip_ReferenceIdeal [hReferenceIdeal : Cert.ReferenceIdeal.Facts] [hPre_products_within_clip_ReferenceIdeal : Cert.Pre_products_within_clip_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_products_within_clip_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_products_within_clip_KernelIdeal [hKernelIdeal : Cert.KernelIdeal.Facts] [hReferenceIdeal : Cert.ReferenceIdeal.Facts] [hPre_products_within_clip_KernelIdeal : Cert.Pre_products_within_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_products_within_clip_KernelIdeal m →
    (∀ c : Dev Cert.KernelIdeal.nD,
      m ((c.tc : Thread Cert.KernelIdeal.nD Cert.KernelIdeal.τ).loc Cert.KernelIdeal.main_arg0) = Layout.block ⟨2, ![256, 8192]⟩ ⟨2, ![8192, 8192]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 128]⟩ ⟨2, ![8192, 4096]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_products_within_clip_KernelIdeal : Cert.Pre_products_within_clip_KernelIdeal.Facts) (hPre_products_within_clip_ReferenceIdeal : Cert.Pre_products_within_clip_ReferenceIdeal.Facts),
    quiescent_Kernel (hKernel := hKernel)
    ∧ quiescent_KernelIdeal (hKernelIdeal := hKernelIdeal)
    ∧ quiescent_KernelIdeal_pre_products_within_clip_KernelIdeal (hKernelIdeal := hKernelIdeal) (hPre_products_within_clip_KernelIdeal := hPre_products_within_clip_KernelIdeal)
    ∧ quiescent_ReferenceIdeal (hReferenceIdeal := hReferenceIdeal)
    ∧ quiescent_ReferenceIdeal_pre_products_within_clip_ReferenceIdeal (hReferenceIdeal := hReferenceIdeal) (hPre_products_within_clip_ReferenceIdeal := hPre_products_within_clip_ReferenceIdeal)
    ∧ preserves_Kernel_KernelIdeal
    ∧ algebraic_KernelIdeal_ReferenceIdeal_pre_products_within_clip_KernelIdeal (hKernelIdeal := hKernelIdeal) (hReferenceIdeal := hReferenceIdeal) (hPre_products_within_clip_KernelIdeal := hPre_products_within_clip_KernelIdeal)
-- ==== Pre_products_within_clip_KernelIdeal.lean ====
abbrev S256x8192 : Shape := ⟨2, ![256, 8192]⟩
abbrev S8192x4096 : Shape := ⟨2, ![8192, 4096]⟩
abbrev S256x4096 : Shape := ⟨2, ![256, 4096]⟩
abbrev S_ : Shape := ⟨0, ![]⟩

class Facts : Prop where
  bcast_S_S256x4096 : S_.BroadcastsInDim S256x4096 (![] : Fin 0 → Fin S256x4096.rank)
  reducesTo_S256x4096_S_d0_1 : S256x4096.ReducesTo [0, 1] S_
  h_S_ : 0 < S_.numel
  dot_S256x8192_S8192x4096_S256x4096_1_0_0_1_n_n_wf : DotDims.WF S256x8192 S8192x4096 S256x4096 [1] [0] [0] [1] [] []

variable [Facts]

def dot_S256x8192_S8192x4096_S256x4096_1_0_0_1_n_n : DotDims S256x8192 S8192x4096 S256x4096 where
  lhsContracting := [1]
  rhsContracting := [0]
  lhsNonContracting := [0]
  rhsNonContracting := [1]
  lhsBatch := []
  rhsBatch := []
  wf := dot_S256x8192_S8192x4096_S256x4096_1_0_0_1_n_n_wf
def fn {F : FTy → Type} [FloatOps F] (main_arg0 : FVec F S256x8192 .f32) (main_arg1 : FVec F S8192x4096 .f32) : IVec S_ 1 :=
  let main_v0 : FVec F S256x4096 .f32 := (fun l r => Host.dotGeneral dot_S256x8192_S8192x4096_S256x4096_1_0_0_1_n_n none l r) main_arg0 main_arg1
  let main_v1 : FVec F S256x4096 .f32 := Host.absf main_v0
  let main_cst : FVec F S_ .f32 := constant S_ .f32 0x42700000#32
  let main_v2 : FVec F S256x4096 .f32 := broadcastInDim S256x4096 ![] bcast_S_S256x4096 main_cst
  let main_v3 : IVec S256x4096 1 := cmpf .ole main_v1 main_v2
  let main_c : IVec S_ 1 := constantI S_ 1 1#1
  let main_v4 : IVec S_ 1 := (fun x v => Host.reduce IntOp.andi x v reducesTo_S256x4096_S_d0_1 h_S_) main_v3 main_c
  main_v4
-- ==== Pre_products_within_clip_ReferenceIdeal.lean ====
abbrev S8192x8192 : Shape := ⟨2, ![8192, 8192]⟩
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  dot_S8192x8192_S8192x4096_S8192x4096_1_0_0_1_n_n_wf : DotDims.WF S8192x8192 S8192x4096 S8192x4096 [1] [0] [0] [1] [] []

variable [Facts]

def dot_S8192x8192_S8192x4096_S8192x4096_1_0_0_1_n_n : DotDims S8192x8192 S8192x4096 S8192x4096 where
  lhsContracting := [1]
  rhsContracting := [0]
  lhsNonContracting := [0]
  rhsNonContracting := [1]
  lhsBatch := []
  rhsBatch := []
  wf := dot_S8192x8192_S8192x4096_S8192x4096_1_0_0_1_n_n_wf
def fn {F : FTy → Type} [FloatOps F] (main_arg0 : FVec F S8192x8192 .f32) (main_arg1 : FVec F S8192x4096 .f32) : IVec S_ 1 :=
  let main_v0 : FVec F S8192x4096 .f32 := (fun l r => Host.dotGeneral dot_S8192x8192_S8192x4096_S8192x4096_1_0_0_1_n_n none l r) main_arg0 main_arg1
  let main_v1 : FVec F S8192x4096 .f32 := Host.absf main_v0
  let main_cst : FVec F S_ .f32 := constant S_ .f32 0x42700000#32
  let main_v2 : FVec F S8192x4096 .f32 := broadcastInDim S8192x4096 ![] bcast_S_S8192x4096 main_cst
  let main_v3 : IVec S8192x4096 1 := cmpf .ole main_v1 main_v2
  let main_c : IVec S_ 1 := constantI S_ 1 1#1
  let main_v4 : IVec S_ 1 := (fun x v => Host.reduce IntOp.andi x v reducesTo_S8192x4096_S_d0_1 h_S_) main_v3 main_c
  main_v4
-- ==== Kernel.lean ====
abbrev S256x8192 : Shape := ⟨2, ![256, 8192]⟩
abbrev S8192x4096 : Shape := ⟨2, ![8192, 4096]⟩
abbrev S8192x128 : Shape := ⟨2, ![8192, 128]⟩
abbrev S2x2048x1024 : Shape := ⟨3, ![2, 2048, 1024]⟩
abbrev S256x1024 : Shape := ⟨2, ![256, 1024]⟩
abbrev S32x256x128 : Shape := ⟨3, ![32, 256, 128]⟩
abbrev S2 : Shape := ⟨1, ![2]⟩
abbrev S32 : Shape := ⟨1, ![32]⟩
abbrev S_ : Shape := ⟨0, ![]⟩
abbrev S1 : Shape := ⟨1, ![1]⟩
abbrev S1x2048x1024 : Shape := ⟨3, ![1, 2048, 1024]⟩
abbrev S2048x1024 : Shape := ⟨2, ![2048, 1024]⟩
abbrev S256x2048 : Shape := ⟨2, ![256, 2048]⟩
abbrev S256x128 : Shape := ⟨2, ![256, 128]⟩
abbrev S1x256x128 : Shape := ⟨3, ![1, 256, 128]⟩

abbrev nBuf : Space → Nat
  | .hbm => 3
  | .vmem => 7
  | .smem => 0
  | _ => 0

abbrev bufTy : (tb : Table) → Fin (tcTables nBuf tb) → BufTy
  | .hbm, ⟨0, _⟩ => ⟨S256x8192, .f32⟩
  | .hbm, ⟨1, _⟩ => ⟨S8192x4096, .f32⟩
  | .hbm, ⟨2, _⟩ => ⟨S8192x128, .f32⟩
  | .local _ .vmem, ⟨0, _⟩ => ⟨S256x8192, .f32⟩
  | .local _ .vmem, ⟨1, _⟩ => ⟨S8192x128, .f32⟩
  | .local _ .vmem, ⟨2, _⟩ => ⟨S256x8192, .bf16⟩
  | .local _ .vmem, ⟨3, _⟩ => ⟨S2x2048x1024, .f32⟩
  | .local _ .vmem, ⟨4, _⟩ => ⟨S256x1024, .f32⟩
  | .local _ .vmem, ⟨5, _⟩ => ⟨S32x256x128, .bf16⟩
  | .local _ .vmem, ⟨6, _⟩ => ⟨S32x256x128, .bf16⟩
  | _, _ => ⟨S256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) : Fin 2 → Nat :=
  let c0_i32_301 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_284 : BitVec 32 := 0#32
  let v414 : BitVec 1 := Scalar.cmpi .sgt v2 c0_i32_284
  let v415 : BitVec 32 := Scalar.extui v414
  let c0_i32_285 : BitVec 32 := 0#32
  let v416 : BitVec 1 := Scalar.cmpi .slt v2 c0_i32_285
  let v417 : BitVec 32 := Scalar.extui v416
  let v418 : BitVec 32 := Scalar.subi v415 v417
  let c8_i32_283 : BitVec 32 := 8#32
  let c0_i32_286 : BitVec 32 := 0#32
  let v419 : BitVec 1 := Scalar.cmpi .sgt c8_i32_283 c0_i32_286
  let v420 : BitVec 32 := Scalar.extui v419
  let c0_i32_287 : BitVec 32 := 0#32
  let v421 : BitVec 1 := Scalar.cmpi .slt c8_i32_283 c0_i32_287
  let v422 : BitVec 32 := Scalar.extui v421
  let v423 : BitVec 32 := Scalar.subi v420 v422
  let v424 : BitVec 1 := Scalar.cmpi .ne v418 v423
  let v425 : BitVec 32 := Scalar.remsi v2 c8_i32_283
  let c0_i32_288 : BitVec 32 := 0#32
  let v426 : BitVec 1 := Scalar.cmpi .ne v425 c0_i32_288
  let v427 : BitVec 1 := Scalar.andi v424 v426
  let v413 : BitVec 32 := Scalar.divsi v2 c8_i32_283
  let c1_i32_289 : BitVec 32 := 1#32
  let v428 : BitVec 32 := Scalar.subi v413 c1_i32_289
  let v429 : BitVec 32 := Scalar.select v427 v428 v413
  let c0_i32_290 : BitVec 32 := 0#32
  let v430 : BitVec 32 := Scalar.addi v429 c0_i32_290
  let c4_i32_291 : BitVec 32 := 4#32
  let c0_i32_292 : BitVec 32 := 0#32
  let v431 : BitVec 1 := Scalar.cmpi .eq c4_i32_291 c0_i32_292
  let c1_i32_293 : BitVec 32 := 1#32
  let v432 : BitVec 32 := Scalar.select v431 c1_i32_293 c4_i32_291
  let v433 : BitVec 32 := Scalar.remsi v430 v432
  let c0_i32_295 : BitVec 32 := 0#32
  let v435 : BitVec 1 := Scalar.cmpi .slt v433 c0_i32_295
  let c0_i32_296 : BitVec 32 := 0#32
  let v436 : BitVec 1 := Scalar.cmpi .slt v432 c0_i32_296
  let v437 : BitVec 1 := Scalar.xori v435 v436
  let c0_i32_294 : BitVec 32 := 0#32
  let v434 : BitVec 1 := Scalar.cmpi .ne v433 c0_i32_294
  let v438 : BitVec 1 := Scalar.andi v437 v434
  let v439 : BitVec 32 := Scalar.addi v433 v432
  let v440 : BitVec 32 := Scalar.select v438 v439 v433
  let c1024_i32 : BitVec 32 := 1024#32
  let v441 : BitVec 32 := Scalar.muli v440 c1024_i32
  ![0, v441.toNat]
@[reducible] def k0_t1_loop : Scf.Loop 32 :=
  let c0_i32_302 : BitVec 32 := 0#32
  let c16_i32_303 : BitVec 32 := 16#32
  let v447 : BitVec 32 := Scalar.addi c0_i32_302 c16_i32_303
  let c1_i32_304 : BitVec 32 := 1#32
  ⟨c0_i32_302, v447, c1_i32_304⟩
def k0_cond1 (k0_t1 : Fin k0_t1_loop.trips) : BitVec 1 :=
  let c0_i32_302 : BitVec 32 := 0#32
  let c1_i32_304 : BitVec 32 := 1#32
  let arg11 : BitVec 32 := Scf.iv c0_i32_302 c1_i32_304 k0_t1
  let c15_i32_329 : BitVec 32 := 15#32
  let v486 : BitVec 1 := Scalar.cmpi .slt arg11 c15_i32_329
  let v487 : BitVec 32 := Scalar.extui v486
  let c0_i32_330 : BitVec 32 := 0#32
  let v488 : BitVec 1 := Scalar.cmpi .ne v487 c0_i32_330
  v488

def k0_off2 (k0_t1 : Fin k0_t1_loop.trips) : Fin 1 → Nat :=
  let c0_i32_302 : BitVec 32 := 0#32
  let c1_i32_304 : BitVec 32 := 1#32
  let arg11 : BitVec 32 := Scf.iv c0_i32_302 c1_i32_304 k0_t1
  let c1_i32_371 : BitVec 32 := 1#32
  let v569 : BitVec 32 := Scalar.addi arg11 c1_i32_371
  let c2_i32_372 : BitVec 32 := 2#32
  let c0_i32_373 : BitVec 32 := 0#32
  let v570 : BitVec 1 := Scalar.cmpi .eq c2_i32_372 c0_i32_373
  let c1_i32_374 : BitVec 32 := 1#32
  let v571 : BitVec 32 := Scalar.select v570 c1_i32_374 c2_i32_372
  let v572 : BitVec 32 := Scalar.remsi v569 v571
  let c0_i32_376 : BitVec 32 := 0#32
  let v574 : BitVec 1 := Scalar.cmpi .slt v572 c0_i32_376
  let c0_i32_377 : BitVec 32 := 0#32
  let v575 : BitVec 1 := Scalar.cmpi .slt v571 c0_i32_377
  let v576 : BitVec 1 := Scalar.xori v574 v575
  let c0_i32_375 : BitVec 32 := 0#32
  let v573 : BitVec 1 := Scalar.cmpi .ne v572 c0_i32_375
  let v577 : BitVec 1 := Scalar.andi v576 v573
  let v578 : BitVec 32 := Scalar.addi v572 v571
  let v579 : BitVec 32 := Scalar.select v577 v578 v572
  ![v579.toNat]
def k0_off3 (k0_t1 : Fin k0_t1_loop.trips) : Fin 3 → Nat :=
  let c0_i32_302 : BitVec 32 := 0#32
  let c1_i32_304 : BitVec 32 := 1#32
  let arg11 : BitVec 32 := Scf.iv c0_i32_302 c1_i32_304 k0_t1
  let c1_i32_371 : BitVec 32 := 1#32
  let v569 : BitVec 32 := Scalar.addi arg11 c1_i32_371
  let c2_i32_372 : BitVec 32 := 2#32
  let c0_i32_373 : BitVec 32 := 0#32
  let v570 : BitVec 1 := Scalar.cmpi .eq c2_i32_372 c0_i32_373
  let c1_i32_374 : BitVec 32 := 1#32
  let v571 : BitVec 32 := Scalar.select v570 c1_i32_374 c2_i32_372
  let v572 : BitVec 32 := Scalar.remsi v569 v571
  let c0_i32_376 : BitVec 32 := 0#32
  let v574 : BitVec 1 := Scalar.cmpi .slt v572 c0_i32_376
  let c0_i32_377 : BitVec 32 := 0#32
  let v575 : BitVec 1 := Scalar.cmpi .slt v571 c0_i32_377
  let v576 : BitVec 1 := Scalar.xori v574 v575
  let c0_i32_375 : BitVec 32 := 0#32
  let v573 : BitVec 1 := Scalar.cmpi .ne v572 c0_i32_375
  let v577 : BitVec 1 := Scalar.andi v576 v573
  let v578 : BitVec 32 := Scalar.addi v572 v571
  let v579 : BitVec 32 := Scalar.select v577 v578 v572
  let c0_i32_406 : BitVec 32 := 0#32
  let c0_i32_407 : BitVec 32 := 0#32
  ![v579.toNat, 0, 0]
def k0_off4 (d0 : Dev nD) (k0_t1 : Fin k0_t1_loop.trips) : Fin 2 → Nat :=
  let c0_i32_302 : BitVec 32 := 0#32
  let c1_i32_304 : BitVec 32 := 1#32
  let arg11 : BitVec 32 := Scf.iv c0_i32_302 c1_i32_304 k0_t1
  let c1_i32_370 : BitVec 32 := 1#32
  let v568 : BitVec 32 := Scalar.addi arg11 c1_i32_370
  let c4_i32_385 : BitVec 32 := 4#32
  let c0_i32_386 : BitVec 32 := 0#32
  let v597 : BitVec 1 := Scalar.cmpi .eq c4_i32_385 c0_i32_386
  let c1_i32_387 : BitVec 32 := 1#32
  let v598 : BitVec 32 := Scalar.select v597 c1_i32_387 c4_i32_385
  let v599 : BitVec 32 := Scalar.remsi v568 v598
  let c0_i32_389 : BitVec 32 := 0#32
  let v601 : BitVec 1 := Scalar.cmpi .slt v599 c0_i32_389
  let c0_i32_390 : BitVec 32 := 0#32
  let v602 : BitVec 1 := Scalar.cmpi .slt v598 c0_i32_390
  let v603 : BitVec 1 := Scalar.xori v601 v602
  let c0_i32_388 : BitVec 32 := 0#32
  let v600 : BitVec 1 := Scalar.cmpi .ne v599 c0_i32_388
  let v604 : BitVec 1 := Scalar.andi v603 v600
  let v605 : BitVec 32 := Scalar.addi v599 v598
  let v606 : BitVec 32 := Scalar.select v604 v605 v599
  let c2048_i32_404 : BitVec 32 := 2048#32
  let v635 : BitVec 32 := Scalar.muli v606 c2048_i32_404
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_392 : BitVec 32 := 0#32
  let v608 : BitVec 1 := Scalar.cmpi .sgt v2 c0_i32_392
  let v609 : BitVec 32 := Scalar.extui v608
  let c0_i32_393 : BitVec 32 := 0#32
  let v610 : BitVec 1 := Scalar.cmpi .slt v2 c0_i32_393
  let v611 : BitVec 32 := Scalar.extui v610
  let v612 : BitVec 32 := Scalar.subi v609 v611
  let c8_i32_391 : BitVec 32 := 8#32
  let c0_i32_394 : BitVec 32 := 0#32
  let v613 : BitVec 1 := Scalar.cmpi .sgt c8_i32_391 c0_i32_394
  let v614 : BitVec 32 := Scalar.extui v613
  let c0_i32_395 : BitVec 32 := 0#32
  let v615 : BitVec 1 := Scalar.cmpi .slt c8_i32_391 c0_i32_395
  let v616 : BitVec 32 := Scalar.extui v615
  let v617 : BitVec 32 := Scalar.subi v614 v616
  let v618 : BitVec 1 := Scalar.cmpi .ne v612 v617
  let v619 : BitVec 32 := Scalar.remsi v2 c8_i32_391
  let c0_i32_396 : BitVec 32 := 0#32
  let v620 : BitVec 1 := Scalar.cmpi .ne v619 c0_i32_396
  let v621 : BitVec 1 := Scalar.andi v618 v620
  let v607 : BitVec 32 := Scalar.divsi v2 c8_i32_391
  let c1_i32_397 : BitVec 32 := 1#32
  let v622 : BitVec 32 := Scalar.subi v607 c1_i32_397
  let v623 : BitVec 32 := Scalar.select v621 v622 v607
  let c0_i32_379 : BitVec 32 := 0#32
  let v581 : BitVec 1 := Scalar.cmpi .sgt v568 c0_i32_379
  let v582 : BitVec 32 := Scalar.extui v581
  let c0_i32_380 : BitVec 32 := 0#32
  let v583 : BitVec 1 := Scalar.cmpi .slt v568 c0_i32_380
  let v584 : BitVec 32 := Scalar.extui v583
  let v585 : BitVec 32 := Scalar.subi v582 v584
  let c4_i32_378 : BitVec 32 := 4#32
  let c0_i32_381 : BitVec 32 := 0#32
  let v586 : BitVec 1 := Scalar.cmpi .sgt c4_i32_378 c0_i32_381
  let v587 : BitVec 32 := Scalar.extui v586
  let c0_i32_382 : BitVec 32 := 0#32
  let v588 : BitVec 1 := Scalar.cmpi .slt c4_i32_378 c0_i32_382
  let v589 : BitVec 32 := Scalar.extui v588
  let v590 : BitVec 32 := Scalar.subi v587 v589
  let v591 : BitVec 1 := Scalar.cmpi .ne v585 v590
  let v592 : BitVec 32 := Scalar.remsi v568 c4_i32_378
  let c0_i32_383 : BitVec 32 := 0#32
  let v593 : BitVec 1 := Scalar.cmpi .ne v592 c0_i32_383
  let v594 : BitVec 1 := Scalar.andi v591 v593
  let v580 : BitVec 32 := Scalar.divsi v568 c4_i32_378
  let c1_i32_384 : BitVec 32 := 1#32
  let v595 : BitVec 32 := Scalar.subi v580 c1_i32_384
  let v596 : BitVec 32 := Scalar.select v594 v595 v580
  let v624 : BitVec 32 := Scalar.addi v623 v596
  let c4_i32_398 : BitVec 32 := 4#32
  let c0_i32_399 : BitVec 32 := 0#32
  let v625 : BitVec 1 := Scalar.cmpi .eq c4_i32_398 c0_i32_399
  let c1_i32_400 : BitVec 32 := 1#32
  let v626 : BitVec 32 := Scalar.select v625 c1_i32_400 c4_i32_398
  let v627 : BitVec 32 := Scalar.remsi v624 v626
  let c0_i32_402 : BitVec 32 := 0#32
  let v629 : BitVec 1 := Scalar.cmpi .slt v627 c0_i32_402
  let c0_i32_403 : BitVec 32 := 0#32
  let v630 : BitVec 1 := Scalar.cmpi .slt v626 c0_i32_403
  let v631 : BitVec 1 := Scalar.xori v629 v630
  let c0_i32_401 : BitVec 32 := 0#32
  let v628 : BitVec 1 := Scalar.cmpi .ne v627 c0_i32_401
  let v632 : BitVec 1 := Scalar.andi v631 v628
  let v633 : BitVec 32 := Scalar.addi v627 v626
  let v634 : BitVec 32 := Scalar.select v632 v633 v627
  let c1024_i32_405 : BitVec 32 := 1024#32
  let v636 : BitVec 32 := Scalar.muli v634 c1024_i32_405
  ![v635.toNat, v636.toNat]
def k0_off5 (k0_t1 : Fin k0_t1_loop.trips) : Fin 1 → Nat :=
  let c0_i32_302 : BitVec 32 := 0#32
  let c1_i32_304 : BitVec 32 := 1#32
  let arg11 : BitVec 32 := Scf.iv c0_i32_302 c1_i32_304 k0_t1
  let c2_i32_323 : BitVec 32 := 2#32
  let c0_i32_324 : BitVec 32 := 0#32
  let v476 : BitVec 1 := Scalar.cmpi .eq c2_i32_323 c0_i32_324
  let c1_i32_325 : BitVec 32 := 1#32
  let v477 : BitVec 32 := Scalar.select v476 c1_i32_325 c2_i32_323
  let v478 : BitVec 32 := Scalar.remsi arg11 v477
  let c0_i32_327 : BitVec 32 := 0#32
  let v480 : BitVec 1 := Scalar.cmpi .slt v478 c0_i32_327
  let c0_i32_328 : BitVec 32 := 0#32
  let v481 : BitVec 1 := Scalar.cmpi .slt v477 c0_i32_328
  let v482 : BitVec 1 := Scalar.xori v480 v481
  let c0_i32_326 : BitVec 32 := 0#32
  let v479 : BitVec 1 := Scalar.cmpi .ne v478 c0_i32_326
  let v483 : BitVec 1 := Scalar.andi v482 v479
  let v484 : BitVec 32 := Scalar.addi v478 v477
  let v485 : BitVec 32 := Scalar.select v483 v484 v478
  ![v485.toNat]
def k0_off6 (k0_t1 : Fin k0_t1_loop.trips) : Fin 3 → Nat :=
  let c0_i32_302 : BitVec 32 := 0#32
  let c1_i32_304 : BitVec 32 := 1#32
  let arg11 : BitVec 32 := Scf.iv c0_i32_302 c1_i32_304 k0_t1
  let c2_i32_323 : BitVec 32 := 2#32
  let c0_i32_324 : BitVec 32 := 0#32
  let v476 : BitVec 1 := Scalar.cmpi .eq c2_i32_323 c0_i32_324
  let c1_i32_325 : BitVec 32 := 1#32
  let v477 : BitVec 32 := Scalar.select v476 c1_i32_325 c2_i32_323
  let v478 : BitVec 32 := Scalar.remsi arg11 v477
  let c0_i32_327 : BitVec 32 := 0#32
  let v480 : BitVec 1 := Scalar.cmpi .slt v478 c0_i32_327
  let c0_i32_328 : BitVec 32 := 0#32
  let v481 : BitVec 1 := Scalar.cmpi .slt v477 c0_i32_328
  let v482 : BitVec 1 := Scalar.xori v480 v481
  let c0_i32_326 : BitVec 32 := 0#32
  let v479 : BitVec 1 := Scalar.cmpi .ne v478 c0_i32_326
  let v483 : BitVec 1 := Scalar.andi v482 v479
  let v484 : BitVec 32 := Scalar.addi v478 v477
  let v485 : BitVec 32 := Scalar.select v483 v484 v478
  let c0_i32_358 : BitVec 32 := 0#32
  let c0_i32_359 : BitVec 32 := 0#32
  ![v485.toNat, 0, 0]
def k0_off7 (d0 : Dev nD) (k0_t1 : Fin k0_t1_loop.trips) : Fin 2 → Nat :=
  let c0_i32_302 : BitVec 32 := 0#32
  let c1_i32_304 : BitVec 32 := 1#32
  let arg11 : BitVec 32 := Scf.iv c0_i32_302 c1_i32_304 k0_t1
  let c4_i32_338 : BitVec 32 := 4#32
  let c0_i32_339 : BitVec 32 := 0#32
  let v506 : BitVec 1 := Scalar.cmpi .eq c4_i32_338 c0_i32_339
  let c1_i32_340 : BitVec 32 := 1#32
  let v507 : BitVec 32 := Scalar.select v506 c1_i32_340 c4_i32_338
  let v508 : BitVec 32 := Scalar.remsi arg11 v507
  let c0_i32_342 : BitVec 32 := 0#32
  let v510 : BitVec 1 := Scalar.cmpi .slt v508 c0_i32_342
  let c0_i32_343 : BitVec 32 := 0#32
  let v511 : BitVec 1 := Scalar.cmpi .slt v507 c0_i32_343
  let v512 : BitVec 1 := Scalar.xori v510 v511
  let c0_i32_341 : BitVec 32 := 0#32
  let v509 : BitVec 1 := Scalar.cmpi .ne v508 c0_i32_341
  let v513 : BitVec 1 := Scalar.andi v512 v509
  let v514 : BitVec 32 := Scalar.addi v508 v507
  let v515 : BitVec 32 := Scalar.select v513 v514 v508
  let c2048_i32 : BitVec 32 := 2048#32
  let v544 : BitVec 32 := Scalar.muli v515 c2048_i32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_345 : BitVec 32 := 0#32
  let v517 : BitVec 1 := Scalar.cmpi .sgt v2 c0_i32_345
  let v518 : BitVec 32 := Scalar.extui v517
  let c0_i32_346 : BitVec 32 := 0#32
  let v519 : BitVec 1 := Scalar.cmpi .slt v2 c0_i32_346
  let v520 : BitVec 32 := Scalar.extui v519
  let v521 : BitVec 32 := Scalar.subi v518 v520
  let c8_i32_344 : BitVec 32 := 8#32
  let c0_i32_347 : BitVec 32 := 0#32
  let v522 : BitVec 1 := Scalar.cmpi .sgt c8_i32_344 c0_i32_347
  let v523 : BitVec 32 := Scalar.extui v522
  let c0_i32_348 : BitVec 32 := 0#32
  let v524 : BitVec 1 := Scalar.cmpi .slt c8_i32_344 c0_i32_348
  let v525 : BitVec 32 := Scalar.extui v524
  let v526 : BitVec 32 := Scalar.subi v523 v525
  let v527 : BitVec 1 := Scalar.cmpi .ne v521 v526
  let v528 : BitVec 32 := Scalar.remsi v2 c8_i32_344
  let c0_i32_349 : BitVec 32 := 0#32
  let v529 : BitVec 1 := Scalar.cmpi .ne v528 c0_i32_349
  let v530 : BitVec 1 := Scalar.andi v527 v529
  let v516 : BitVec 32 := Scalar.divsi v2 c8_i32_344
  let c1_i32_350 : BitVec 32 := 1#32
  let v531 : BitVec 32 := Scalar.subi v516 c1_i32_350
  let v532 : BitVec 32 := Scalar.select v530 v531 v516
  let c0_i32_332 : BitVec 32 := 0#32
  let v490 : BitVec 1 := Scalar.cmpi .sgt arg11 c0_i32_332
  let v491 : BitVec 32 := Scalar.extui v490
  let c0_i32_333 : BitVec 32 := 0#32
  let v492 : BitVec 1 := Scalar.cmpi .slt arg11 c0_i32_333
  let v493 : BitVec 32 := Scalar.extui v492
  let v494 : BitVec 32 := Scalar.subi v491 v493
  let c4_i32_331 : BitVec 32 := 4#32
  let c0_i32_334 : BitVec 32 := 0#32
  let v495 : BitVec 1 := Scalar.cmpi .sgt c4_i32_331 c0_i32_334
  let v496 : BitVec 32 := Scalar.extui v495
  let c0_i32_335 : BitVec 32 := 0#32
  let v497 : BitVec 1 := Scalar.cmpi .slt c4_i32_331 c0_i32_335
  let v498 : BitVec 32 := Scalar.extui v497
  let v499 : BitVec 32 := Scalar.subi v496 v498
  let v500 : BitVec 1 := Scalar.cmpi .ne v494 v499
  let v501 : BitVec 32 := Scalar.remsi arg11 c4_i32_331
  let c0_i32_336 : BitVec 32 := 0#32
  let v502 : BitVec 1 := Scalar.cmpi .ne v501 c0_i32_336
  let v503 : BitVec 1 := Scalar.andi v500 v502
  let v489 : BitVec 32 := Scalar.divsi arg11 c4_i32_331
  let c1_i32_337 : BitVec 32 := 1#32
  let v504 : BitVec 32 := Scalar.subi v489 c1_i32_337
  let v505 : BitVec 32 := Scalar.select v503 v504 v489
  let v533 : BitVec 32 := Scalar.addi v532 v505
  let c4_i32_351 : BitVec 32 := 4#32
  let c0_i32_352 : BitVec 32 := 0#32
  let v534 : BitVec 1 := Scalar.cmpi .eq c4_i32_351 c0_i32_352
  let c1_i32_353 : BitVec 32 := 1#32
  let v535 : BitVec 32 := Scalar.select v534 c1_i32_353 c4_i32_351
  let v536 : BitVec 32 := Scalar.remsi v533 v535
  let c0_i32_355 : BitVec 32 := 0#32
  let v538 : BitVec 1 := Scalar.cmpi .slt v536 c0_i32_355
  let c0_i32_356 : BitVec 32 := 0#32
  let v539 : BitVec 1 := Scalar.cmpi .slt v535 c0_i32_356
  let v540 : BitVec 1 := Scalar.xori v538 v539
  let c0_i32_354 : BitVec 32 := 0#32
  let v537 : BitVec 1 := Scalar.cmpi .ne v536 c0_i32_354
  let v541 : BitVec 1 := Scalar.andi v540 v537
  let v542 : BitVec 32 := Scalar.addi v536 v535
  let v543 : BitVec 32 := Scalar.select v541 v542 v536
  let c1024_i32_357 : BitVec 32 := 1024#32
  let v545 : BitVec 32 := Scalar.muli v543 c1024_i32_357
  ![v544.toNat, v545.toNat]
def k0_off8 (k0_t1 : Fin k0_t1_loop.trips) : Fin 3 → Nat :=
  let c0_i32_302 : BitVec 32 := 0#32
  let c1_i32_304 : BitVec 32 := 1#32
  let arg11 : BitVec 32 := Scf.iv c0_i32_302 c1_i32_304 k0_t1
  let c2_i32_323 : BitVec 32 := 2#32
  let c0_i32_324 : BitVec 32 := 0#32
  let v476 : BitVec 1 := Scalar.cmpi .eq c2_i32_323 c0_i32_324
  let c1_i32_325 : BitVec 32 := 1#32
  let v477 : BitVec 32 := Scalar.select v476 c1_i32_325 c2_i32_323
  let v478 : BitVec 32 := Scalar.remsi arg11 v477
  let c0_i32_327 : BitVec 32 := 0#32
  let v480 : BitVec 1 := Scalar.cmpi .slt v478 c0_i32_327
  let c0_i32_328 : BitVec 32 := 0#32
  let v481 : BitVec 1 := Scalar.cmpi .slt v477 c0_i32_328
  let v482 : BitVec 1 := Scalar.xori v480 v481
  let c0_i32_326 : BitVec 32 := 0#32
  let v479 : BitVec 1 := Scalar.cmpi .ne v478 c0_i32_326
  let v483 : BitVec 1 := Scalar.andi v482 v479
  let v484 : BitVec 32 := Scalar.addi v478 v477
  let v485 : BitVec 32 := Scalar.select v483 v484 v478
  let v551 : Index := Scalar.indexCast v485
  let c0_360 : Index := 0#32
  let c0_361 : Index := 0#32
  ![v551.toNat, 0, 0]
def k0_off9 (k0_t1 : Fin k0_t1_loop.trips) : Fin 2 → Nat :=
  let c0_363 : Index := 0#32
  let c0_i32_302 : BitVec 32 := 0#32
  let c1_i32_304 : BitVec 32 := 1#32
  let arg11 : BitVec 32 := Scf.iv c0_i32_302 c1_i32_304 k0_t1
  let c4_i32_317 : BitVec 32 := 4#32
  let c0_i32_318 : BitVec 32 := 0#32
  let v466 : BitVec 1 := Scalar.cmpi .eq c4_i32_317 c0_i32_318
  let c1_i32_319 : BitVec 32 := 1#32
  let v467 : BitVec 32 := Scalar.select v466 c1_i32_319 c4_i32_317
  let v468 : BitVec 32 := Scalar.remsi arg11 v467
  let c0_i32_321 : BitVec 32 := 0#32
  let v470 : BitVec 1 := Scalar.cmpi .slt v468 c0_i32_321
  let c0_i32_322 : BitVec 32 := 0#32
  let v471 : BitVec 1 := Scalar.cmpi .slt v467 c0_i32_322
  let v472 : BitVec 1 := Scalar.xori v470 v471
  let c0_i32_320 : BitVec 32 := 0#32
  let v469 : BitVec 1 := Scalar.cmpi .ne v468 c0_i32_320
  let v473 : BitVec 1 := Scalar.andi v472 v469
  let v474 : BitVec 32 := Scalar.addi v468 v467
  let v475 : BitVec 32 := Scalar.select v473 v474 v468
  let c2048_i32_362 : BitVec 32 := 2048#32
  let v555 : BitVec 32 := Scalar.muli v475 c2048_i32_362
  let v556 : Index := Scalar.indexCast v555
  ![0, v556.toNat]
def k0_cond4 (k0_t1 : Fin k0_t1_loop.trips) : BitVec 1 :=
  let c0_i32_302 : BitVec 32 := 0#32
  let c1_i32_304 : BitVec 32 := 1#32
  let arg11 : BitVec 32 := Scf.iv c0_i32_302 c1_i32_304 k0_t1
  let c4_i32_317 : BitVec 32 := 4#32
  let c0_i32_318 : BitVec 32 := 0#32
  let v466 : BitVec 1 := Scalar.cmpi .eq c4_i32_317 c0_i32_318
  let c1_i32_319 : BitVec 32 := 1#32
  let v467 : BitVec 32 := Scalar.select v466 c1_i32_319 c4_i32_317
  let v468 : BitVec 32 := Scalar.remsi arg11 v467
  let c0_i32_321 : BitVec 32 := 0#32
  let v470 : BitVec 1 := Scalar.cmpi .slt v468 c0_i32_321
  let c0_i32_322 : BitVec 32 := 0#32
  let v471 : BitVec 1 := Scalar.cmpi .slt v467 c0_i32_322
  let v472 : BitVec 1 := Scalar.xori v470 v471
  let c0_i32_320 : BitVec 32 := 0#32
  let v469 : BitVec 1 := Scalar.cmpi .ne v468 c0_i32_320
  let v473 : BitVec 1 := Scalar.andi v472 v469
  let v474 : BitVec 32 := Scalar.addi v468 v467
  let v475 : BitVec 32 := Scalar.select v473 v474 v468
  let c3_i32_368 : BitVec 32 := 3#32
  let v565 : BitVec 1 := Scalar.cmpi .eq v475 c3_i32_368
  let v566 : BitVec 32 := Scalar.extui v565
  let c0_i32_369 : BitVec 32 := 0#32
  let v567 : BitVec 1 := Scalar.cmpi .ne v566 c0_i32_369
  v567

def k0_cond5 (d0 : Dev nD) (k0_t1 : Fin k0_t1_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_385 : BitVec 32 := 8#32
  let v599 : BitVec 32 := Scalar.muli v598 c8_i32_385
  let c0_i32_386 : BitVec 32 := 0#32
  let v600 : BitVec 32 := Scalar.addi v599 c0_i32_386
  let v602 : BitVec 1 := Scalar.cmpi .eq v600 v2
  let v603 : BitVec 32 := Scalar.extui v602
  let c0_i32_387 : BitVec 32 := 0#32
  let v604 : BitVec 1 := Scalar.cmpi .ne v603 c0_i32_387
  v604

def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v671 : BitVec 32 := Scalar.muli v2 c256_i32
  let v672 : Index := Scalar.indexCast v671
  let c0_417 : Index := 0#32
  ![v672.toNat, 0]
def k0_cond6 (d0 : Dev nD) (k0_t1 : Fin k0_t1_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_385 : BitVec 32 := 8#32
  let v599 : BitVec 32 := Scalar.muli v598 c8_i32_385
  let c0_i32_386 : BitVec 32 := 0#32
  let v600 : BitVec 32 := Scalar.addi v599 c0_i32_386
  let v605 : BitVec 1 := Scalar.cmpi .ne v600 v2
  let v606 : BitVec 32 := Scalar.extui v605
  let c0_i32_388 : BitVec 32 := 0#32
  let v607 : BitVec 1 := Scalar.cmpi .ne v606 c0_i32_388
  v607

def k0_off11 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_385 : BitVec 32 := 8#32
  let v599 : BitVec 32 := Scalar.muli v598 c8_i32_385
  let c0_i32_386 : BitVec 32 := 0#32
  let v600 : BitVec 32 := Scalar.addi v599 c0_i32_386
  let v672 : Index := Scalar.indexCast v600
  let c0_417 : Index := 0#32
  let c0_418 : Index := 0#32
  ![v672.toNat, 0, 0]
def k0_off12 (d0 : Dev nD) (k0_t1 : Fin k0_t1_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_385 : BitVec 32 := 8#32
  let v599 : BitVec 32 := Scalar.muli v598 c8_i32_385
  let c0_i32_386 : BitVec 32 := 0#32
  let v600 : BitVec 32 := Scalar.addi v599 c0_i32_386
  ![v600.toNat]
def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_421 : BitVec 32 := 0#32
  let c0_i32_422 : BitVec 32 := 0#32
  ![v2.toNat, 0, 0]
def k0_off15 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_385 : BitVec 32 := 8#32
  let v599 : BitVec 32 := Scalar.muli v598 c8_i32_385
  let c0_i32_386 : BitVec 32 := 0#32
  let v600 : BitVec 32 := Scalar.addi v599 c0_i32_386
  let c0_i32_423 : BitVec 32 := 0#32
  let c0_i32_424 : BitVec 32 := 0#32
  ![v600.toNat, 0, 0]
def k0_dev32 (d0 : Dev nD) (k0_t1 : Fin k0_t1_loop.trips) : Nat :=
  let c0_i32_420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_385 : BitVec 32 := 8#32
  let v599 : BitVec 32 := Scalar.muli v598 c8_i32_385
  let c0_i32_386 : BitVec 32 := 0#32
  let v600 : BitVec 32 := Scalar.addi v599 c0_i32_386
  let c1_i32_419 : BitVec 32 := 1#32
  let v676 : BitVec 32 := Scalar.muli v600 c1_i32_419
  let v677 : BitVec 32 := Scalar.addi c0_i32_420 v676
  v677.toNat
def k0_cond7 (d0 : Dev nD) (k0_t1 : Fin k0_t1_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_389 : BitVec 32 := 8#32
  let v608 : BitVec 32 := Scalar.muli v598 c8_i32_389
  let c1_i32_390 : BitVec 32 := 1#32
  let v609 : BitVec 32 := Scalar.addi v608 c1_i32_390
  let v611 : BitVec 1 := Scalar.cmpi .eq v609 v2
  let v612 : BitVec 32 := Scalar.extui v611
  let c0_i32_391 : BitVec 32 := 0#32
  let v613 : BitVec 1 := Scalar.cmpi .ne v612 c0_i32_391
  v613

def k0_off16 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v671 : BitVec 32 := Scalar.muli v2 c256_i32
  let v672 : Index := Scalar.indexCast v671
  let c0_417 : Index := 0#32
  ![v672.toNat, 0]
def k0_cond8 (d0 : Dev nD) (k0_t1 : Fin k0_t1_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_389 : BitVec 32 := 8#32
  let v608 : BitVec 32 := Scalar.muli v598 c8_i32_389
  let c1_i32_390 : BitVec 32 := 1#32
  let v609 : BitVec 32 := Scalar.addi v608 c1_i32_390
  let v614 : BitVec 1 := Scalar.cmpi .ne v609 v2
  let v615 : BitVec 32 := Scalar.extui v614
  let c0_i32_392 : BitVec 32 := 0#32
  let v616 : BitVec 1 := Scalar.cmpi .ne v615 c0_i32_392
  v616

def k0_off17 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_389 : BitVec 32 := 8#32
  let v608 : BitVec 32 := Scalar.muli v598 c8_i32_389
  let c1_i32_390 : BitVec 32 := 1#32
  let v609 : BitVec 32 := Scalar.addi v608 c1_i32_390
  let v672 : Index := Scalar.indexCast v609
  let c0_417 : Index := 0#32
  let c0_418 : Index := 0#32
  ![v672.toNat, 0, 0]
def k0_off18 (d0 : Dev nD) (k0_t1 : Fin k0_t1_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_389 : BitVec 32 := 8#32
  let v608 : BitVec 32 := Scalar.muli v598 c8_i32_389
  let c1_i32_390 : BitVec 32 := 1#32
  let v609 : BitVec 32 := Scalar.addi v608 c1_i32_390
  ![v609.toNat]
def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_421 : BitVec 32 := 0#32
  let c0_i32_422 : BitVec 32 := 0#32
  ![v2.toNat, 0, 0]
def k0_off21 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_389 : BitVec 32 := 8#32
  let v608 : BitVec 32 := Scalar.muli v598 c8_i32_389
  let c1_i32_390 : BitVec 32 := 1#32
  let v609 : BitVec 32 := Scalar.addi v608 c1_i32_390
  let c0_i32_423 : BitVec 32 := 0#32
  let c0_i32_424 : BitVec 32 := 0#32
  ![v609.toNat, 0, 0]
def k0_dev33 (d0 : Dev nD) (k0_t1 : Fin k0_t1_loop.trips) : Nat :=
  let c0_i32_420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_389 : BitVec 32 := 8#32
  let v608 : BitVec 32 := Scalar.muli v598 c8_i32_389
  let c1_i32_390 : BitVec 32 := 1#32
  let v609 : BitVec 32 := Scalar.addi v608 c1_i32_390
  let c1_i32_419 : BitVec 32 := 1#32
  let v676 : BitVec 32 := Scalar.muli v609 c1_i32_419
  let v677 : BitVec 32 := Scalar.addi c0_i32_420 v676
  v677.toNat
def k0_cond9 (d0 : Dev nD) (k0_t1 : Fin k0_t1_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_393 : BitVec 32 := 8#32
  let v617 : BitVec 32 := Scalar.muli v598 c8_i32_393
  let c2_i32_394 : BitVec 32 := 2#32
  let v618 : BitVec 32 := Scalar.addi v617 c2_i32_394
  let v620 : BitVec 1 := Scalar.cmpi .eq v618 v2
  let v621 : BitVec 32 := Scalar.extui v620
  let c0_i32_395 : BitVec 32 := 0#32
  let v622 : BitVec 1 := Scalar.cmpi .ne v621 c0_i32_395
  v622

def k0_off22 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v671 : BitVec 32 := Scalar.muli v2 c256_i32
  let v672 : Index := Scalar.indexCast v671
  let c0_417 : Index := 0#32
  ![v672.toNat, 0]
def k0_cond10 (d0 : Dev nD) (k0_t1 : Fin k0_t1_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_393 : BitVec 32 := 8#32
  let v617 : BitVec 32 := Scalar.muli v598 c8_i32_393
  let c2_i32_394 : BitVec 32 := 2#32
  let v618 : BitVec 32 := Scalar.addi v617 c2_i32_394
  let v623 : BitVec 1 := Scalar.cmpi .ne v618 v2
  let v624 : BitVec 32 := Scalar.extui v623
  let c0_i32_396 : BitVec 32 := 0#32
  let v625 : BitVec 1 := Scalar.cmpi .ne v624 c0_i32_396
  v625

def k0_off23 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_393 : BitVec 32 := 8#32
  let v617 : BitVec 32 := Scalar.muli v598 c8_i32_393
  let c2_i32_394 : BitVec 32 := 2#32
  let v618 : BitVec 32 := Scalar.addi v617 c2_i32_394
  let v672 : Index := Scalar.indexCast v618
  let c0_417 : Index := 0#32
  let c0_418 : Index := 0#32
  ![v672.toNat, 0, 0]
def k0_off24 (d0 : Dev nD) (k0_t1 : Fin k0_t1_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_393 : BitVec 32 := 8#32
  let v617 : BitVec 32 := Scalar.muli v598 c8_i32_393
  let c2_i32_394 : BitVec 32 := 2#32
  let v618 : BitVec 32 := Scalar.addi v617 c2_i32_394
  ![v618.toNat]
def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_421 : BitVec 32 := 0#32
  let c0_i32_422 : BitVec 32 := 0#32
  ![v2.toNat, 0, 0]
def k0_off27 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_393 : BitVec 32 := 8#32
  let v617 : BitVec 32 := Scalar.muli v598 c8_i32_393
  let c2_i32_394 : BitVec 32 := 2#32
  let v618 : BitVec 32 := Scalar.addi v617 c2_i32_394
  let c0_i32_423 : BitVec 32 := 0#32
  let c0_i32_424 : BitVec 32 := 0#32
  ![v618.toNat, 0, 0]
def k0_dev34 (d0 : Dev nD) (k0_t1 : Fin k0_t1_loop.trips) : Nat :=
  let c0_i32_420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_393 : BitVec 32 := 8#32
  let v617 : BitVec 32 := Scalar.muli v598 c8_i32_393
  let c2_i32_394 : BitVec 32 := 2#32
  let v618 : BitVec 32 := Scalar.addi v617 c2_i32_394
  let c1_i32_419 : BitVec 32 := 1#32
  let v676 : BitVec 32 := Scalar.muli v618 c1_i32_419
  let v677 : BitVec 32 := Scalar.addi c0_i32_420 v676
  v677.toNat
def k0_cond11 (d0 : Dev nD) (k0_t1 : Fin k0_t1_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_397 : BitVec 32 := 8#32
  let v626 : BitVec 32 := Scalar.muli v598 c8_i32_397
  let c3_i32_398 : BitVec 32 := 3#32
  let v627 : BitVec 32 := Scalar.addi v626 c3_i32_398
  let v629 : BitVec 1 := Scalar.cmpi .eq v627 v2
  let v630 : BitVec 32 := Scalar.extui v629
  let c0_i32_399 : BitVec 32 := 0#32
  let v631 : BitVec 1 := Scalar.cmpi .ne v630 c0_i32_399
  v631

def k0_off28 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v671 : BitVec 32 := Scalar.muli v2 c256_i32
  let v672 : Index := Scalar.indexCast v671
  let c0_417 : Index := 0#32
  ![v672.toNat, 0]
def k0_cond12 (d0 : Dev nD) (k0_t1 : Fin k0_t1_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_397 : BitVec 32 := 8#32
  let v626 : BitVec 32 := Scalar.muli v598 c8_i32_397
  let c3_i32_398 : BitVec 32 := 3#32
  let v627 : BitVec 32 := Scalar.addi v626 c3_i32_398
  let v632 : BitVec 1 := Scalar.cmpi .ne v627 v2
  let v633 : BitVec 32 := Scalar.extui v632
  let c0_i32_400 : BitVec 32 := 0#32
  let v634 : BitVec 1 := Scalar.cmpi .ne v633 c0_i32_400
  v634

def k0_off29 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_397 : BitVec 32 := 8#32
  let v626 : BitVec 32 := Scalar.muli v598 c8_i32_397
  let c3_i32_398 : BitVec 32 := 3#32
  let v627 : BitVec 32 := Scalar.addi v626 c3_i32_398
  let v672 : Index := Scalar.indexCast v627
  let c0_417 : Index := 0#32
  let c0_418 : Index := 0#32
  ![v672.toNat, 0, 0]
def k0_off30 (d0 : Dev nD) (k0_t1 : Fin k0_t1_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_397 : BitVec 32 := 8#32
  let v626 : BitVec 32 := Scalar.muli v598 c8_i32_397
  let c3_i32_398 : BitVec 32 := 3#32
  let v627 : BitVec 32 := Scalar.addi v626 c3_i32_398
  ![v627.toNat]
def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_421 : BitVec 32 := 0#32
  let c0_i32_422 : BitVec 32 := 0#32
  ![v2.toNat, 0, 0]
def k0_off33 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_397 : BitVec 32 := 8#32
  let v626 : BitVec 32 := Scalar.muli v598 c8_i32_397
  let c3_i32_398 : BitVec 32 := 3#32
  let v627 : BitVec 32 := Scalar.addi v626 c3_i32_398
  let c0_i32_423 : BitVec 32 := 0#32
  let c0_i32_424 : BitVec 32 := 0#32
  ![v627.toNat, 0, 0]
def k0_dev35 (d0 : Dev nD) (k0_t1 : Fin k0_t1_loop.trips) : Nat :=
  let c0_i32_420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_397 : BitVec 32 := 8#32
  let v626 : BitVec 32 := Scalar.muli v598 c8_i32_397
  let c3_i32_398 : BitVec 32 := 3#32
  let v627 : BitVec 32 := Scalar.addi v626 c3_i32_398
  let c1_i32_419 : BitVec 32 := 1#32
  let v676 : BitVec 32 := Scalar.muli v627 c1_i32_419
  let v677 : BitVec 32 := Scalar.addi c0_i32_420 v676
  v677.toNat
def k0_cond13 (d0 : Dev nD) (k0_t1 : Fin k0_t1_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_401 : BitVec 32 := 8#32
  let v635 : BitVec 32 := Scalar.muli v598 c8_i32_401
  let c4_i32_402 : BitVec 32 := 4#32
  let v636 : BitVec 32 := Scalar.addi v635 c4_i32_402
  let v638 : BitVec 1 := Scalar.cmpi .eq v636 v2
  let v639 : BitVec 32 := Scalar.extui v638
  let c0_i32_403 : BitVec 32 := 0#32
  let v640 : BitVec 1 := Scalar.cmpi .ne v639 c0_i32_403
  v640

def k0_off34 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v671 : BitVec 32 := Scalar.muli v2 c256_i32
  let v672 : Index := Scalar.indexCast v671
  let c0_417 : Index := 0#32
  ![v672.toNat, 0]
def k0_cond14 (d0 : Dev nD) (k0_t1 : Fin k0_t1_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_401 : BitVec 32 := 8#32
  let v635 : BitVec 32 := Scalar.muli v598 c8_i32_401
  let c4_i32_402 : BitVec 32 := 4#32
  let v636 : BitVec 32 := Scalar.addi v635 c4_i32_402
  let v641 : BitVec 1 := Scalar.cmpi .ne v636 v2
  let v642 : BitVec 32 := Scalar.extui v641
  let c0_i32_404 : BitVec 32 := 0#32
  let v643 : BitVec 1 := Scalar.cmpi .ne v642 c0_i32_404
  v643

def k0_off35 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_401 : BitVec 32 := 8#32
  let v635 : BitVec 32 := Scalar.muli v598 c8_i32_401
  let c4_i32_402 : BitVec 32 := 4#32
  let v636 : BitVec 32 := Scalar.addi v635 c4_i32_402
  let v672 : Index := Scalar.indexCast v636
  let c0_417 : Index := 0#32
  let c0_418 : Index := 0#32
  ![v672.toNat, 0, 0]
def k0_off36 (d0 : Dev nD) (k0_t1 : Fin k0_t1_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_401 : BitVec 32 := 8#32
  let v635 : BitVec 32 := Scalar.muli v598 c8_i32_401
  let c4_i32_402 : BitVec 32 := 4#32
  let v636 : BitVec 32 := Scalar.addi v635 c4_i32_402
  ![v636.toNat]
def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off38 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_421 : BitVec 32 := 0#32
  let c0_i32_422 : BitVec 32 := 0#32
  ![v2.toNat, 0, 0]
def k0_off39 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_401 : BitVec 32 := 8#32
  let v635 : BitVec 32 := Scalar.muli v598 c8_i32_401
  let c4_i32_402 : BitVec 32 := 4#32
  let v636 : BitVec 32 := Scalar.addi v635 c4_i32_402
  let c0_i32_423 : BitVec 32 := 0#32
  let c0_i32_424 : BitVec 32 := 0#32
  ![v636.toNat, 0, 0]
def k0_dev36 (d0 : Dev nD) (k0_t1 : Fin k0_t1_loop.trips) : Nat :=
  let c0_i32_420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_401 : BitVec 32 := 8#32
  let v635 : BitVec 32 := Scalar.muli v598 c8_i32_401
  let c4_i32_402 : BitVec 32 := 4#32
  let v636 : BitVec 32 := Scalar.addi v635 c4_i32_402
  let c1_i32_419 : BitVec 32 := 1#32
  let v676 : BitVec 32 := Scalar.muli v636 c1_i32_419
  let v677 : BitVec 32 := Scalar.addi c0_i32_420 v676
  v677.toNat
def k0_cond15 (d0 : Dev nD) (k0_t1 : Fin k0_t1_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_405 : BitVec 32 := 8#32
  let v644 : BitVec 32 := Scalar.muli v598 c8_i32_405
  let c5_i32_406 : BitVec 32 := 5#32
  let v645 : BitVec 32 := Scalar.addi v644 c5_i32_406
  let v647 : BitVec 1 := Scalar.cmpi .eq v645 v2
  let v648 : BitVec 32 := Scalar.extui v647
  let c0_i32_407 : BitVec 32 := 0#32
  let v649 : BitVec 1 := Scalar.cmpi .ne v648 c0_i32_407
  v649

def k0_off40 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v671 : BitVec 32 := Scalar.muli v2 c256_i32
  let v672 : Index := Scalar.indexCast v671
  let c0_417 : Index := 0#32
  ![v672.toNat, 0]
def k0_cond16 (d0 : Dev nD) (k0_t1 : Fin k0_t1_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_405 : BitVec 32 := 8#32
  let v644 : BitVec 32 := Scalar.muli v598 c8_i32_405
  let c5_i32_406 : BitVec 32 := 5#32
  let v645 : BitVec 32 := Scalar.addi v644 c5_i32_406
  let v650 : BitVec 1 := Scalar.cmpi .ne v645 v2
  let v651 : BitVec 32 := Scalar.extui v650
  let c0_i32_408 : BitVec 32 := 0#32
  let v652 : BitVec 1 := Scalar.cmpi .ne v651 c0_i32_408
  v652

def k0_off41 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_405 : BitVec 32 := 8#32
  let v644 : BitVec 32 := Scalar.muli v598 c8_i32_405
  let c5_i32_406 : BitVec 32 := 5#32
  let v645 : BitVec 32 := Scalar.addi v644 c5_i32_406
  let v672 : Index := Scalar.indexCast v645
  let c0_417 : Index := 0#32
  let c0_418 : Index := 0#32
  ![v672.toNat, 0, 0]
def k0_off42 (d0 : Dev nD) (k0_t1 : Fin k0_t1_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_405 : BitVec 32 := 8#32
  let v644 : BitVec 32 := Scalar.muli v598 c8_i32_405
  let c5_i32_406 : BitVec 32 := 5#32
  let v645 : BitVec 32 := Scalar.addi v644 c5_i32_406
  ![v645.toNat]
def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off44 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_421 : BitVec 32 := 0#32
  let c0_i32_422 : BitVec 32 := 0#32
  ![v2.toNat, 0, 0]
def k0_off45 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_405 : BitVec 32 := 8#32
  let v644 : BitVec 32 := Scalar.muli v598 c8_i32_405
  let c5_i32_406 : BitVec 32 := 5#32
  let v645 : BitVec 32 := Scalar.addi v644 c5_i32_406
  let c0_i32_423 : BitVec 32 := 0#32
  let c0_i32_424 : BitVec 32 := 0#32
  ![v645.toNat, 0, 0]
def k0_dev37 (d0 : Dev nD) (k0_t1 : Fin k0_t1_loop.trips) : Nat :=
  let c0_i32_420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_405 : BitVec 32 := 8#32
  let v644 : BitVec 32 := Scalar.muli v598 c8_i32_405
  let c5_i32_406 : BitVec 32 := 5#32
  let v645 : BitVec 32 := Scalar.addi v644 c5_i32_406
  let c1_i32_419 : BitVec 32 := 1#32
  let v676 : BitVec 32 := Scalar.muli v645 c1_i32_419
  let v677 : BitVec 32 := Scalar.addi c0_i32_420 v676
  v677.toNat
def k0_cond17 (d0 : Dev nD) (k0_t1 : Fin k0_t1_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_409 : BitVec 32 := 8#32
  let v653 : BitVec 32 := Scalar.muli v598 c8_i32_409
  let c6_i32_410 : BitVec 32 := 6#32
  let v654 : BitVec 32 := Scalar.addi v653 c6_i32_410
  let v656 : BitVec 1 := Scalar.cmpi .eq v654 v2
  let v657 : BitVec 32 := Scalar.extui v656
  let c0_i32_411 : BitVec 32 := 0#32
  let v658 : BitVec 1 := Scalar.cmpi .ne v657 c0_i32_411
  v658

def k0_off46 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v671 : BitVec 32 := Scalar.muli v2 c256_i32
  let v672 : Index := Scalar.indexCast v671
  let c0_417 : Index := 0#32
  ![v672.toNat, 0]
def k0_cond18 (d0 : Dev nD) (k0_t1 : Fin k0_t1_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_409 : BitVec 32 := 8#32
  let v653 : BitVec 32 := Scalar.muli v598 c8_i32_409
  let c6_i32_410 : BitVec 32 := 6#32
  let v654 : BitVec 32 := Scalar.addi v653 c6_i32_410
  let v659 : BitVec 1 := Scalar.cmpi .ne v654 v2
  let v660 : BitVec 32 := Scalar.extui v659
  let c0_i32_412 : BitVec 32 := 0#32
  let v661 : BitVec 1 := Scalar.cmpi .ne v660 c0_i32_412
  v661

def k0_off47 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_409 : BitVec 32 := 8#32
  let v653 : BitVec 32 := Scalar.muli v598 c8_i32_409
  let c6_i32_410 : BitVec 32 := 6#32
  let v654 : BitVec 32 := Scalar.addi v653 c6_i32_410
  let v672 : Index := Scalar.indexCast v654
  let c0_417 : Index := 0#32
  let c0_418 : Index := 0#32
  ![v672.toNat, 0, 0]
def k0_off48 (d0 : Dev nD) (k0_t1 : Fin k0_t1_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_409 : BitVec 32 := 8#32
  let v653 : BitVec 32 := Scalar.muli v598 c8_i32_409
  let c6_i32_410 : BitVec 32 := 6#32
  let v654 : BitVec 32 := Scalar.addi v653 c6_i32_410
  ![v654.toNat]
def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off50 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_421 : BitVec 32 := 0#32
  let c0_i32_422 : BitVec 32 := 0#32
  ![v2.toNat, 0, 0]
def k0_off51 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_409 : BitVec 32 := 8#32
  let v653 : BitVec 32 := Scalar.muli v598 c8_i32_409
  let c6_i32_410 : BitVec 32 := 6#32
  let v654 : BitVec 32 := Scalar.addi v653 c6_i32_410
  let c0_i32_423 : BitVec 32 := 0#32
  let c0_i32_424 : BitVec 32 := 0#32
  ![v654.toNat, 0, 0]
def k0_dev38 (d0 : Dev nD) (k0_t1 : Fin k0_t1_loop.trips) : Nat :=
  let c0_i32_420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_409 : BitVec 32 := 8#32
  let v653 : BitVec 32 := Scalar.muli v598 c8_i32_409
  let c6_i32_410 : BitVec 32 := 6#32
  let v654 : BitVec 32 := Scalar.addi v653 c6_i32_410
  let c1_i32_419 : BitVec 32 := 1#32
  let v676 : BitVec 32 := Scalar.muli v654 c1_i32_419
  let v677 : BitVec 32 := Scalar.addi c0_i32_420 v676
  v677.toNat
def k0_cond19 (d0 : Dev nD) (k0_t1 : Fin k0_t1_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_413 : BitVec 32 := 8#32
  let v662 : BitVec 32 := Scalar.muli v598 c8_i32_413
  let c7_i32_414 : BitVec 32 := 7#32
  let v663 : BitVec 32 := Scalar.addi v662 c7_i32_414
  let v665 : BitVec 1 := Scalar.cmpi .eq v663 v2
  let v666 : BitVec 32 := Scalar.extui v665
  let c0_i32_415 : BitVec 32 := 0#32
  let v667 : BitVec 1 := Scalar.cmpi .ne v666 c0_i32_415
  v667

def k0_off52 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v671 : BitVec 32 := Scalar.muli v2 c256_i32
  let v672 : Index := Scalar.indexCast v671
  let c0_417 : Index := 0#32
  ![v672.toNat, 0]
def k0_cond20 (d0 : Dev nD) (k0_t1 : Fin k0_t1_loop.trips) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_413 : BitVec 32 := 8#32
  let v662 : BitVec 32 := Scalar.muli v598 c8_i32_413
  let c7_i32_414 : BitVec 32 := 7#32
  let v663 : BitVec 32 := Scalar.addi v662 c7_i32_414
  let v668 : BitVec 1 := Scalar.cmpi .ne v663 v2
  let v669 : BitVec 32 := Scalar.extui v668
  let c0_i32_416 : BitVec 32 := 0#32
  let v670 : BitVec 1 := Scalar.cmpi .ne v669 c0_i32_416
  v670

def k0_off53 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_413 : BitVec 32 := 8#32
  let v662 : BitVec 32 := Scalar.muli v598 c8_i32_413
  let c7_i32_414 : BitVec 32 := 7#32
  let v663 : BitVec 32 := Scalar.addi v662 c7_i32_414
  let v672 : Index := Scalar.indexCast v663
  let c0_417 : Index := 0#32
  let c0_418 : Index := 0#32
  ![v672.toNat, 0, 0]
def k0_off54 (d0 : Dev nD) (k0_t1 : Fin k0_t1_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_413 : BitVec 32 := 8#32
  let v662 : BitVec 32 := Scalar.muli v598 c8_i32_413
  let c7_i32_414 : BitVec 32 := 7#32
  let v663 : BitVec 32 := Scalar.addi v662 c7_i32_414
  ![v663.toNat]
def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off56 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_421 : BitVec 32 := 0#32
  let c0_i32_422 : BitVec 32 := 0#32
  ![v2.toNat, 0, 0]
def k0_off57 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_413 : BitVec 32 := 8#32
  let v662 : BitVec 32 := Scalar.muli v598 c8_i32_413
  let c7_i32_414 : BitVec 32 := 7#32
  let v663 : BitVec 32 := Scalar.addi v662 c7_i32_414
  let c0_i32_423 : BitVec 32 := 0#32
  let c0_i32_424 : BitVec 32 := 0#32
  ![v663.toNat, 0, 0]
def k0_dev39 (d0 : Dev nD) (k0_t1 : Fin k0_t1_loop.trips) : Nat :=
  let c0_i32_420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_373 : BitVec 32 := 0#32
  let v572 : BitVec 1 := Scalar.cmpi .sgt v2 c0_i32_373
  let v573 : BitVec 32 := Scalar.extui v572
  let c0_i32_374 : BitVec 32 := 0#32
  let v574 : BitVec 1 := Scalar.cmpi .slt v2 c0_i32_374
  let v575 : BitVec 32 := Scalar.extui v574
  let v576 : BitVec 32 := Scalar.subi v573 v575
  let c8_i32_372 : BitVec 32 := 8#32
  let c0_i32_375 : BitVec 32 := 0#32
  let v577 : BitVec 1 := Scalar.cmpi .sgt c8_i32_372 c0_i32_375
  let v578 : BitVec 32 := Scalar.extui v577
  let c0_i32_376 : BitVec 32 := 0#32
  let v579 : BitVec 1 := Scalar.cmpi .slt c8_i32_372 c0_i32_376
  let v580 : BitVec 32 := Scalar.extui v579
  let v581 : BitVec 32 := Scalar.subi v578 v580
  let v582 : BitVec 1 := Scalar.cmpi .ne v576 v581
  let v583 : BitVec 32 := Scalar.remsi v2 c8_i32_372
  let c0_i32_377 : BitVec 32 := 0#32
  let v584 : BitVec 1 := Scalar.cmpi .ne v583 c0_i32_377
  let v585 : BitVec 1 := Scalar.andi v582 v584
  let v571 : BitVec 32 := Scalar.divsi v2 c8_i32_372
  let c1_i32_378 : BitVec 32 := 1#32
  let v586 : BitVec 32 := Scalar.subi v571 c1_i32_378
  let v587 : BitVec 32 := Scalar.select v585 v586 v571
  let c0_i32_302 : BitVec 32 := 0#32
  let c1_i32_304 : BitVec 32 := 1#32
  let arg11 : BitVec 32 := Scf.iv c0_i32_302 c1_i32_304 k0_t1
  let c0_i32_311 : BitVec 32 := 0#32
  let v450 : BitVec 1 := Scalar.cmpi .sgt arg11 c0_i32_311
  let v451 : BitVec 32 := Scalar.extui v450
  let c0_i32_312 : BitVec 32 := 0#32
  let v452 : BitVec 1 := Scalar.cmpi .slt arg11 c0_i32_312
  let v453 : BitVec 32 := Scalar.extui v452
  let v454 : BitVec 32 := Scalar.subi v451 v453
  let c4_i32_310 : BitVec 32 := 4#32
  let c0_i32_313 : BitVec 32 := 0#32
  let v455 : BitVec 1 := Scalar.cmpi .sgt c4_i32_310 c0_i32_313
  let v456 : BitVec 32 := Scalar.extui v455
  let c0_i32_314 : BitVec 32 := 0#32
  let v457 : BitVec 1 := Scalar.cmpi .slt c4_i32_310 c0_i32_314
  let v458 : BitVec 32 := Scalar.extui v457
  let v459 : BitVec 32 := Scalar.subi v456 v458
  let v460 : BitVec 1 := Scalar.cmpi .ne v454 v459
  let v461 : BitVec 32 := Scalar.remsi arg11 c4_i32_310
  let c0_i32_315 : BitVec 32 := 0#32
  let v462 : BitVec 1 := Scalar.cmpi .ne v461 c0_i32_315
  let v463 : BitVec 1 := Scalar.andi v460 v462
  let v449 : BitVec 32 := Scalar.divsi arg11 c4_i32_310
  let c1_i32_316 : BitVec 32 := 1#32
  let v464 : BitVec 32 := Scalar.subi v449 c1_i32_316
  let v465 : BitVec 32 := Scalar.select v463 v464 v449
  let v588 : BitVec 32 := Scalar.addi v587 v465
  let c4_i32_379 : BitVec 32 := 4#32
  let c0_i32_380 : BitVec 32 := 0#32
  let v589 : BitVec 1 := Scalar.cmpi .eq c4_i32_379 c0_i32_380
  let c1_i32_381 : BitVec 32 := 1#32
  let v590 : BitVec 32 := Scalar.select v589 c1_i32_381 c4_i32_379
  let v591 : BitVec 32 := Scalar.remsi v588 v590
  let c0_i32_383 : BitVec 32 := 0#32
  let v593 : BitVec 1 := Scalar.cmpi .slt v591 c0_i32_383
  let c0_i32_384 : BitVec 32 := 0#32
  let v594 : BitVec 1 := Scalar.cmpi .slt v590 c0_i32_384
  let v595 : BitVec 1 := Scalar.xori v593 v594
  let c0_i32_382 : BitVec 32 := 0#32
  let v592 : BitVec 1 := Scalar.cmpi .ne v591 c0_i32_382
  let v596 : BitVec 1 := Scalar.andi v595 v592
  let v597 : BitVec 32 := Scalar.addi v591 v590
  let v598 : BitVec 32 := Scalar.select v596 v597 v591
  let c8_i32_413 : BitVec 32 := 8#32
  let v662 : BitVec 32 := Scalar.muli v598 c8_i32_413
  let c7_i32_414 : BitVec 32 := 7#32
  let v663 : BitVec 32 := Scalar.addi v662 c7_i32_414
  let c1_i32_419 : BitVec 32 := 1#32
  let v676 : BitVec 32 := Scalar.muli v663 c1_i32_419
  let v677 : BitVec 32 := Scalar.addi c0_i32_420 v676
  v677.toNat
@[reducible] def k0_t2_loop : Scf.Loop 32 :=
  let c1_i32_306 : BitVec 32 := 1#32
  let c31_i32_307 : BitVec 32 := 31#32
  let v448 : BitVec 32 := Scalar.addi c1_i32_306 c31_i32_307
  let c1_i32_308 : BitVec 32 := 1#32
  ⟨c1_i32_306, v448, c1_i32_308⟩
def k0_off58 (d0 : Dev nD) (k0_t2 : Fin k0_t2_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_306 : BitVec 32 := 1#32
  let c1_i32_308 : BitVec 32 := 1#32
  let arg11 : BitVec 32 := Scf.iv c1_i32_306 c1_i32_308 k0_t2
  let v449 : BitVec 32 := Scalar.subi v2 arg11
  let c32_i32_310 : BitVec 32 := 32#32
  let c0_i32_311 : BitVec 32 := 0#32
  let v450 : BitVec 1 := Scalar.cmpi .eq c32_i32_310 c0_i32_311
  let c1_i32_312 : BitVec 32 := 1#32
  let v451 : BitVec 32 := Scalar.select v450 c1_i32_312 c32_i32_310
  let v452 : BitVec 32 := Scalar.remsi v449 v451
  let c0_i32_314 : BitVec 32 := 0#32
  let v454 : BitVec 1 := Scalar.cmpi .slt v452 c0_i32_314
  let c0_i32_315 : BitVec 32 := 0#32
  let v455 : BitVec 1 := Scalar.cmpi .slt v451 c0_i32_315
  let v456 : BitVec 1 := Scalar.xori v454 v455
  let c0_i32_313 : BitVec 32 := 0#32
  let v453 : BitVec 1 := Scalar.cmpi .ne v452 c0_i32_313
  let v457 : BitVec 1 := Scalar.andi v456 v453
  let v458 : BitVec 32 := Scalar.addi v452 v451
  let v459 : BitVec 32 := Scalar.select v457 v458 v452
  ![v459.toNat]
def k0_off59 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_306 : BitVec 32 := 1#32
  let c1_i32_308 : BitVec 32 := 1#32
  let arg11 : BitVec 32 := Scf.iv c1_i32_306 c1_i32_308 k0_t2
  let v449 : BitVec 32 := Scalar.subi v2 arg11
  let c32_i32_310 : BitVec 32 := 32#32
  let c0_i32_311 : BitVec 32 := 0#32
  let v450 : BitVec 1 := Scalar.cmpi .eq c32_i32_310 c0_i32_311
  let c1_i32_312 : BitVec 32 := 1#32
  let v451 : BitVec 32 := Scalar.select v450 c1_i32_312 c32_i32_310
  let v452 : BitVec 32 := Scalar.remsi v449 v451
  let c0_i32_314 : BitVec 32 := 0#32
  let v454 : BitVec 1 := Scalar.cmpi .slt v452 c0_i32_314
  let c0_i32_315 : BitVec 32 := 0#32
  let v455 : BitVec 1 := Scalar.cmpi .slt v451 c0_i32_315
  let v456 : BitVec 1 := Scalar.xori v454 v455
  let c0_i32_313 : BitVec 32 := 0#32
  let v453 : BitVec 1 := Scalar.cmpi .ne v452 c0_i32_313
  let v457 : BitVec 1 := Scalar.andi v456 v453
  let v458 : BitVec 32 := Scalar.addi v452 v451
  let v459 : BitVec 32 := Scalar.select v457 v458 v452
  let c0_i32_324 : BitVec 32 := 0#32
  let c0_i32_325 : BitVec 32 := 0#32
  ![v459.toNat, 0, 0]
def k0_off60 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_306 : BitVec 32 := 1#32
  let c1_i32_308 : BitVec 32 := 1#32
  let arg11 : BitVec 32 := Scf.iv c1_i32_306 c1_i32_308 k0_t2
  let v460 : BitVec 32 := Scalar.addi v2 arg11
  let c32_i32_316 : BitVec 32 := 32#32
  let c0_i32_317 : BitVec 32 := 0#32
  let v461 : BitVec 1 := Scalar.cmpi .eq c32_i32_316 c0_i32_317
  let c1_i32_318 : BitVec 32 := 1#32
  let v462 : BitVec 32 := Scalar.select v461 c1_i32_318 c32_i32_316
  let v463 : BitVec 32 := Scalar.remsi v460 v462
  let c0_i32_320 : BitVec 32 := 0#32
  let v465 : BitVec 1 := Scalar.cmpi .slt v463 c0_i32_320
  let c0_i32_321 : BitVec 32 := 0#32
  let v466 : BitVec 1 := Scalar.cmpi .slt v462 c0_i32_321
  let v467 : BitVec 1 := Scalar.xori v465 v466
  let c0_i32_319 : BitVec 32 := 0#32
  let v464 : BitVec 1 := Scalar.cmpi .ne v463 c0_i32_319
  let v468 : BitVec 1 := Scalar.andi v467 v464
  let v469 : BitVec 32 := Scalar.addi v463 v462
  let v470 : BitVec 32 := Scalar.select v468 v469 v463
  let c0_i32_326 : BitVec 32 := 0#32
  let c0_i32_327 : BitVec 32 := 0#32
  ![v470.toNat, 0, 0]
def k0_off61 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_306 : BitVec 32 := 1#32
  let c1_i32_308 : BitVec 32 := 1#32
  let arg11 : BitVec 32 := Scf.iv c1_i32_306 c1_i32_308 k0_t2
  let v449 : BitVec 32 := Scalar.subi v2 arg11
  let c32_i32_310 : BitVec 32 := 32#32
  let c0_i32_311 : BitVec 32 := 0#32
  let v450 : BitVec 1 := Scalar.cmpi .eq c32_i32_310 c0_i32_311
  let c1_i32_312 : BitVec 32 := 1#32
  let v451 : BitVec 32 := Scalar.select v450 c1_i32_312 c32_i32_310
  let v452 : BitVec 32 := Scalar.remsi v449 v451
  let c0_i32_314 : BitVec 32 := 0#32
  let v454 : BitVec 1 := Scalar.cmpi .slt v452 c0_i32_314
  let c0_i32_315 : BitVec 32 := 0#32
  let v455 : BitVec 1 := Scalar.cmpi .slt v451 c0_i32_315
  let v456 : BitVec 1 := Scalar.xori v454 v455
  let c0_i32_313 : BitVec 32 := 0#32
  let v453 : BitVec 1 := Scalar.cmpi .ne v452 c0_i32_313
  let v457 : BitVec 1 := Scalar.andi v456 v453
  let v458 : BitVec 32 := Scalar.addi v452 v451
  let v459 : BitVec 32 := Scalar.select v457 v458 v452
  let v479 : Index := Scalar.indexCast v459
  let c0_328 : Index := 0#32
  let c0_329 : Index := 0#32
  ![v479.toNat, 0, 0]
def k0_off62 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_306 : BitVec 32 := 1#32
  let c1_i32_308 : BitVec 32 := 1#32
  let arg11 : BitVec 32 := Scf.iv c1_i32_306 c1_i32_308 k0_t2
  let v449 : BitVec 32 := Scalar.subi v2 arg11
  let c32_i32_310 : BitVec 32 := 32#32
  let c0_i32_311 : BitVec 32 := 0#32
  let v450 : BitVec 1 := Scalar.cmpi .eq c32_i32_310 c0_i32_311
  let c1_i32_312 : BitVec 32 := 1#32
  let v451 : BitVec 32 := Scalar.select v450 c1_i32_312 c32_i32_310
  let v452 : BitVec 32 := Scalar.remsi v449 v451
  let c0_i32_314 : BitVec 32 := 0#32
  let v454 : BitVec 1 := Scalar.cmpi .slt v452 c0_i32_314
  let c0_i32_315 : BitVec 32 := 0#32
  let v455 : BitVec 1 := Scalar.cmpi .slt v451 c0_i32_315
  let v456 : BitVec 1 := Scalar.xori v454 v455
  let c0_i32_313 : BitVec 32 := 0#32
  let v453 : BitVec 1 := Scalar.cmpi .ne v452 c0_i32_313
  let v457 : BitVec 1 := Scalar.andi v456 v453
  let v458 : BitVec 32 := Scalar.addi v452 v451
  let v459 : BitVec 32 := Scalar.select v457 v458 v452
  let c256_i32 : BitVec 32 := 256#32
  let v483 : BitVec 32 := Scalar.muli v459 c256_i32
  let v484 : Index := Scalar.indexCast v483
  let c0_330 : Index := 0#32
  ![v484.toNat, 0]
def k0_off63 (d0 : Dev nD) (k0_t2 : Fin k0_t2_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_306 : BitVec 32 := 1#32
  let c1_i32_308 : BitVec 32 := 1#32
  let arg11 : BitVec 32 := Scf.iv c1_i32_306 c1_i32_308 k0_t2
  let v460 : BitVec 32 := Scalar.addi v2 arg11
  let c32_i32_316 : BitVec 32 := 32#32
  let c0_i32_317 : BitVec 32 := 0#32
  let v461 : BitVec 1 := Scalar.cmpi .eq c32_i32_316 c0_i32_317
  let c1_i32_318 : BitVec 32 := 1#32
  let v462 : BitVec 32 := Scalar.select v461 c1_i32_318 c32_i32_316
  let v463 : BitVec 32 := Scalar.remsi v460 v462
  let c0_i32_320 : BitVec 32 := 0#32
  let v465 : BitVec 1 := Scalar.cmpi .slt v463 c0_i32_320
  let c0_i32_321 : BitVec 32 := 0#32
  let v466 : BitVec 1 := Scalar.cmpi .slt v462 c0_i32_321
  let v467 : BitVec 1 := Scalar.xori v465 v466
  let c0_i32_319 : BitVec 32 := 0#32
  let v464 : BitVec 1 := Scalar.cmpi .ne v463 c0_i32_319
  let v468 : BitVec 1 := Scalar.andi v467 v464
  let v469 : BitVec 32 := Scalar.addi v463 v462
  let v470 : BitVec 32 := Scalar.select v468 v469 v463
  ![v470.toNat]
abbrev stage0_0 : Fin 1 → Memref sig .tc .vmem S256x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.Blocks.lean ====
/- What the buffers of the fused product and all-to-all hold, as functions of the memory at launch: the blocks of `w`
   that are fetched, the partial sums, the activated tile of each column group, the blocks sent, and the result. The
   float values are arbitrary. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pointwise.Index
public import Idealize.ShloMosaic.Lib.Tactic

@[expose] public section

noncomputable section

namespace Cert.KernelIdeal.A2A

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ)

/-! ## The inputs -/

/-- Device `c`'s rows of `x`. -/
def xArr (c : Dev nD) : Vec F S256x8192 .f32 := m ((c : Thread nD τ).loc main_arg0)
/-- Device `c`'s copy of `w`. -/
def wArr (c : Dev nD) : Vec F S8192x4096 .f32 := m ((c : Thread nD τ).loc main_arg1)

/-! ## The product, group of columns by group -/

/-- Rows `2048 kc ..` and columns `1024 g ..` of `w`. -/
def wRect (g kc : Fin 4) : Rect S8192x4096 := Rect.unit (s := S8192x4096) ![2048 * kc.val, 1024 * g.val] S2048x1024.size
  (fun a => by
    have h1 := kc.isLt; have h2 := g.isLt
    match a with
    | ⟨0, _⟩ => show 2048 * kc.val + 2048 ≤ 8192; omega
    | ⟨1, _⟩ => show 1024 * g.val + 1024 ≤ 4096; omega)

/-- Columns `2048 kc ..` of a block of `x`. -/
def xRect (kc : Fin 4) : Rect S256x8192 := Rect.unit (s := S256x8192) ![0, 2048 * kc.val] S256x2048.size
  (fun a => by
    have h1 := kc.isLt
    match a with
    | ⟨0, _⟩ => show 0 + 256 ≤ 256; omega
    | ⟨1, _⟩ => show 2048 * kc.val + 2048 ≤ 8192; omega)

/-- The block of `w` a fetch brings. -/
def wBlk (c : Dev nD) (g kc : Fin 4) : Vec F S2048x1024 .f32 := fun i => wArr m c ((wRect g kc).emb i)
/-- The same with the leading axis of extent one it is read with. -/
def wBlk1 (c : Dev nD) (g kc : Fin 4) : Vec F S1x2048x1024 .f32 := fun i => wBlk m c g kc (ix2 (n0 := 2048) (n1 := 1024) (i 1) (i 2))
/-- The block of `x` it is multiplied with. -/
def xBlk (c : Dev nD) (kc : Fin 4) : Vec F S256x2048 .bf16 := fun i => k0_pay14 (xArr m c) ((xRect kc).emb i)

/-- The accumulator once the first `n + 1` blocks of column group `g` are in it. -/
def accAt (c : Dev nD) (g : Fin 4) : ℕ → Vec F S256x1024 .f32
  | 0 => k0_pay12 (wBlk1 m c g 0) (xBlk m c 0)
  | n + 1 => k0_pay15 (k0_pay11 (wBlk1 m c g (Fin.ofNat 4 (n + 1))) (xBlk m c (Fin.ofNat 4 (n + 1)))) (accAt c g n)

/-- The activated tile of column group `g`. -/
def tile (c : Dev nD) (g : Fin 4) : Vec F S256x1024 .f32 := k0_pay1 (accAt m c g 3)

theorem slices_col (j : Fin 8) : S256x1024.Slices ![0, 128 * j.val] S256x128 := by revert j; decide

/-- Columns `128 j ..` of a tile. -/
def cols (y : Vec F S256x1024 .f32) (j : Fin 8) : Vec F S256x128 .f32 := extractStridedSlice S256x128 ![0, 128 * j.val] y (slices_col j)

/-- A block as it is sent: rounded, with a leading axis of extent one. -/
def packed (y : Vec F S256x128 .f32) : Vec F S1x256x128 .bf16 := k0_pay3 y

/-- The group of peer `t`, and its place in the group. -/
def gOf (t : Dev nD) : Fin 4 := ⟨t.val / 8, by have := t.isLt; have : t.val < 32 := this; omega⟩
def jOf (t : Dev nD) : Fin 8 := ⟨t.val % 8, by omega⟩

/-- The columns of device `c`'s rows that belong to device `t`. -/
def blkFor (c t : Dev nD) : Vec F S256x128 .f32 := cols (tile m c (gOf t)) (jOf t)
/-- What device `c` sends to device `t`. -/
def sent (c t : Dev nD) : Vec F S1x256x128 .bf16 := packed (blkFor m c t)
/-- What device `c` ends with in the rows of device `s`. -/
def outBlk (c s : Dev nD) : Vec F S256x128 .f32 := if s = c then blkFor m c c else k0_pay13 (sent m s c)

/-! ## The buffers -/

/-- The device whose rows row `i` of a result belongs to. -/
def rowDev (i : S8192x128.Idx) : Dev nD := ⟨(i 0).val / 256, by
  have h : (i 0).val < 8192 := (i 0).isLt
  show _ < 32; omega⟩

/-- The result on device `c`. -/
def outArr (c : Dev nD) : Vec F S8192x128 .f32 := fun i =>
  outBlk m c (rowDev i) (ix2 (n0 := 256) (n1 := 128) ⟨(i 0).val % 256, Nat.mod_lt _ (by decide)⟩ (i 1))

/-- The send buffer of device `c` where it is written. -/
def sendArr (c : Dev nD) : Vec F S32x256x128 .bf16 := fun i => sent m c (i 0) (ix3 (n0 := 1) (n1 := 256) (n2 := 128) 0 (i 1) (i 2))
/-- The receive buffer of device `c` where it has landed. -/
def recvArr (c : Dev nD) : Vec F S32x256x128 .bf16 := fun i => sent m (i 0) c (ix3 (n0 := 1) (n1 := 256) (n2 := 128) 0 (i 1) (i 2))
/-- The slot of the weights' buffer that a block of `w` is fetched into. -/
def wbufArr (c : Dev nD) (g kc : Fin 4) : Vec F S2x2048x1024 .f32 := fun i => wBlk m c g kc (ix2 (n0 := 2048) (n1 := 1024) (i 1) (i 2))

/-! ## The kernel's expressions for the blocks are the ones above -/

section Pays
variable (v : Vec F S256x1024 .f32)
omit m
theorem pay2_eq : k0_pay2 v = cols (k0_pay1 v) 0 := rfl
theorem pay3_eq : k0_pay3 (k0_pay2 v) = packed (cols (k0_pay1 v) 0) := rfl
theorem pay4_eq : k0_pay4 v = cols v 1 := rfl
theorem pay5_eq : k0_pay5 v = packed (cols v 1) := rfl
theorem pay6_eq : k0_pay6 v = cols v 2 := rfl
theorem pay7_eq : k0_pay7 v = packed (cols v 2) := rfl
theorem pay8_eq : k0_pay8 v = cols v 3 := rfl
theorem pay9_eq : k0_pay9 v = packed (cols v 3) := rfl
theorem pay10_eq : k0_pay10 v = cols v 4 := rfl
theorem pay16_eq : k0_pay16 (k0_pay10 v) = packed (cols v 4) := rfl
theorem pay17_eq : k0_pay17 v = cols v 5 := rfl
theorem pay18_eq : k0_pay18 v = packed (cols v 5) := rfl
theorem pay19_eq : k0_pay19 v = cols v 6 := rfl
theorem pay20_eq : k0_pay20 v = packed (cols v 6) := rfl
theorem pay21_eq : k0_pay21 v = cols v 7 := rfl
theorem pay22_eq : k0_pay22 v = packed (cols v 7) := rfl
end Pays

end Cert.KernelIdeal.A2A

end
-- ==== Proof.Views.lean ====
/- The parts of the buffers that the transfers, loads and stores of the kernel go through: which elements each touches,
   what it reads and what it writes there. -/
module

public import proofs.«01_k».proof.Proof.Blocks
public import Idealize.ShloMosaic.Lib.ValueLayout
public import Idealize.ShloMosaic.Lib.Pipeline.ValueKit.Geometry

@[expose] public section

noncomputable section

namespace Cert.KernelIdeal.A2A

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ)

/-! ## The buffers, whole -/

abbrev xM : Memref sig .tc .vmem S256x8192 .f32 := Memref.whole cc0_stg0_0
abbrev wM : Memref sig .tc .hbm S8192x4096 .f32 := Memref.whole main_arg1
abbrev oM : Memref sig .tc .vmem S8192x128 .f32 := Memref.whole cc0_stg1_0
abbrev xbM : Memref sig .tc .vmem S256x8192 .bf16 := Memref.whole cc0_scratch0
abbrev wbM : Memref sig .tc .vmem S2x2048x1024 .f32 := Memref.whole cc0_scratch1
abbrev accM : Memref sig .tc .vmem S256x1024 .f32 := Memref.whole cc0_scratch2
abbrev sbM : Memref sig .tc .vmem S32x256x128 .bf16 := Memref.whole cc0_scratch3
abbrev rbM : Memref sig .tc .vmem S32x256x128 .bf16 := Memref.whole cc0_scratch4

/-! ## The elements -/

/-- Slot `t` of a send or receive buffer. -/
def slot (t : Dev nD) : Finset S32x256x128.Idx := Finset.univ.filter fun i => (i 0).val = t.val
/-- Slot `s` of the weights' buffer. -/
def wslot (s : Fin 2) : Finset S2x2048x1024.Idx := Finset.univ.filter fun i => (i 0).val = s.val
/-- The block of `w` of column group `g` and row block `kc`. -/
def wwin (g kc : Fin 4) : Finset S8192x4096.Idx := (wRect g kc).set

theorem mem_slot {t : Dev nD} {i : S32x256x128.Idx} : i ∈ slot t ↔ (i 0).val = t.val := by simp [slot]
theorem mem_wslot {s : Fin 2} {i : S2x2048x1024.Idx} : i ∈ wslot s ↔ (i 0).val = s.val := by simp [wslot]

theorem slot_disjoint {t t' : Dev nD} (h : t ≠ t') : Disjoint (slot t) (slot t') :=
  Finset.disjoint_left.mpr fun i hi hi' => h (Fin.ext ((mem_slot.mp hi).symm.trans (mem_slot.mp hi')))
theorem slot_cover : (Finset.univ : Finset (Dev nD)).biUnion slot = Finset.univ := by
  ext i
  simp only [Finset.mem_biUnion, Finset.mem_univ, true_and, iff_true]
  exact ⟨(i 0 : Fin 32), mem_slot.mpr rfl⟩
theorem wslot_disjoint {t t' : Fin 2} (h : t ≠ t') : Disjoint (wslot t) (wslot t') :=
  Finset.disjoint_left.mpr fun i hi hi' => h (Fin.ext ((mem_wslot.mp hi).symm.trans (mem_wslot.mp hi')))
theorem wslot_cover : (Finset.univ : Finset (Fin 2)).biUnion wslot = Finset.univ := by
  ext i
  simp only [Finset.mem_biUnion, Finset.mem_univ, true_and, iff_true]
  exact ⟨(i 0 : Fin 2), mem_wslot.mpr rfl⟩

section Slots
variable {off : Fin 3 → ℕ} {t : Dev nD} (ht : off = ![t.val, 0, 0])
  (inb : ∀ a, off a + S1x256x128.size a ≤ S32x256x128.size a)

include ht in
theorem rect_slot : (Rect.unit (s := S32x256x128) off S1x256x128.size inb).set = slot t := by
  subst ht
  ext i
  rw [← Rect.map_emb_univ, Finset.mem_map, mem_slot]
  constructor
  · rintro ⟨j, -, rfl⟩
    rw [ValueKit.rect_emb_unit_val]
    have h : (j 0).val < 1 := (j 0).isLt
    show t.val + (j 0).val = t.val
    omega
  · intro h
    refine ⟨ix3 (n0 := 1) (n1 := 256) (n2 := 128) 0 (i 1) (i 2), Finset.mem_univ _, funext fun a => Fin.ext ?_⟩
    rw [ValueKit.rect_emb_unit_val]
    match a with
    | ⟨0, _⟩ => exact (Nat.add_zero _).trans h.symm
    | ⟨1, _⟩ => exact Nat.zero_add _
    | ⟨2, _⟩ => exact Nat.zero_add _

include ht in
theorem rect_slot_emb (y : S1x256x128.Idx) :
    (Rect.unit (s := S32x256x128) off S1x256x128.size inb).emb y = ix3 (n0 := 32) (n1 := 256) (n2 := 128) t (y 1) (y 2) := by
  subst ht
  funext a
  apply Fin.ext
  rw [ValueKit.rect_emb_unit_val]
  match a with
  | ⟨0, _⟩ =>
    have h : (y 0).val < 1 := (y 0).isLt
    show t.val + (y 0).val = t.val
    omega
  | ⟨1, _⟩ => exact Nat.zero_add _
  | ⟨2, _⟩ => exact Nat.zero_add _

/-- The slice of a slot through which it is sent or landed in. -/
abbrev slotM (b : Memref sig .tc .vmem S32x256x128 .bf16) (off : Fin 3 → ℕ)
    (inb : ∀ a, off a + S1x256x128.size a ≤ S32x256x128.size a) : Memref sig .tc .vmem S256x128 .bf16 :=
  (b.slice (Rect.unit (s := S32x256x128) off S1x256x128.size inb) (fun _ => rfl)).squeeze S256x128 squeezes_S1x256x128_S256x128

include ht in
theorem set_send : (slotM sbM off inb).view.set = slot t := by
  exact (View.set_reshape _ _).trans <| (View.set_slice_whole cc0_scratch3 _).trans (rect_slot ht inb)
include ht in
theorem set_recv : (slotM rbM off inb).view.set = slot t := by
  exact (View.set_reshape _ _).trans <| (View.set_slice_whole cc0_scratch4 _).trans (rect_slot ht inb)
include ht in
theorem acc_send : ((sbM).access (Rect.unit (s := S32x256x128) off S1x256x128.size inb)).setOn Finset.univ ⊆ slot t :=
  ((View.set_slice_whole cc0_scratch3 _).trans (rect_slot ht inb)).subset
include ht in
theorem load_send : (sbM).view.setOn (Rect.unit (s := S32x256x128) off S1x256x128.size inb).set ⊆ slot t := by
  rw [rect_slot ht inb]; exact (Finset.map_refl (s := slot t)).subset
include ht in
theorem load_recv : (rbM).view.setOn (Rect.unit (s := S32x256x128) off S1x256x128.size inb).set ⊆ slot t := by
  rw [rect_slot ht inb]; exact (Finset.map_refl (s := slot t)).subset

include ht in
/-- What a load of a slot of the receive buffer reads. -/
theorem read_recv (f : Vec F S32x256x128 .bf16) :
    (rbM).view.readAt (Elt F) (Rect.unit (s := S32x256x128) off S1x256x128.size inb).toLoadRect f
      = fun y => f (ix3 (n0 := 32) (n1 := 256) (n2 := 128) t (y 1) (y 2)) := by
  funext y
  exact congrArg f (rect_slot_emb ht inb y)

include ht in
/-- A store to a slot of the send buffer leaves there what was stored. -/
theorem write_send (f : Vec F S32x256x128 .bf16) (w : Vec F S1x256x128 .bf16) (i : S32x256x128.Idx) (hi : i ∈ slot t) :
    ((sbM).access (Rect.unit (s := S32x256x128) off S1x256x128.size inb)).write (Elt F) f w Finset.univ i
      = w (ix3 (n0 := 1) (n1 := 256) (n2 := 128) 0 (i 1) (i 2)) := by
  have h : i = ((sbM).access (Rect.unit (s := S32x256x128) off S1x256x128.size inb)).emb (ix3 (n0 := 1) (n1 := 256) (n2 := 128) 0 (i 1) (i 2)) := by
    refine Eq.trans ?_ (rect_slot_emb ht inb _).symm
    refine (eq_ix3 (n0 := 32) (n1 := 256) (n2 := 128) i).trans ?_
    exact (ix3_inj (n0 := 32) (n1 := 256) (n2 := 128) _ _ _ _ _ _).mpr ⟨Fin.ext (mem_slot.mp hi), rfl, rfl⟩
  conv_lhs => rw [h]
  exact View.write_emb_of_mem _ _ (Finset.mem_univ _)

end Slots

/-- A slot sent lands whole: the receiver's slot `d` then holds the sender's slot `t`. -/
theorem landed_slot {off off' : Fin 3 → ℕ} {t d : Dev nD} (ht : off = ![t.val, 0, 0]) (hd : off' = ![d.val, 0, 0])
    (inb : ∀ a, off a + S1x256x128.size a ≤ S32x256x128.size a) (inb' : ∀ a, off' a + S1x256x128.size a ≤ S32x256x128.size a)
    (fs fd : Vec F S32x256x128 .bf16) (i : S32x256x128.Idx) (hi : i ∈ slot d) :
    (slotM rbM off' inb').view.write (Elt F) fd ((slotM sbM off inb).view.read (Elt F) fs) Finset.univ i
      = fs (ix3 (n0 := 32) (n1 := 256) (n2 := 128) t (i 1) (i 2)) := by
  have hs : i ∈ (slotM rbM off' inb').view.set := by rw [set_recv hd inb']; exact hi
  obtain ⟨x, -, rfl⟩ := Finset.mem_map.mp hs
  refine (View.write_emb_of_mem _ _ (Finset.mem_univ x)).trans ?_
  have hn : S256x128.numel = S1x256x128.numel := by decide
  have h1 : (slotM sbM off inb).view.emb x = ix3 (n0 := 32) (n1 := 256) (n2 := 128) t (Shape.reshapeEquiv hn x 1) (Shape.reshapeEquiv hn x 2) :=
    rect_slot_emb ht inb (Shape.reshapeEquiv hn x)
  have h2 : (slotM rbM off' inb').view.emb x = ix3 (n0 := 32) (n1 := 256) (n2 := 128) d (Shape.reshapeEquiv hn x 1) (Shape.reshapeEquiv hn x 2) :=
    rect_slot_emb hd inb' (Shape.reshapeEquiv hn x)
  rw [h2]
  exact congrArg fs h1

/-! ## The weights' buffer -/

section WSlots
variable {off : Fin 3 → ℕ} {s : Fin 2} (hs : off = ![s.val, 0, 0])
  (inb : ∀ a, off a + S1x2048x1024.size a ≤ S2x2048x1024.size a)

include hs in
theorem rect_wslot_emb (y : S1x2048x1024.Idx) :
    (Rect.unit (s := S2x2048x1024) off S1x2048x1024.size inb).emb y = ix3 (n0 := 2) (n1 := 2048) (n2 := 1024) s (y 1) (y 2) := by
  subst hs
  funext a
  apply Fin.ext
  rw [ValueKit.rect_emb_unit_val]
  match a with
  | ⟨0, _⟩ =>
    have h : (y 0).val < 1 := (y 0).isLt
    show s.val + (y 0).val = s.val
    omega
  | ⟨1, _⟩ => exact Nat.zero_add _
  | ⟨2, _⟩ => exact Nat.zero_add _

include hs in
theorem rect_wslot : (Rect.unit (s := S2x2048x1024) off S1x2048x1024.size inb).set = wslot s := by
  ext i
  rw [← Rect.map_emb_univ, Finset.mem_map, mem_wslot]
  constructor
  · rintro ⟨j, -, rfl⟩; rw [rect_wslot_emb hs inb]; rfl
  · intro h
    refine ⟨ix3 (n0 := 1) (n1 := 2048) (n2 := 1024) 0 (i 1) (i 2), Finset.mem_univ _, (rect_wslot_emb hs inb _).trans ?_⟩
    refine Eq.trans ?_ (eq_ix3 (n0 := 2) (n1 := 2048) (n2 := 1024) i).symm
    exact (ix3_inj (n0 := 2) (n1 := 2048) (n2 := 1024) _ _ _ _ _ _).mpr ⟨Fin.ext h.symm, rfl, rfl⟩

/-- The slot a block of `w` is fetched into. -/
abbrev wslotM (off : Fin 3 → ℕ) (inb : ∀ a, off a + S1x2048x1024.size a ≤ S2x2048x1024.size a) : Memref sig .tc .vmem S2048x1024 .f32 :=
  (wbM.slice (Rect.unit (s := S2x2048x1024) off S1x2048x1024.size inb) (fun _ => rfl)).squeeze S2048x1024 squeezes_S1x2048x1024_S2048x1024

include hs in
theorem set_wslot : (wslotM off inb).view.set = wslot s := by
  exact (View.set_reshape _ _).trans <| (View.set_slice_whole cc0_scratch1 _).trans (rect_wslot hs inb)
include hs in
theorem load_wslot : (wbM).view.setOn (Rect.unit (s := S2x2048x1024) off S1x2048x1024.size inb).set ⊆ wslot s := by
  rw [rect_wslot hs inb]; exact (Finset.map_refl (s := wslot s)).subset

include hs in
/-- What a load of the slot reads once a block of `w` is in it. -/
theorem read_wslot (c : Dev nD) (g kc : Fin 4) :
    (wbM).view.readAt (Elt F) (Rect.unit (s := S2x2048x1024) off S1x2048x1024.size inb).toLoadRect (wbufArr m c g kc)
      = wBlk1 m c g kc := by
  funext y
  exact congrArg (wbufArr m c g kc) (rect_wslot_emb hs inb y)

/-- The block of `w` a fetch reads. -/
abbrev wwinM (off : Fin 2 → ℕ) (inb : ∀ a, off a + S2048x1024.size a ≤ S8192x4096.size a) : Memref sig .tc .hbm S2048x1024 .f32 :=
  wM.slice (Rect.unit (s := S8192x4096) off S2048x1024.size inb) (fun _ => rfl)

theorem set_wwin {offw : Fin 2 → ℕ} {g kc : Fin 4} (hw : offw = ![2048 * kc.val, 1024 * g.val])
    (inbw : ∀ a, offw a + S2048x1024.size a ≤ S8192x4096.size a) : (wwinM offw inbw).view.set = wwin g kc := by
  subst hw
  exact View.set_slice_whole main_arg1 _

include hs in
/-- A fetch fills the slot with the block. -/
theorem landed_wslot (c : Dev nD) {offw : Fin 2 → ℕ} {g kc : Fin 4} (hw : offw = ![2048 * kc.val, 1024 * g.val])
    (inbw : ∀ a, offw a + S2048x1024.size a ≤ S8192x4096.size a)
    (fd : Vec F S2x2048x1024 .f32) (i : S2x2048x1024.Idx) (hi : i ∈ wslot s) :
    (wslotM off inb).view.write (Elt F) fd ((wwinM offw inbw).view.read (Elt F) (wArr m c)) Finset.univ i = wbufArr m c g kc i := by
  subst hw
  have hi' : i ∈ (wslotM off inb).view.set := by rw [set_wslot hs inb]; exact hi
  obtain ⟨x, -, rfl⟩ := Finset.mem_map.mp hi'
  refine (View.write_emb_of_mem _ _ (Finset.mem_univ x)).trans ?_
  have hn : S2048x1024.numel = S1x2048x1024.numel := by decide
  have h2 : (wslotM off inb).view.emb x = ix3 (n0 := 2) (n1 := 2048) (n2 := 1024) s (Shape.reshapeEquiv hn x 1) (Shape.reshapeEquiv hn x 2) :=
    rect_wslot_emb hs inb (Shape.reshapeEquiv hn x)
  have h3 : Shape.reshapeEquiv hn x = ix3 (n0 := 1) (n1 := 2048) (n2 := 1024) 0 (x 0) (x 1) :=
    (congrArg (Shape.reshapeEquiv hn) (eq_ix2 (n0 := 2048) (n1 := 1024) x)).trans (ValueIdx.reshapeEquiv_ix2_1ab (a := 2048) (b := 1024) hn (x 0) (x 1))
  rw [h2, h3]
  show wArr m c ((wRect g kc).emb x) = wArr m c ((wRect g kc).emb (ix2 (n0 := 2048) (n1 := 1024) (x 0) (x 1)))
  exact congrArg (fun y => wArr m c ((wRect g kc).emb y)) (eq_ix2 (n0 := 2048) (n1 := 1024) x)

end WSlots

/-- What a load of `2048` columns of the rounded rows of `x` reads. -/
theorem read_xb (c : Dev nD) {off : Fin 2 → ℕ} {kc : Fin 4} (h : off = ![0, 2048 * kc.val])
    (inb : ∀ a, off a + S256x2048.size a ≤ S256x8192.size a) :
    (xbM).view.readAt (Elt F) (Rect.unit (s := S256x8192) off S256x2048.size inb).toLoadRect (k0_pay14 (xArr m c)) = xBlk m c kc := by
  subst h; rfl

/-! ## The result's rows -/

section Rows
variable {off : Fin 2 → ℕ} {s : Dev nD} (h : off = ![256 * s.val, 0])
  (inb : ∀ a, off a + S256x128.size a ≤ S8192x128.size a)

include h in
/-- A store to the rows of device `s` leaves the other rows, and there leaves what was stored. -/
theorem write_rows (f : Vec F S8192x128 .f32) (w : Vec F S256x128 .f32) (i : S8192x128.Idx) :
    ((oM).access (Rect.unit (s := S8192x128) off S256x128.size inb)).write (Elt F) f w Finset.univ i
      = if rowDev i = s then w (ix2 (n0 := 256) (n1 := 128) ⟨(i 0).val % 256, Nat.mod_lt _ (by decide)⟩ (i 1)) else f i := by
  subst h
  have hemb (y : S256x128.Idx) (a : Fin 2) :
      (((oM).access (Rect.unit (s := S8192x128) ![256 * s.val, 0] S256x128.size inb)).emb y a).val = (![256 * s.val, 0] : Fin 2 → ℕ) a + (y a).val :=
    ValueKit.rect_emb_unit_val (s := S8192x128) ![256 * s.val, 0] S256x128.size inb y a
  by_cases hr : rowDev i = s
  · rw [if_pos hr]
    have hv : (i 0).val / 256 = s.val := congrArg Fin.val hr
    have hi : i = ((oM).access (Rect.unit (s := S8192x128) ![256 * s.val, 0] S256x128.size inb)).emb
        (ix2 (n0 := 256) (n1 := 128) ⟨(i 0).val % 256, Nat.mod_lt _ (by decide)⟩ (i 1)) := by
      funext a
      apply Fin.ext
      rw [hemb]
      match a with
      | ⟨0, _⟩ => show (i 0).val = 256 * s.val + (i 0).val % 256; omega
      | ⟨1, _⟩ => exact (Nat.zero_add _).symm
    conv_lhs => rw [hi]
    exact View.write_emb_of_mem _ _ (Finset.mem_univ _)
  · rw [if_neg hr]
    refine View.write_of_not_mem _ _ _ fun hm => hr ?_
    obtain ⟨y, -, hy⟩ := Finset.mem_map.mp hm
    have h0 := hemb y 0
    rw [hy] at h0
    have h1 : (y 0).val < 256 := (y 0).isLt
    apply Fin.ext
    show (i 0).val / 256 = s.val
    have h2 : (i 0).val = 256 * s.val + (y 0).val := h0
    omega

/-- The rows of the devices in `P` hold the result. -/
def Agree (c : Dev nD) (P : Dev nD → Prop) (f : Vec F S8192x128 .f32) : Prop := ∀ i, P (rowDev i) → f i = outArr m c i

include h in
theorem Agree.store (c : Dev nD) {P : Dev nD → Prop} {f : Vec F S8192x128 .f32} (hf : Agree m c P f)
    {w : Vec F S256x128 .f32} (hw : w = outBlk m c s) :
    Agree m c (fun d => P d ∨ d = s) (((oM).access (Rect.unit (s := S8192x128) off S256x128.size inb)).write (Elt F) f w Finset.univ) := by
  intro i hi
  refine (write_rows h inb f w i).trans ?_
  by_cases hr : rowDev i = s
  · rw [if_pos hr, hw, ← hr]; rfl
  · rw [if_neg hr]; exact hf i (hi.resolve_right hr)

end Rows

theorem Agree.eq {c : Dev nD} {P : Dev nD → Prop} {f : Vec F S8192x128 .f32} (hf : Agree m c P f) (hP : ∀ d, P d) : f = outArr m c :=
  funext fun i => hf i (hP _)

theorem Agree.mono {c : Dev nD} {P P' : Dev nD → Prop} {f : Vec F S8192x128 .f32} (hf : Agree m c P f) (hP : ∀ d, P' d → P d) : Agree m c P' f :=
  fun i hi => hf i (hP _ hi)

/-! ## The semaphores -/

theorem wsem_eq {off : Fin 1 → ℕ} {s : Fin 2} (h : off = ![s.val]) (inb : ∀ a, off a + S1.size a ≤ S2.size a) :
    ((cc0_scratch5.slice (Rect.unit (s := S2) off S1.size inb)).squeeze S_ squeezes_S1_S_).sem = (⟨2 + s.val, by have := s.isLt; show _ < 68; omega⟩ : DmaSem sig) := by
  subst h; revert inb; revert s; decide +kernel
theorem ssem_eq {off : Fin 1 → ℕ} {t : Dev nD} (h : off = ![t.val]) (inb : ∀ a, off a + S1.size a ≤ S32.size a) :
    ((cc0_scratch6.slice (Rect.unit (s := S32) off S1.size inb)).squeeze S_ squeezes_S1_S_).sem = (⟨4 + t.val, by have : t.val < 32 := t.isLt; show _ < 68; omega⟩ : DmaSem sig) := by
  subst h; revert inb; revert t; decide +kernel
theorem rsem_eq {off : Fin 1 → ℕ} {t : Dev nD} (h : off = ![t.val]) (inb : ∀ a, off a + S1.size a ≤ S32.size a) :
    ((cc0_scratch7.slice (Rect.unit (s := S32) off S1.size inb)).squeeze S_ squeezes_S1_S_).sem = (⟨36 + t.val, by have : t.val < 32 := t.isLt; show _ < 68; omega⟩ : DmaSem sig) := by
  subst h; revert inb; revert t; decide +kernel

end Cert.KernelIdeal.A2A

end
-- ==== Proof.Schedule.lean ====
/- The protocol between the devices: which semaphore is credited by whom, by how much, and what each credit hands over.

   Every device first signals every other device's barrier semaphore once and waits for thirty-one units on its own. The
   signal of device `q` to device `c` hands over slot `c` of `q`'s receive buffer: the slot that `c` alone writes. A
   transfer from `c` to `t` credits `c`'s send semaphore `t`, which gives `c` slot `t` of its send buffer back, and `t`'s
   receive semaphore `c`, which gives `t` its slot `c` with `c`'s block in it. The blocks of `w` are fetched in turn into
   the two slots of the weights' buffer, each slot with a semaphore of its own: eight fetches, hence eight rounds, on each. -/
module

public import proofs.«01_k».proof.Proof.Views
public import Mathlib.Algebra.BigOperators.Intervals

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The semaphores -/

abbrev barS : Sem sig := (SemArray.scalar (sig.barrier 0 rfl) : Sems sig S_).sem
abbrev wsem (s : Fin 2) : DmaSem sig := ⟨2 + s.val, by have := s.isLt; show _ < 68; omega⟩
abbrev ssem (t : Dev nD) : DmaSem sig := ⟨4 + t.val, by have : t.val < 32 := t.isLt; show _ < 68; omega⟩
abbrev rsem (t : Dev nD) : DmaSem sig := ⟨36 + t.val, by have : t.val < 32 := t.isLt; show _ < 68; omega⟩

abbrev barCell (c : Dev nD) : GSem nD τ sig := ((c : Thread nD τ), .reg barS)
abbrev wCell (c : Dev nD) (s : Fin 2) : GSem nD τ sig := ((c : Thread nD τ), .dma (wsem s))
abbrev sendCell (c t : Dev nD) : GSem nD τ sig := ((c : Thread nD τ), .dma (ssem t))
abbrev recvCell (c t : Dev nD) : GSem nD τ sig := ((c : Thread nD τ), .dma (rsem t))

theorem inb_slot0 : ∀ a, (![0, 0, 0] : Fin 3 → ℕ) a + S1x256x128.size a ≤ S32x256x128.size a := by decide
/-- The credit of one slot of the send or receive buffer, and of one block of `w`. -/
abbrev NB : ℕ := (slotM rbM ![0, 0, 0] inb_slot0).view.dmaCredit
abbrev NW : ℕ := (wslotM ![0, 0, 0] inb_S2x2048x1024_S1x2048x1024_0_0_0).view.dmaCredit
theorem NB_pos : 0 < NB := View.dmaCredit_pos _ (by decide)
theorem NW_pos : 0 < NW := View.dmaCredit_pos _ (by decide)

/-! ## The parts of the buffers, owned -/

def sendPts (c t : Dev nD) (f : Vec F S32x256x128 .bf16) : sProp 𝕄 :=
  ((c : Thread nD τ).loc cc0_scratch3) ↦[slot t]{fullShare} f
def recvPts (c t : Dev nD) (f : Vec F S32x256x128 .bf16) : sProp 𝕄 :=
  ((c : Thread nD τ).loc cc0_scratch4) ↦[slot t]{fullShare} f
def wbufPts (c : Dev nD) (s : Fin 2) (f : Vec F S2x2048x1024 .f32) : sProp 𝕄 :=
  ((c : Thread nD τ).loc cc0_scratch1) ↦[wslot s]{fullShare} f

/-- The half of `w` that the fetches of slot `s` read from. -/
def half (s : Fin 2) : PosShare TreeShare := if s = 0 then fullShare.left else fullShare.right
/-- A part of that half. -/
def wPts (c : Dev nD) (s : Fin 2) (S : Finset S8192x4096.Idx) : sProp 𝕄 :=
  ((c : Thread nD τ).loc main_arg1) ↦[S]{half s} (wArr m c)

/-- The column group and the row block of fetch `f` on device `c`. -/
abbrev fg (c : Dev nD) (f : ℕ) : Fin 4 := Fin.ofNat 4 (c.val / 8 + f / 4)
abbrev fk (f : ℕ) : Fin 4 := Fin.ofNat 4 f

/-- What fetch `f` into slot `s` hands over: the slot filled, and the part of `w` it read. -/
def wPay (c : Dev nD) (s : Fin 2) (f : ℕ) : sProp 𝕄 :=
  iprop(wbufPts c s (wbufArr m c (fg c f) (fk f)) ∗ wPts m c s (wwin (fg c f) (fk f)))

instance sendPts_storable (c t : Dev nD) (f : Vec F S32x256x128 .bf16) : BI.Storable (upEmb : UEmb _ 𝕄) (sendPts c t f) := by unfold sendPts; infer_instance
instance recvPts_storable (c t : Dev nD) (f : Vec F S32x256x128 .bf16) : BI.Storable (upEmb : UEmb _ 𝕄) (recvPts c t f) := by unfold recvPts; infer_instance
instance wPay_storable (c : Dev nD) (s : Fin 2) (f : ℕ) : BI.Storable (upEmb : UEmb _ 𝕄) (wPay m c s f) := by
  unfold wPay wbufPts wPts; infer_instance

/-! ## The schedule -/

/-- The duties of device `c`'s semaphores: a unit from every other device on the barrier; one credit a round on the others. -/
def dutiesAt (c : Dev nD) : SemLoc sig → ℕ → Finset (Dev nD)
  | .reg _, r => if r = 0 then Finset.univ.erase c else ∅
  | .dma s, r =>
    if s.val < 2 then ∅
    else if s.val < 4 then (if r < 8 then {0} else ∅)
    else if s.val < 36 then (if r = 0 ∧ s.val ≠ 4 + c.val then {0} else ∅)
    else (if r = 0 ∧ s.val ≠ 36 + c.val then {0} else ∅)

def amountAt : SemLoc sig → ℕ
  | .reg _ => 1
  | .dma s => if s.val < 4 then NW else NB

/-- What a duty of device `c`'s semaphores hands over. -/
def payAt (c : Dev nD) : SemLoc sig → ℕ → Dev nD → sProp 𝕄
  | .reg _, _, q => iprop(∃ f, recvPts q c f)
  | .dma s, r, _ =>
    if s.val < 4 then wPay m c (Fin.ofNat 2 s.val) (2 * r + s.val % 2)
    else if s.val < 36 then iprop(∃ f, sendPts c (Fin.ofNat 32 (s.val - 4)) f)
    else recvPts c (Fin.ofNat 32 (s.val - 36)) (recvArr m c)

def Rd : Rounds.Schedule (GSem nD τ sig) (Dev nD) 𝕄 where
  duties g r := dutiesAt g.1.1 g.2 r
  unitless _ := False
  amount g _ _ := amountAt g.2
  payload g r d := payAt m g.1.1 g.2 r d
  amount_pos g _ _ _ := by
    show 0 < amountAt g.2
    cases g.2 with
    | reg _ => exact Nat.one_pos
    | dma s => unfold amountAt; dsimp only; split; exacts [NW_pos, NB_pos]

instance Rd_storable (g : GSem nD τ sig) (r : ℕ) (d : Dev nD) : BI.Storable (upEmb : UEmb _ 𝕄) ((Rd (F := F) m).payload g r d) := by
  show BI.Storable upEmb (payAt m g.1.1 g.2 r d)
  cases g.2 with
  | reg _ => unfold payAt; infer_instance
  | dma s => unfold payAt; dsimp only; split; · infer_instance
             split <;> infer_instance

section Facts
variable (c t : Dev nD) (s : Fin 2)

theorem duties_bar : (Rd (F := F) m).duties (barCell c) 0 = Finset.univ.erase c :=
  show (if 0 = 0 then Finset.univ.erase c else ∅) = _ from if_pos rfl

theorem duties_w {r : ℕ} (hr : r < 8) : (Rd (F := F) m).duties (wCell c s) r = {0} := by
  show dutiesAt c (.dma (wsem s)) r = {0}
  have hs := s.isLt
  unfold dutiesAt
  dsimp only
  rw [if_neg (by omega), if_pos (by omega), if_pos hr]

theorem duties_send (h : t ≠ c) : (Rd (F := F) m).duties (sendCell c t) 0 = {0} := by
  show dutiesAt c (.dma (ssem t)) 0 = {0}
  have ht : t.val < 32 := t.isLt
  have hn : t.val ≠ c.val := fun h' => h (Fin.ext h')
  unfold dutiesAt
  dsimp only
  rw [if_neg (by omega), if_neg (by omega), if_pos (by omega), if_pos ⟨rfl, by omega⟩]

theorem duties_recv (h : t ≠ c) : (Rd (F := F) m).duties (recvCell c t) 0 = {0} := by
  show dutiesAt c (.dma (rsem t)) 0 = {0}
  have ht : t.val < 32 := t.isLt
  have hn : t.val ≠ c.val := fun h' => h (Fin.ext h')
  unfold dutiesAt
  dsimp only
  rw [if_neg (by omega), if_neg (by omega), if_neg (by omega), if_pos ⟨rfl, by omega⟩]

theorem later_bar : ∀ r, 1 ≤ r → (Rd (F := F) m).duties (barCell c) r = ∅ := fun r hr => if_neg (by omega)

theorem later_w : ∀ r, 8 ≤ r → (Rd (F := F) m).duties (wCell c s) r = ∅ := fun r hr => by
  show dutiesAt c (.dma (wsem s)) r = ∅
  have hs := s.isLt
  unfold dutiesAt
  dsimp only
  rw [if_neg (by omega), if_pos (by omega), if_neg (by omega)]

theorem later_send : ∀ r, 1 ≤ r → (Rd (F := F) m).duties (sendCell c t) r = ∅ := fun r hr => by
  show dutiesAt c (.dma (ssem t)) r = ∅
  have ht : t.val < 32 := t.isLt
  unfold dutiesAt
  dsimp only
  rw [if_neg (by omega), if_neg (by omega), if_pos (by omega), if_neg (by omega)]

theorem later_recv : ∀ r, 1 ≤ r → (Rd (F := F) m).duties (recvCell c t) r = ∅ := fun r hr => by
  show dutiesAt c (.dma (rsem t)) r = ∅
  have ht : t.val < 32 := t.isLt
  unfold dutiesAt
  dsimp only
  rw [if_neg (by omega), if_neg (by omega), if_neg (by omega), if_neg (by omega)]

/-- A device's own send and receive semaphores are never used. -/
theorem own_send : ∀ r, 0 ≤ r → (Rd (F := F) m).duties (sendCell c c) r = ∅ := fun r hr => by
  show dutiesAt c (.dma (ssem c)) r = ∅
  have ht : c.val < 32 := c.isLt
  unfold dutiesAt
  dsimp only
  rw [if_neg (by omega), if_neg (by omega), if_pos (by omega), if_neg (by omega)]
theorem own_recv : ∀ r, 0 ≤ r → (Rd (F := F) m).duties (recvCell c c) r = ∅ := fun r hr => by
  show dutiesAt c (.dma (rsem c)) r = ∅
  have ht : c.val < 32 := c.isLt
  unfold dutiesAt
  dsimp only
  rw [if_neg (by omega), if_neg (by omega), if_neg (by omega), if_neg (by omega)]

theorem amount_bar (d : Dev nD) : (Rd (F := F) m).amount (barCell c) 0 d = 1 := rfl
theorem amount_w (r : ℕ) (d : Dev nD) : (Rd (F := F) m).amount (wCell c s) r d = NW := if_pos (show 2 + s.val < 4 by have := s.isLt; omega)
theorem amount_send (d : Dev nD) : (Rd (F := F) m).amount (sendCell c t) 0 d = NB := if_neg (show ¬ 4 + t.val < 4 by omega)
theorem amount_recv (d : Dev nD) : (Rd (F := F) m).amount (recvCell c t) 0 d = NB := if_neg (show ¬ 36 + t.val < 4 by omega)

theorem expect_bar : (Rd (F := F) m).expect (barCell c) 0 = 31 := by
  unfold Schedule.expect Schedule.amountOf
  rw [duties_bar, Finset.sum_congr rfl fun d _ => amount_bar m c d, Finset.sum_const, Finset.card_erase_of_mem (Finset.mem_univ _), Finset.card_univ]
  decide
theorem expect_w {r : ℕ} (hr : r < 8) : (Rd (F := F) m).expect (wCell c s) r = NW := by
  unfold Schedule.expect Schedule.amountOf; rw [duties_w m c s hr, Finset.sum_singleton, amount_w]
theorem expect_send (h : t ≠ c) : (Rd (F := F) m).expect (sendCell c t) 0 = NB := by
  unfold Schedule.expect Schedule.amountOf; rw [duties_send m c t h, Finset.sum_singleton, amount_send]
theorem expect_recv (h : t ≠ c) : (Rd (F := F) m).expect (recvCell c t) 0 = NB := by
  unfold Schedule.expect Schedule.amountOf; rw [duties_recv m c t h, Finset.sum_singleton, amount_recv]

theorem payload_bar (q : Dev nD) : (Rd (F := F) m).payload (barCell c) 0 q = iprop(∃ f, recvPts q c f) := rfl
theorem payload_w (r : ℕ) (d : Dev nD) : (Rd (F := F) m).payload (wCell c s) r d = wPay m c s (2 * r + s.val) := by
  have hs := s.isLt
  refine (if_pos (show 2 + s.val < 4 by omega)).trans ?_
  have h1 : Fin.ofNat 2 (2 + s.val) = s := Fin.ext (show (2 + s.val) % 2 = s.val by omega)
  have h2 : (2 + s.val) % 2 = s.val := by omega
  show wPay m c (Fin.ofNat 2 (2 + s.val)) (2 * r + (2 + s.val) % 2) = _
  rw [h1, h2]
theorem payload_send (d : Dev nD) : (Rd (F := F) m).payload (sendCell c t) 0 d = iprop(∃ f, sendPts c t f) := by
  have ht : t.val < 32 := t.isLt
  refine (if_neg (show ¬ 4 + t.val < 4 by omega)).trans ((if_pos (show 4 + t.val < 36 by omega)).trans ?_)
  have h1 : (Fin.ofNat 32 (4 + t.val - 4) : Dev nD) = t := Fin.ext (show (4 + t.val - 4) % 32 = t.val by omega)
  show iprop(∃ f, sendPts c (Fin.ofNat 32 (4 + t.val - 4)) f) = _
  rw [h1]
theorem payload_recv (d : Dev nD) : (Rd (F := F) m).payload (recvCell c t) 0 d = recvPts c t (recvArr m c) := by
  have ht : t.val < 32 := t.isLt
  refine (if_neg (show ¬ 36 + t.val < 4 by omega)).trans ((if_neg (show ¬ 36 + t.val < 36 by omega)).trans ?_)
  have h1 : (Fin.ofNat 32 (36 + t.val - 36) : Dev nD) = t := Fin.ext (show (36 + t.val - 36) % 32 = t.val by omega)
  show recvPts c (Fin.ofNat 32 (36 + t.val - 36)) (recvArr m c) = _
  rw [h1]

theorem rest_bar : bigSep ((Rd (F := F) m).duties (barCell c) 0 \ ∅) (fun d => (Rd (F := F) m).payload (barCell c) 0 d)
    = bigSep (Finset.univ.erase c) fun q : Dev nD => iprop(∃ f, recvPts q c f) := by rw [Finset.sdiff_empty, duties_bar]; rfl
theorem rest_w {r : ℕ} (hr : r < 8) : bigSep ((Rd (F := F) m).duties (wCell c s) r \ ∅) (fun d => (Rd (F := F) m).payload (wCell c s) r d)
    = wPay m c s (2 * r + s.val) := by rw [Finset.sdiff_empty, duties_w m c s hr, bigSep_singleton, payload_w]
theorem rest_send (h : t ≠ c) : bigSep ((Rd (F := F) m).duties (sendCell c t) 0 \ ∅) (fun d => (Rd (F := F) m).payload (sendCell c t) 0 d)
    = iprop(∃ f, sendPts c t f) := by rw [Finset.sdiff_empty, duties_send m c t h, bigSep_singleton, payload_send]
theorem rest_recv (h : t ≠ c) : bigSep ((Rd (F := F) m).duties (recvCell c t) 0 \ ∅) (fun d => (Rd (F := F) m).payload (recvCell c t) 0 d)
    = recvPts c t (recvArr m c) := by rw [Finset.sdiff_empty, duties_recv m c t h, bigSep_singleton, payload_recv]

end Facts

/-! ## The order of a device's signals, transfers and waits -/

/-- The device that signal `s`, and the last wait of trip `s`, is about; and the one whose block trip `s` receives. -/
def toD (c : Dev nD) (s : ℕ) : Dev nD := ⟨(c.val + 1 + s) % 32, Nat.mod_lt _ (by decide)⟩
def fromD (c : Dev nD) (s : ℕ) : Dev nD := ⟨(c.val + 31 - s) % 32, Nat.mod_lt _ (by decide)⟩
/-- The device that transfer `p` goes to. -/
def pos (c : Dev nD) (p : ℕ) : Dev nD := ⟨8 * ((c.val / 8 + p / 8) % 4) + p % 8, by
  have h1 := Nat.mod_lt (c.val / 8 + p / 8) (show 0 < 4 by decide)
  have h2 := Nat.mod_lt p (show 0 < 8 by decide)
  show _ < 32
  omega⟩

theorem toD_ne (c : Dev nD) {s : ℕ} (h : s < 31) : toD c s ≠ c := fun h' => by
  have h1 := congrArg Fin.val h'
  have hc : c.val < 32 := c.isLt
  simp only [toD] at h1
  omega
theorem fromD_ne (c : Dev nD) {s : ℕ} (h : s < 31) : fromD c s ≠ c := fun h' => by
  have h1 := congrArg Fin.val h'
  have hc : c.val < 32 := c.isLt
  simp only [fromD] at h1
  omega

theorem toD_inj (c : Dev nD) : Set.InjOn (toD c) (Finset.Ico 0 31 : Finset ℕ) := fun a ha b hb h => by
  have ha := Finset.mem_Ico.mp ha; have hb := Finset.mem_Ico.mp hb
  have h1 := congrArg Fin.val h
  simp only [toD] at h1
  omega
theorem fromD_inj (c : Dev nD) : Set.InjOn (fromD c) (Finset.Ico 0 31 : Finset ℕ) := fun a ha b hb h => by
  have ha := Finset.mem_Ico.mp ha; have hb := Finset.mem_Ico.mp hb
  have hc : c.val < 32 := c.isLt
  have h1 := congrArg Fin.val h
  simp only [fromD] at h1
  omega
theorem pos_inj (c : Dev nD) : Set.InjOn (pos c) (Finset.Ico 0 32 : Finset ℕ) := fun a ha b hb h => by
  have ha := Finset.mem_Ico.mp ha; have hb := Finset.mem_Ico.mp hb
  have h1 := congrArg Fin.val h
  simp only [pos] at h1
  omega

theorem toD_image (c : Dev nD) : (Finset.Ico 0 31).image (toD c) = Finset.univ.erase c := by
  refine Finset.eq_of_subset_of_card_le (fun d hd => ?_) ?_
  · obtain ⟨s, hs, rfl⟩ := Finset.mem_image.mp hd
    exact Finset.mem_erase.mpr ⟨toD_ne c (Finset.mem_Ico.mp hs).2, Finset.mem_univ _⟩
  · rw [Finset.card_image_of_injOn (toD_inj c), Finset.card_erase_of_mem (Finset.mem_univ _), Finset.card_univ]; decide
theorem fromD_image (c : Dev nD) : (Finset.Ico 0 31).image (fromD c) = Finset.univ.erase c := by
  refine Finset.eq_of_subset_of_card_le (fun d hd => ?_) ?_
  · obtain ⟨s, hs, rfl⟩ := Finset.mem_image.mp hd
    exact Finset.mem_erase.mpr ⟨fromD_ne c (Finset.mem_Ico.mp hs).2, Finset.mem_univ _⟩
  · rw [Finset.card_image_of_injOn (fromD_inj c), Finset.card_erase_of_mem (Finset.mem_univ _), Finset.card_univ]; decide
theorem pos_image (c : Dev nD) : (Finset.Ico 0 32).image (pos c) = Finset.univ := by
  refine Finset.eq_of_subset_of_card_le (Finset.subset_univ _) ?_
  rw [Finset.card_image_of_injOn (pos_inj c), Finset.card_univ]; decide

theorem bigSep_toD (c : Dev nD) (Φ : Dev nD → sProp 𝕄) : bigSep (Finset.univ.erase c) Φ = bigSep (Finset.Ico 0 31) fun s => Φ (toD c s) := by
  rw [← toD_image c, bigSep_image_of_injOn (toD_inj c)]
theorem bigSep_fromD (c : Dev nD) (Φ : Dev nD → sProp 𝕄) : bigSep (Finset.univ.erase c) Φ = bigSep (Finset.Ico 0 31) fun s => Φ (fromD c s) := by
  rw [← fromD_image c, bigSep_image_of_injOn (fromD_inj c)]
theorem bigSep_pos (c : Dev nD) (Φ : Dev nD → sProp 𝕄) : bigSep Finset.univ Φ = bigSep (Finset.Ico 0 32) fun p => Φ (pos c p) := by
  rw [← pos_image c, bigSep_image_of_injOn (pos_inj c)]

/-! ## What each device owes; the levels -/

/-- The barrier units still owed from signal `k` on. -/
def Ob (c : Dev nD) (k : ℕ) : CellTallies nD τ sig Unit := ∑ s ∈ Finset.Ico k 31, tallyAt (barCell (toD c s)) () 1
/-- The credit transfer `p` pays on its receiver. -/
def Ot (c : Dev nD) (p : ℕ) : CellTallies nD τ sig Unit := if pos c p = c then 0 else tallyAt (recvCell (pos c p) c) () NB
/-- The receive credits still owed from transfer `p` on. -/
def Or (c : Dev nD) (p : ℕ) : CellTallies nD τ sig Unit := ∑ q ∈ Finset.Ico p 32, Ot c q
def O₀ (c : Dev nD) : CellTallies nD τ sig Unit := Ob c 0 + Or c 0

theorem Ob_step (c : Dev nD) {k : ℕ} (h : k < 31) : Ob c k = Ob c (k + 1) + tallyAt (barCell (toD c k)) () 1 := by
  unfold Ob; rw [Finset.sum_eq_sum_Ico_succ_bot h, add_comm]
theorem Ob_end (c : Dev nD) : Ob c 31 = 0 := by unfold Ob; rw [Finset.Ico_self, Finset.sum_empty]
theorem Or_step (c : Dev nD) {p : ℕ} (h : p < 32) : Or c p = Or c (p + 1) + Ot c p := by
  unfold Or; rw [Finset.sum_eq_sum_Ico_succ_bot h, add_comm]
theorem Or_end (c : Dev nD) : Or c 32 = 0 := by unfold Or; rw [Finset.Ico_self, Finset.sum_empty]
theorem Or_own (c : Dev nD) {p : ℕ} (h : p < 32) (ho : pos c p = c) : Or c p = Or c (p + 1) := by
  rw [Or_step c h, Ot, if_pos ho, add_zero]
theorem Or_send (c : Dev nD) {p : ℕ} (h : p < 32) (ho : pos c p ≠ c) : Or c p = Or c (p + 1) + tallyAt (recvCell (pos c p) c) () NB := by
  rw [Or_step c h, Ot, if_neg ho]

def L (g : GSem nD τ sig) : Finset Unit := if g.1.2 = .tc then {()} else ∅
def lvAt : SemLoc sig → ℕ
  | .reg _ => 1
  | .dma s => if s.val < 36 then 0 else 2
/-- A barrier is at level one, the receive semaphores at two, everything else at zero. -/
def lv (g : GSem nD τ sig) (_ : Unit) : ℕ := lvAt g.2

theorem L_of_ne (g : GSem nD τ sig) (h : g.1.2 ≠ .tc) : L g = ∅ := if_neg h
theorem L_tc (c : Dev nD) (sm : SemLoc sig) : L ((c : Thread nD τ), sm) = {()} := if_pos rfl

theorem Ob_pos {c : Dev nD} {k : ℕ} {g : GSem nD τ sig} {u : Unit} (h : 0 < Ob c k g u) : ∃ d : Dev nD, g = barCell d := by
  unfold Ob at h
  rw [Finset.sum_apply, Finsupp.finset_sum_apply] at h
  obtain ⟨s, -, hs⟩ := Finset.sum_pos_iff.mp h
  rw [tallyAt_apply] at hs
  by_cases hg : g = barCell (toD c s) ∧ u = ()
  · exact ⟨_, hg.1⟩
  · rw [if_neg hg] at hs; exact absurd hs (Nat.lt_irrefl 0)
theorem Or_pos {c : Dev nD} {p : ℕ} {g : GSem nD τ sig} {u : Unit} (h : 0 < Or c p g u) : ∃ d : Dev nD, g = recvCell d c := by
  unfold Or at h
  rw [Finset.sum_apply, Finsupp.finset_sum_apply] at h
  obtain ⟨q, -, hq⟩ := Finset.sum_pos_iff.mp h
  unfold Ot at hq
  split at hq
  · exact absurd hq (Nat.lt_irrefl 0)
  · rw [tallyAt_apply] at hq
    by_cases hg : g = recvCell (pos c q) c ∧ u = ()
    · exact ⟨_, hg.1⟩
    · rw [if_neg hg] at hq; exact absurd hq (Nat.lt_irrefl 0)

/-- While only receive credits are owed, any semaphore below level two may be waited on. -/
theorem mayWait_low (c : Dev nD) (p : ℕ) (sm : SemLoc sig) (hs : lvAt sm ≤ 1) :
    (levAts L lv : sProp 𝕄) ⊢ MayWait (c : Thread nD τ) sm () (Or c p) :=
  MayOwe.of_cut (L := L) (lev := lv) 1 (fun q hq => by rw [Finset.mem_singleton.mp hq, L_tc]; exact Finset.mem_singleton_self _)
    (fun g u hg => by obtain ⟨d, rfl⟩ := Or_pos hg; exact Finset.mem_singleton_self _)
    (fun q hq => by rw [Finset.mem_singleton.mp hq]; exact hs)
    (fun g u hg => by
      obtain ⟨d, rfl⟩ := Or_pos hg
      show 1 < lvAt (.dma (rsem c))
      unfold lvAt
      dsimp only
      rw [if_neg (by omega)]; decide)

/-- At launch, any semaphore at level zero may be waited on. -/
theorem mayWait_stage (c : Dev nD) (sm : SemLoc sig) (hs : lvAt sm = 0) :
    (levAts L lv : sProp 𝕄) ⊢ MayWait (c : Thread nD τ) sm () (O₀ c) := by
  have key {g : GSem nD τ sig} {u : Unit} (hg : 0 < O₀ c g u) : (∃ d : Dev nD, g = barCell d) ∨ ∃ d : Dev nD, g = recvCell d c := by
    unfold O₀ at hg
    rw [Pi.add_apply, Finsupp.add_apply] at hg
    rcases Nat.eq_zero_or_pos (Ob c 0 g u) with h0 | h0
    · rw [h0, Nat.zero_add] at hg; exact Or.inr (Or_pos hg)
    · exact Or.inl (Ob_pos h0)
  refine MayOwe.of_cut (L := L) (lev := lv) 0 (fun q hq => by rw [Finset.mem_singleton.mp hq, L_tc]; exact Finset.mem_singleton_self _)
    (fun g u hg => by rcases key hg with ⟨d, rfl⟩ | ⟨d, rfl⟩ <;> exact Finset.mem_singleton_self _)
    (fun q hq => by rw [Finset.mem_singleton.mp hq]; exact hs.le)
    (fun g u hg => by
      rcases key hg with ⟨d, rfl⟩ | ⟨d, rfl⟩
      · exact Nat.one_pos
      · show 0 < lvAt (.dma (rsem c))
        unfold lvAt
        dsimp only
        rw [if_neg (by omega)]; decide)

/-! ## The semaphores together -/

/-- All the semaphores of the protocol on one device: the barrier, then the transfers'. -/
def csem (k : Fin 67) : SemLoc sig := if k = 0 then .reg barS else .dma ⟨k.val + 1, by have := k.isLt; show _ < 68; omega⟩
abbrev kcell (ck : Dev nD × Fin 67) : GSem nD τ sig := ((ck.1 : Thread nD τ), csem ck.2)

def kw (s : Fin 2) : Fin 67 := ⟨1 + s.val, by omega⟩
def ks (t : Dev nD) : Fin 67 := ⟨3 + t.val, by have : t.val < 32 := t.isLt; omega⟩
def kr (t : Dev nD) : Fin 67 := ⟨35 + t.val, by have : t.val < 32 := t.isLt; omega⟩

theorem kcell_bar (c : Dev nD) : kcell (c, 0) = barCell c := rfl
theorem kcell_w (c : Dev nD) (s : Fin 2) : kcell (c, kw s) = wCell c s := by
  refine Prod.ext rfl (show csem (kw s) = .dma (wsem s) from ?_)
  unfold csem
  rw [if_neg (fun h => by have := congrArg Fin.val h; simp only [kw] at this; exact absurd this (by show ¬ 1 + s.val = 0; omega))]
  exact congrArg SemLoc.dma (Fin.ext (by show 1 + s.val + 1 = 2 + s.val; omega))
theorem kcell_s (c t : Dev nD) : kcell (c, ks t) = sendCell c t := by
  refine Prod.ext rfl (show csem (ks t) = .dma (ssem t) from ?_)
  unfold csem
  rw [if_neg (fun h => by have := congrArg Fin.val h; simp only [ks] at this; exact absurd this (by show ¬ 3 + t.val = 0; omega))]
  exact congrArg SemLoc.dma (Fin.ext (by show 3 + t.val + 1 = 4 + t.val; omega))
theorem kcell_r (c t : Dev nD) : kcell (c, kr t) = recvCell c t := by
  refine Prod.ext rfl (show csem (kr t) = .dma (rsem t) from ?_)
  unfold csem
  rw [if_neg (fun h => by have := congrArg Fin.val h; simp only [kr] at this; exact absurd this (by show ¬ 35 + t.val = 0; omega))]
  exact congrArg SemLoc.dma (Fin.ext (by show 35 + t.val + 1 = 36 + t.val; omega))

/-- Every semaphore's invariant, and that its first round is reached. -/
def records (K : Dev nD × Fin 67 → ℕ) : sProp 𝕄 :=
  iprop((bigSep Finset.univ fun ck : Dev nD × Fin 67 => cellInv ER (Rd m) (K ck) (kcell ck))
    ∗ bigSep Finset.univ fun ck : Dev nD × Fin 67 => reached ER (kcell ck) 0)

instance records_persistent (K : Dev nD × Fin 67 → ℕ) : BI.Persistent (records m K) := by unfold records; infer_instance

section Records
variable (K : Dev nD × Fin 67 → ℕ) (c t : Dev nD) (s : Fin 2)

theorem rec_at (ck : Dev nD × Fin 67) {g : GSem nD τ sig} (h : kcell ck = g) :
    records m K ⊢ iprop(cellInv ER (Rd m) (K ck) g ∗ reached ER g 0) := by
  subst h
  unfold records
  exact BI.sep_mono (bigSep_elim (Finset.mem_univ ck)) (bigSep_elim (Finset.mem_univ ck))

theorem rec_bar : records m K ⊢ iprop(cellInv ER (Rd m) (K (c, 0)) (barCell c) ∗ reached ER (barCell c) 0) := rec_at m K _ (kcell_bar c)
theorem rec_w : records m K ⊢ iprop(cellInv ER (Rd m) (K (c, kw s)) (wCell c s) ∗ reached ER (wCell c s) 0) := rec_at m K _ (kcell_w c s)
theorem rec_send : records m K ⊢ iprop(cellInv ER (Rd m) (K (c, ks t)) (sendCell c t) ∗ reached ER (sendCell c t) 0) := rec_at m K _ (kcell_s c t)
theorem rec_recv : records m K ⊢ iprop(cellInv ER (Rd m) (K (c, kr t)) (recvCell c t) ∗ reached ER (recvCell c t) 0) := rec_at m K _ (kcell_r c t)

end Records

end Cert.KernelIdeal.A2A

end
-- ==== Proof.Steps.lean ====
/- One step of the protocol at a time: a signal, the start of a fetch and the wait for it, a block kept or sent, and the
   waits for a block received and for a block sent. Each is proved once, for any offsets with the closed form the kernel's
   have, and used wherever the kernel takes that step. -/
module

public import proofs.«01_k».proof.Proof.Schedule
public import Idealize.ShloMosaic.Lib.Exec
public import Idealize.SL.BI.BigOpNat

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 67 → ℕ)

abbrev 𝒱₀ : Variants := Variants.none

/-- The execution of a piece of device `c`'s program. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

theorem WP_ret {α : Type} (c : Dev nD) (a : α) (Q : α → sProp 𝕄) : Q a ⊢ WP c (.ret a) Q := by
  show Q a ⊢ wp frame (wpE (defs₀ (F := F)) 𝒱₀ (c : Thread nD τ) none) Set.univ (.ret a) Q
  iintro H; rw [wp_ret]; imodintro; iexact H

theorem WP_deviceId {α : Type} (c : Dev nD) (kk : Dev nD → Prog (TpuEff nD τ sig (Elt F) Λ₀ .tc) α) (Q : α → sProp 𝕄) :
    WP c (kk c) Q ⊢ WP c (.op .deviceId kk) Q :=
  Entails.of_eq (wp_deviceId 𝒱₀ (c : Thread nD τ) none Set.univ).symm

theorem WP_bind {α β : Type} (c : Dev nD) (p : Prog (TpuEff nD τ sig (Elt F) Λ₀ .tc) α) (k : α → Prog (TpuEff nD τ sig (Elt F) Λ₀ .tc) β)
    (Q : β → sProp 𝕄) : WP c p (fun a => WP c (k a) Q) ⊢ WP c (p >>= k) Q :=
  Entails.of_eq (wp_bind ..).symm

theorem WP_lift {α β : Type} (c : Dev nD) (e : TpuEff nD τ sig (Elt F) Λ₀ .tc α) (k : α → Prog (TpuEff nD τ sig (Elt F) Λ₀ .tc) β)
    (Q : β → sProp 𝕄) : WP c (.op e k) Q ⊢ WP c (Prog.lift e >>= k) Q :=
  Entails.of_eq (by simp only [Prog.lift, Prog.bind_op, Prog.bind_ret])

theorem WP_pos {α : Type} (c : Dev nD) {C : Prop} [Decidable C] (h : C) {x : C → Prog (TpuEff nD τ sig (Elt F) Λ₀ .tc) α}
    {y : ¬C → Prog (TpuEff nD τ sig (Elt F) Λ₀ .tc) α} {Q : α → sProp 𝕄} : WP c (x h) Q ⊢ WP c (if hh : C then x hh else y hh) Q :=
  Entails.of_eq (by rw [dif_pos h])
theorem WP_neg {α : Type} (c : Dev nD) {C : Prop} [Decidable C] (h : ¬C) {x : C → Prog (TpuEff nD τ sig (Elt F) Λ₀ .tc) α}
    {y : ¬C → Prog (TpuEff nD τ sig (Elt F) Λ₀ .tc) α} {Q : α → sProp 𝕄} : WP c (y h) Q ⊢ WP c (if hh : C then x hh else y hh) Q :=
  Entails.of_eq (by rw [dif_neg h])

/-! ## The barrier's signals -/

/-- Before signal `k`: what is owed, the signals' tokens, and the slots they hand over. -/
def Sig (c : Dev nD) (k : ℕ) (W : Waits sig Unit) : sProp 𝕄 :=
  iprop(owes (c : Thread nD τ) (Or c 0 + Ob c k) W
    ∗ bigSep (Finset.Ico k 31) fun s => iprop(dutyTok ER (barCell (toD c s)) 0 c ∗ ∃ f, recvPts c (toD c s) f))

theorem wp_signal_step (c d : Dev nD) {k : ℕ} (hk : k < 31) (hd : d = toD c k) (n : ℤ) (hn : n = ((1 : ℕ) : ℤ)) (W : Waits sig Unit)
    {α : Type} {Q : α → sProp 𝕄} {kk : PUnit → Prog (TpuEff nD τ sig (Elt F) Λ₀ .tc) α} :
    iprop(records m K ∗ Sig c k W) ⊢ iprop((Sig c (k + 1) W -∗ WP c (kk ⟨⟩) Q)
      -∗ WP c (.op (.semSignal (d : Thread nD τ) barS n) kk) Q) := by
  subst hd hn
  unfold Sig
  rw [bigSep_Ico_succ_bot hk, Ob_step c hk]
  iintro ⟨#HR, HO, ⟨Htok, Hp⟩, Hrest⟩ Hk
  ihave H := (rec_bar m K (toD c k)) $$ HR
  icases H with ⟨HI, Hr⟩
  iapply (Rounds.wp_signal 𝒱₀ ER (Rd m) (c : Thread nD τ) none (dst := (toD c k : Thread nD τ)) (κ := K (toD c k, 0))
      (d := c) (by rw [duties_bar]; exact Finset.mem_erase.mpr ⟨(toD_ne c hk).symm, Finset.mem_univ _⟩) (amount_bar m (toD c k) c) ()
      (Or c 0 + Ob c (k + 1)) (add_assoc _ _ _).symm) $$ [HI HO Htok Hp Hr]
  · isplitl [HI]; · iexact HI
    isplitl [HO]; · iexact HO
    isplitl [Htok]; · iexact Htok
    isplitl [Hp]; · rw [payload_bar]; iexact Hp
    iexact Hr
  iintro HO
  iapply Hk
  isplitl [HO] <;> iassumption

/-! ## The fetches -/

/-- Slot `s` free before its round `R`. -/
def Idle (c : Dev nD) (s : Fin 2) (R : ℕ) : sProp 𝕄 :=
  iprop(atPos ER (wCell c s) R ∅ 0 ∗ reached ER (wCell c s) R ∗ (bigSep (Finset.Ico R 8) fun r => dutyTok ER (wCell c s) r 0)
    ∗ (∃ f, wbufPts c s f) ∗ wPts m c s Finset.univ)
/-- Slot `s` with the fetch of round `R` under way. -/
def Fly (c : Dev nD) (s : Fin 2) (R : ℕ) : sProp 𝕄 :=
  iprop(atPos ER (wCell c s) R ∅ 0 ∗ (bigSep (Finset.Ico (R + 1) 8) fun r => dutyTok ER (wCell c s) r 0)
    ∗ cred (tallyAt (wCell c s) () NW) ∗ wPts m c s (Finset.univ \ wwin (fg c (2 * R + s.val)) (fk (2 * R + s.val))))

theorem wPts_split (c : Dev nD) (s : Fin 2) (g kc : Fin 4) :
    wPts m c s Finset.univ ⊣⊢ iprop(wPts m c s (wwin g kc) ∗ wPts m c s (Finset.univ \ wwin g kc)) := by
  unfold wPts; exact pointsTo_split_subset (Finset.subset_univ _)

theorem wPts_eq (c : Dev nD) (s : Fin 2) {offw : Fin 2 → ℕ} {g kc : Fin 4} (hw : offw = ![2048 * kc.val, 1024 * g.val])
    (inbw : ∀ a, offw a + S2048x1024.size a ≤ S8192x4096.size a) :
    wPts m c s (wwin g kc) = ((wwinM offw inbw).view.loc (c : Thread nD τ) ↦[(wwinM offw inbw).view.set]{half s} (wArr m c) : sProp 𝕄) :=
  congrArg (fun S : Finset S8192x4096.Idx => (((c : Thread nD τ).loc main_arg1) ↦[S]{half s} (wArr m c) : sProp 𝕄)) (set_wwin hw inbw).symm

theorem wbufPts_eq (c : Dev nD) {s : Fin 2} {off : Fin 3 → ℕ} (hs : off = ![s.val, 0, 0])
    (inb : ∀ a, off a + S1x2048x1024.size a ≤ S2x2048x1024.size a) (f : Vec F S2x2048x1024 .f32) :
    wbufPts c s f = ((wslotM off inb).view.loc (c : Thread nD τ) ↦[(wslotM off inb).view.set]{fullShare} f : sProp 𝕄) :=
  congrArg (fun S : Finset S2x2048x1024.Idx => (((c : Thread nD τ).loc cc0_scratch1) ↦[S]{fullShare} f : sProp 𝕄)) (set_wslot hs inb).symm

theorem NW_eq (off : Fin 3 → ℕ) (inb : ∀ a, off a + S1x2048x1024.size a ≤ S2x2048x1024.size a) (s : DmaSem sig) :
    (wslotM off inb).view.amount (.dma s) = NW := rfl
theorem NB_eq (off : Fin 3 → ℕ) (inb : ∀ a, off a + S1x256x128.size a ≤ S32x256x128.size a) (s : DmaSem sig) :
    (slotM rbM off inb).view.amount (.dma s) = NB := rfl

/-- A fetch that has landed makes the payload of its round. -/
theorem fetch_pay (c : Dev nD) {s : Fin 2} (R : ℕ) {off : Fin 3 → ℕ} (hs : off = ![s.val, 0, 0])
    (inb : ∀ a, off a + S1x2048x1024.size a ≤ S2x2048x1024.size a) {offw : Fin 2 → ℕ}
    (hw : offw = ![2048 * (fk (2 * R + s.val)).val, 1024 * (fg c (2 * R + s.val)).val])
    (inbw : ∀ a, offw a + S2048x1024.size a ≤ S8192x4096.size a) (f : Vec F S2x2048x1024 .f32) :
    iprop(((wslotM off inb).view.loc (c : Thread nD τ) ↦[(wslotM off inb).view.set]{fullShare}
          ((wslotM off inb).view.write (Elt F) f ((wwinM offw inbw).view.read (Elt F) (wArr m c)) Finset.univ))
        ∗ ((wwinM offw inbw).view.loc (c : Thread nD τ) ↦[(wwinM offw inbw).view.set]{half s} (wArr m c)))
      ⊢ (Rd m).payload (wCell c s) R 0 := by
  rw [payload_w]
  unfold wPay
  refine BI.sep_mono ?_ (Entails.of_eq (wPts_eq m c s hw inbw).symm)
  refine Entails.trans (Entails.of_eq ?_) (Entails.of_eq (wbufPts_eq c hs inb _).symm)
  exact pointsTo_congr fun i hi => landed_wslot m hs inb c hw inbw f i (by rw [set_wslot hs inb] at hi; exact hi)

theorem wp_fetch (c : Dev nD) {s : Fin 2} {R : ℕ} (hR : R < 8) {off : Fin 3 → ℕ} (hs : off = ![s.val, 0, 0])
    (inb : ∀ a, off a + S1x2048x1024.size a ≤ S2x2048x1024.size a) {offw : Fin 2 → ℕ}
    (hw : offw = ![2048 * (fk (2 * R + s.val)).val, 1024 * (fg c (2 * R + s.val)).val])
    (inbw : ∀ a, offw a + S2048x1024.size a ≤ S8192x4096.size a) (sem : DmaSem sig) (hsem : sem = wsem s)
    {h1 : (wwinM offw inbw).view.WordExact} {h2 : (wslotM off inb).view.WordExact}
    {h3 : DmaTarget.Typed .hbm (.dma sem) (DmaTarget.here (nD := nD) (τ := τ) (p := .tc) (wslotM off inb))}
    {α : Type} {Q : α → sProp 𝕄} {kk : PUnit → Prog (TpuEff nD τ sig (Elt F) Λ₀ .tc) α} :
    iprop(records m K ∗ Idle m c s R) ⊢ iprop((Fly m c s R -∗ WP c (kk ⟨⟩) Q)
      -∗ WP c (.op (.enqueueDma (wwinM offw inbw) (.here (wslotM off inb)) (.dma sem) h1 h2 h3) kk) Q) := by
  subst hsem
  unfold Idle Fly
  rw [bigSep_Ico_succ_bot hR]
  iintro ⟨#HR, Hat, Hr, ⟨Htok, Htoks⟩, ⟨%f, Hb⟩, Hw⟩ Hk
  ihave H := (rec_w m K c s) $$ HR
  icases H with ⟨HI, -⟩
  ihave Hw := (wPts_split m c s (fg c (2 * R + s.val)) (fk (2 * R + s.val))).1 $$ Hw
  icases Hw with ⟨Hw, Hw'⟩
  ihave Hw := (Entails.of_eq (wPts_eq m c s hw inbw)) $$ Hw
  ihave Hb := (Entails.of_eq (wbufPts_eq c hs inb f)) $$ Hb
  iapply (Rounds.wp_copy_pointsTo 𝒱₀ ER (Rd m) (c : Thread nD τ) none (κ := K (c, kw s)) (d := 0) (r := R)
      (by rw [duties_w m c s hR]; exact Finset.mem_singleton_self _) () NW (NW_eq off inb _) (amount_w m c s R 0)
      (fetch_pay m c R hs inb hw inbw f)) $$ [HI Hw Hb Htok Hr]
  · isplitl [HI]; · iexact HI
    isplitl [Hw]; · iexact Hw
    isplitl [Hb]; · iexact Hb
    isplitl [Htok] <;> iassumption
  iintro Hc
  iapply Hk
  isplitl [Hat]; · iexact Hat
  isplitl [Htoks]; · iexact Htoks
  isplitl [Hc] <;> iassumption

theorem wp_fetched (c : Dev nD) {s : Fin 2} {R : ℕ} (hR : R < 8) {off : Fin 3 → ℕ} (hs : off = ![s.val, 0, 0])
    (inb : ∀ a, off a + S1x2048x1024.size a ≤ S2x2048x1024.size a) {offw : Fin 2 → ℕ}
    (inbw : ∀ a, offw a + S2048x1024.size a ≤ S8192x4096.size a) (sem : DmaSem sig) (hsem : sem = wsem s)
    {h1 : (wwinM offw inbw).view.WordExact} {h2 : (wslotM off inb).view.WordExact} (p : ℕ) (W : Waits sig Unit)
    {α : Type} {Q : α → sProp 𝕄} {kk : PUnit → Prog (TpuEff nD τ sig (Elt F) Λ₀ .tc) α} :
    iprop(records m K ∗ levAts L lv ∗ owes (c : Thread nD τ) (Or c p) W ∗ Fly m c s R) ⊢ iprop((∀ W', owes (c : Thread nD τ) (Or c p) W'
          -∗ wbufPts c s (wbufArr m c (fg c (2 * R + s.val)) (fk (2 * R + s.val)))
          -∗ (wbufPts c s (wbufArr m c (fg c (2 * R + s.val)) (fk (2 * R + s.val))) -∗ Idle m c s (R + 1)) -∗ WP c (kk ⟨⟩) Q)
      -∗ WP c (.op (.waitDma2 sem (wwinM offw inbw) (wslotM off inb) h1 h2) kk) Q) := by
  subst hsem
  unfold Idle Fly
  iintro ⟨#HR, #Hlev, HO, Hat, Htoks, Hc, Hw⟩ Hk
  ihave H := (rec_w m K c s) $$ HR
  icases H with ⟨HI, -⟩
  iapply (Rounds.wp_wait_rest_token 𝒱₀ ER (Rd m) (c : Thread nD τ) none (κ := K (c, kw s))
      (wpE_waitDma2_eq 𝒱₀ (c : Thread nD τ) none Set.univ) (Set.mem_univ _) () (O := Or c p) (W := W) (R := R) (m := 0) (T := ∅)
      (by rw [Nat.zero_add, expect_w m c s hR])) $$ [HI Hc HO Hat]
  · isplitl [HI]; · iexact HI
    isplitl [Hc]; · iexact Hc
    isplitl [HO]; · iexact HO
    isplitr
    · iapply (mayWait_low c p (.dma (wsem s)) (by
        have := s.isLt
        show (if 2 + s.val < 36 then 0 else 2) ≤ 1
        rw [if_pos (by omega)]; decide))
      iexact Hlev
    iexact Hat
  iintro ⟨HO, Hat, Hr, Hpay⟩
  ihave Hp := (Entails.of_eq (rest_w m c s hR)) $$ Hpay
  unfold wPay
  icases Hp with ⟨Hb, Hw'⟩
  iapply Hk $$ HO Hb
  iintro Hb
  isplitl [Hat]; · iexact Hat
  isplitl [Hr]; · iexact Hr
  isplitl [Htoks]; · iexact Htoks
  isplitl [Hb]; · iexists _; iexact Hb
  iapply (wPts_split m c s _ _).2
  isplitl [Hw'] <;> iassumption

/-! ## The blocks of a column group, kept or sent -/

/-- The result's buffer with the rows of the devices in `P` in place. -/
def Outs (c : Dev nD) (P : Dev nD → Prop) : sProp 𝕄 :=
  iprop(∃ f : Vec F S8192x128 .f32, ⌜Agree m c P f⌝ ∗ (((c : Thread nD τ).loc cc0_stg1_0) ↦[Finset.univ]{fullShare} f))

/-- After block `p`'s turn, the device's own rows are in place if the block was its own or they were before. -/
def Own (c : Dev nD) (p : ℕ) (d : Dev nD) : Prop := d = c ∧ ∃ q, q < p ∧ pos c q = c

theorem Outs.mono {c : Dev nD} {P P' : Dev nD → Prop} (h : ∀ d, P' d → P d) : Outs m c P ⊢ Outs m c P' := by
  unfold Outs
  iintro ⟨%f, %hf, H⟩
  iexists f
  isplitr
  · ipureintro; exact hf.mono m h
  · iexact H

theorem wp_rows (c : Dev nD) {s : Dev nD} {P : Dev nD → Prop} {off : Fin 2 → ℕ} (h : off = ![256 * s.val, 0])
    (inb : ∀ a, off a + S256x128.size a ≤ S8192x128.size a) {w : Vec F S256x128 .f32} (hw : w = outBlk m c s)
    {hl : (oM).view.LoadsAt (Rect.unit (s := S8192x128) off S256x128.size inb).toLoadRect}
    {hx : ((oM).access (Rect.unit (s := S8192x128) off S256x128.size inb)).Stores Finset.univ}
    {hm : (Finset.univ : Finset S256x128.Idx) = Finset.univ ∨ ∀ a, (Rect.unit (s := S8192x128) off S256x128.size inb).stride a = 1}
    {α : Type} {Q : α → sProp 𝕄} {kk : PUnit → Prog (TpuEff nD τ sig (Elt F) Λ₀ .tc) α} :
    Outs m c P ⊢ iprop((Outs m c (fun d => P d ∨ d = s) -∗ WP c (kk ⟨⟩) Q)
      -∗ WP c (.op (.load oM (Rect.unit (s := S8192x128) off S256x128.size inb).toLoadRect hl) fun _ =>
        .op (.store oM (Rect.unit (s := S8192x128) off S256x128.size inb) w Finset.univ hx hm) kk) Q) := by
  unfold Outs
  iintro ⟨%f, %hf, H⟩ Hk
  iapply (wp_load 𝒱₀ (c : Thread nD τ) none Set.univ (m := oM) (Finset.subset_univ _)) $$ H; iintro H
  iapply (wp_store 𝒱₀ (c : Thread nD τ) none Set.univ (m := oM) (r := Rect.unit (s := S8192x128) off S256x128.size inb) (Mk := Finset.univ)
    (Finset.subset_univ _)) $$ H; iintro H
  iapply Hk
  iexists (((oM).access (Rect.unit (s := S8192x128) off S256x128.size inb)).write (Elt F) f w Finset.univ)
  isplitr
  · ipureintro; exact hf.store m h inb c hw
  · iexact H

theorem outBlk_self (c : Dev nD) : outBlk m c c = blkFor m c c := if_pos rfl

/-- The block of turn `p` is stored if it is the device's own. -/
theorem wp_own (c : Dev nD) {p : ℕ} {cond : BitVec 1} (hc : cond = 1#1 ↔ pos c p = c) {off : Fin 2 → ℕ} (h : off = ![256 * c.val, 0])
    (inb : cond = 1#1 → ∀ a, off a + S256x128.size a ≤ S8192x128.size a) {w : Vec F S256x128 .f32} (hw : w = blkFor m c (pos c p))
    {hl : ∀ hh : cond = 1#1, (oM).view.LoadsAt (Rect.unit (s := S8192x128) off S256x128.size (inb hh)).toLoadRect}
    {hx : ∀ hh : cond = 1#1, ((oM).access (Rect.unit (s := S8192x128) off S256x128.size (inb hh))).Stores Finset.univ}
    {hm : ∀ hh : cond = 1#1, (Finset.univ : Finset S256x128.Idx) = Finset.univ ∨ ∀ a, (Rect.unit (s := S8192x128) off S256x128.size (inb hh)).stride a = 1}
    {α : Type} {Q : α → sProp 𝕄} {kk : PUnit → Prog (TpuEff nD τ sig (Elt F) Λ₀ .tc) α} :
    Outs m c (Own c p) ⊢ iprop((Outs m c (Own c (p + 1)) -∗ WP c (kk ⟨⟩) Q)
      -∗ WP c (if hh : cond = 1#1 then
          Prog.lift (.load oM (Rect.unit (s := S8192x128) off S256x128.size (inb hh)).toLoadRect (hl hh)) >>= fun _ =>
            Prog.lift (.store oM (Rect.unit (s := S8192x128) off S256x128.size (inb hh)) w Finset.univ (hx hh) (hm hh)) >>= fun _ => kk ⟨⟩
        else kk ⟨⟩) Q) := by
  iintro H Hk
  by_cases hh : cond = 1#1
  · rw [dif_pos hh]
    simp only [Prog.lift, Prog.bind_op, Prog.bind_ret]
    have hp := hc.mp hh
    iapply (wp_rows m c (s := c) h (inb hh) (hw.trans (by rw [hp, outBlk_self]))) $$ H
    iintro H
    iapply Hk
    iapply (Outs.mono m (P := fun d => Own c p d ∨ d = c) (fun d hd => Or.inr hd.1)) $$ H
  · rw [dif_neg hh]
    have hp : pos c p ≠ c := fun e => hh (hc.mpr e)
    iapply Hk
    iapply (Outs.mono m (P := Own c p) (fun d hd => ⟨hd.1, by
      obtain ⟨q, hq, e⟩ := hd.2
      rcases Nat.lt_succ_iff_lt_or_eq.mp hq with h' | h'
      · exact ⟨q, h', e⟩
      · exact absurd (h' ▸ e) hp⟩)) $$ H

/-- What the transfer to `t` takes: the slot it leaves from, the slot it lands in, and the right to credit both semaphores. -/
def Undone (c t : Dev nD) : sProp 𝕄 :=
  iprop((∃ f, sendPts c t f) ∗ (∃ f, recvPts t c f)
    ∗ dutyTok ER (sendCell c t) 0 0 ∗ dutyTok ER (recvCell t c) 0 0)
/-- What is left once it is under way; the device's own slots stay where they are. -/
def Done (c t : Dev nD) : sProp 𝕄 :=
  if t = c then iprop((∃ f, sendPts c c f) ∗ ∃ f, recvPts c c f) else cred (tallyAt (sendCell c t) () NB)

/-- Before the turn of block `p`: what is owed, and the transfers still to come and those under way. -/
def Snd (c : Dev nD) (p : ℕ) : sProp 𝕄 :=
  iprop((∃ W, owes (c : Thread nD τ) (Or c p) W) ∗ (bigSep (Finset.Ico p 32) fun q => Undone c (pos c q))
    ∗ bigSep (Finset.Ico 0 p) fun q => Done c (pos c q))

theorem sendPts_eq (c : Dev nD) {t : Dev nD} {off : Fin 3 → ℕ} (ht : off = ![t.val, 0, 0])
    (inb : ∀ a, off a + S1x256x128.size a ≤ S32x256x128.size a) (f : Vec F S32x256x128 .bf16) :
    sendPts c t f = ((slotM sbM off inb).view.loc (c : Thread nD τ) ↦[(slotM sbM off inb).view.set]{fullShare} f : sProp 𝕄) :=
  congrArg (fun S : Finset S32x256x128.Idx => (((c : Thread nD τ).loc cc0_scratch3) ↦[S]{fullShare} f : sProp 𝕄)) (set_send ht inb).symm
theorem recvPts_eq (c : Dev nD) {t : Dev nD} {off : Fin 3 → ℕ} (ht : off = ![t.val, 0, 0])
    (inb : ∀ a, off a + S1x256x128.size a ≤ S32x256x128.size a) (f : Vec F S32x256x128 .bf16) :
    recvPts c t f = ((slotM rbM off inb).view.loc (c : Thread nD τ) ↦[(slotM rbM off inb).view.set]{fullShare} f : sProp 𝕄) :=
  congrArg (fun S : Finset S32x256x128.Idx => (((c : Thread nD τ).loc cc0_scratch4) ↦[S]{fullShare} f : sProp 𝕄)) (set_recv ht inb).symm

theorem send_pay₁ (c t : Dev nD) {off : Fin 3 → ℕ} (ht : off = ![t.val, 0, 0])
    (inb : ∀ a, off a + S1x256x128.size a ≤ S32x256x128.size a) (f : Vec F S32x256x128 .bf16) :
    ((slotM sbM off inb).view.loc (c : Thread nD τ) ↦[(slotM sbM off inb).view.set]{fullShare} f : sProp 𝕄)
      ⊢ (Rd m).payload (sendCell c t) 0 0 := by
  rw [payload_send, ← sendPts_eq c ht inb f]
  iintro H; iexists f; iexact H

/-- A block that has landed makes the payload of its receive semaphore. -/
theorem send_pay₂ (c t : Dev nD) {off off' : Fin 3 → ℕ} (ht : off = ![t.val, 0, 0]) (hd : off' = ![c.val, 0, 0])
    (inb : ∀ a, off a + S1x256x128.size a ≤ S32x256x128.size a) (inb' : ∀ a, off' a + S1x256x128.size a ≤ S32x256x128.size a)
    (fs fd : Vec F S32x256x128 .bf16) (hfs : ∀ i, i ∈ slot t → fs i = sent m c t (ix3 (n0 := 1) (n1 := 256) (n2 := 128) 0 (i 1) (i 2))) :
    ((slotM rbM off' inb').view.loc (t : Thread nD τ) ↦[(slotM rbM off' inb').view.set]{fullShare}
        ((slotM rbM off' inb').view.write (Elt F) fd ((slotM sbM off inb).view.read (Elt F) fs) Finset.univ) : sProp 𝕄)
      ⊢ (Rd m).payload (recvCell t c) 0 0 := by
  rw [payload_recv, recvPts_eq t hd inb' (recvArr m t)]
  refine Entails.of_eq (pointsTo_congr fun i hi => ?_)
  have hi : i ∈ slot c := by rw [set_recv hd inb'] at hi; exact hi
  refine (landed_slot ht hd inb inb' fs fd i hi).trans ((hfs _ (mem_slot.mpr rfl)).trans ?_)
  have e : (i 0 : Fin 32) = c := Fin.ext (mem_slot.mp hi)
  show sent m c t _ = sent m (i 0 : Fin 32) t _
  rw [e]
  rfl

theorem wp_transfer (c : Dev nD) {p : ℕ} (hp : p < 32) (hne : pos c p ≠ c)
    {offA off off' : Fin 3 → ℕ} (hA : offA = ![(pos c p).val, 0, 0]) (ht : off = ![(pos c p).val, 0, 0]) (hd : off' = ![c.val, 0, 0])
    (inbA : ∀ a, offA a + S1x256x128.size a ≤ S32x256x128.size a) (inb : ∀ a, off a + S1x256x128.size a ≤ S32x256x128.size a)
    (inb' : ∀ a, off' a + S1x256x128.size a ≤ S32x256x128.size a) {w : Vec F S1x256x128 .bf16} (hw : w = sent m c (pos c p))
    {dev : Dev nD} (hdev : dev = pos c p) {sS sR : DmaSem sig} (hsS : sS = ssem (pos c p)) (hsR : sR = rsem c)
    {hl : (sbM).view.LoadsAt (Rect.unit (s := S32x256x128) offA S1x256x128.size inbA).toLoadRect}
    {hx : ((sbM).access (Rect.unit (s := S32x256x128) offA S1x256x128.size inbA)).Stores Finset.univ}
    {hm : (Finset.univ : Finset S1x256x128.Idx) = Finset.univ ∨ ∀ a, (Rect.unit (s := S32x256x128) offA S1x256x128.size inbA).stride a = 1}
    {h1 : (slotM sbM off inb).view.WordExact} {h2 : (slotM rbM off' inb').view.WordExact}
    {h0 : (slotM rbM off' inb').view.ref.isScScratch = false}
    {h3 : DmaTarget.Typed .vmem (.dma sR) (DmaTarget.remote (nD := nD) (τ := τ) (p := .tc) (Dev.tc dev) (slotM rbM off' inb') (.dma sS) h0)}
    {α : Type} {Q : α → sProp 𝕄} {kk : PUnit → Prog (TpuEff nD τ sig (Elt F) Λ₀ .tc) α} :
    iprop(records m K ∗ (∃ W, owes (c : Thread nD τ) (Or c p) W) ∗ Undone (F := F) c (pos c p)) ⊢ iprop(
        ((∃ W, owes (c : Thread nD τ) (Or c (p + 1)) W) -∗ Done c (pos c p) -∗ WP c (kk ⟨⟩) Q)
      -∗ WP c (.op (.load sbM (Rect.unit (s := S32x256x128) offA S1x256x128.size inbA).toLoadRect hl) fun _ =>
            .op (.store sbM (Rect.unit (s := S32x256x128) offA S1x256x128.size inbA) w Finset.univ hx hm) fun _ =>
              .op (.enqueueDma (slotM sbM off inb) (.remote (Dev.tc dev) (slotM rbM off' inb') (.dma sS) h0) (.dma sR) h1 h2 h3) kk) Q) := by
  subst hdev hsS hsR
  unfold Undone
  iintro ⟨#HR, ⟨%W, HO⟩, ⟨%f, Hs⟩, ⟨%fd, Hr⟩, Ht1, Ht2⟩ Hk
  ihave H := (rec_send m K c (pos c p)) $$ HR
  icases H with ⟨HI1, Hr1⟩
  ihave H := (rec_recv m K (pos c p) c) $$ HR
  icases H with ⟨HI2, Hr2⟩
  unfold sendPts
  iapply (wp_load 𝒱₀ (c : Thread nD τ) none Set.univ (m := sbM) (load_send hA inbA)) $$ Hs; iintro Hs
  iapply (wp_store 𝒱₀ (c : Thread nD τ) none Set.univ (m := sbM) (r := Rect.unit (s := S32x256x128) offA S1x256x128.size inbA) (Mk := Finset.univ)
    (acc_send hA inbA)) $$ Hs; iintro Hs
  ihave Hs := (Entails.of_eq (sendPts_eq c ht inb (((sbM).access (Rect.unit (s := S32x256x128) offA S1x256x128.size inbA)).write (Elt F) f w Finset.univ))) $$ [Hs]
  · unfold sendPts; iexact Hs
  ihave Hr := (Entails.of_eq (recvPts_eq (pos c p) hd inb' fd)) $$ Hr
  iapply (Rounds.wp_send_pointsTo 𝒱₀ ER (Rd m) (c : Thread nD τ) none (c' := (pos c p : Thread nD τ))
      (κ₁ := K (c, ks (pos c p))) (κ₂ := K (pos c p, kr c)) (r₁ := 0) (r₂ := 0) (d₁ := 0) (d₂ := 0)
      (by rw [duties_send m c _ hne]; exact Finset.mem_singleton_self _)
      (by rw [duties_recv m (pos c p) c hne.symm]; exact Finset.mem_singleton_self _) () () NB (NB_eq off' inb' _)
      (amount_send m c _ 0) (amount_recv m _ c 0) (Or c (p + 1)) (Or_send c hp hne)
      (send_pay₁ m c (pos c p) ht inb _)
      (send_pay₂ m c (pos c p) ht hd inb inb' _ fd (fun i hi => (write_send hA inbA f w i hi).trans (congrFun hw _)))) $$ [HI1 HI2 Hs Hr HO Ht1 Hr1 Ht2 Hr2]
  · isplitl [HI1]; · iexact HI1
    isplitl [HI2]; · iexact HI2
    isplitl [Hs]; · iexact Hs
    isplitl [Hr]; · iexact Hr
    isplitl [HO]; · iexact HO
    isplitl [Ht1]; · iexact Ht1
    isplitl [Hr1]; · iexact Hr1
    isplitl [Ht2] <;> iassumption
  iintro ⟨Hc, HO⟩
  iapply Hk $$ [HO]
  · iexists W; iexact HO
  · unfold Done; rw [if_neg hne]; iexact Hc

/-- The block of turn `p` is sent to its device unless it is the device's own. -/
theorem wp_sendblk (c : Dev nD) {p : ℕ} (hp : p < 32) {cond : BitVec 1} (hc : cond = 1#1 ↔ pos c p ≠ c)
    {offA off off' : Fin 3 → ℕ} (hA : offA = ![(pos c p).val, 0, 0]) (ht : off = ![(pos c p).val, 0, 0]) (hd : off' = ![c.val, 0, 0])
    (inbA : cond = 1#1 → ∀ a, offA a + S1x256x128.size a ≤ S32x256x128.size a)
    (inb : cond = 1#1 → ∀ a, off a + S1x256x128.size a ≤ S32x256x128.size a)
    (inb' : cond = 1#1 → ∀ a, off' a + S1x256x128.size a ≤ S32x256x128.size a)
    {w : Vec F S1x256x128 .bf16} (hw : w = sent m c (pos c p))
    (dev : cond = 1#1 → Dev nD) (hdev : ∀ hh, dev hh = pos c p) (sS sR : cond = 1#1 → DmaSem sig)
    (hsS : ∀ hh, sS hh = ssem (pos c p)) (hsR : ∀ hh, sR hh = rsem c)
    {hl : ∀ hh : cond = 1#1, (sbM).view.LoadsAt (Rect.unit (s := S32x256x128) offA S1x256x128.size (inbA hh)).toLoadRect}
    {hx : ∀ hh : cond = 1#1, ((sbM).access (Rect.unit (s := S32x256x128) offA S1x256x128.size (inbA hh))).Stores Finset.univ}
    {hm : ∀ hh : cond = 1#1, (Finset.univ : Finset S1x256x128.Idx) = Finset.univ ∨ ∀ a, (Rect.unit (s := S32x256x128) offA S1x256x128.size (inbA hh)).stride a = 1}
    {h1 : ∀ hh : cond = 1#1, (slotM sbM off (inb hh)).view.WordExact} {h2 : ∀ hh : cond = 1#1, (slotM rbM off' (inb' hh)).view.WordExact}
    {h0 : ∀ hh : cond = 1#1, (slotM rbM off' (inb' hh)).view.ref.isScScratch = false}
    {h3 : ∀ hh : cond = 1#1, DmaTarget.Typed .vmem (.dma (sR hh)) (DmaTarget.remote (nD := nD) (τ := τ) (p := .tc) (Dev.tc (dev hh)) (slotM rbM off' (inb' hh)) (.dma (sS hh)) (h0 hh))}
    {α : Type} {Q : α → sProp 𝕄} {kk : PUnit → Prog (TpuEff nD τ sig (Elt F) Λ₀ .tc) α} :
    iprop(records m K ∗ Snd (F := F) c p) ⊢ iprop((Snd c (p + 1) -∗ WP c (kk ⟨⟩) Q)
      -∗ WP c (if hh : cond = 1#1 then
          Prog.lift (.load sbM (Rect.unit (s := S32x256x128) offA S1x256x128.size (inbA hh)).toLoadRect (hl hh)) >>= fun _ =>
            Prog.lift (.store sbM (Rect.unit (s := S32x256x128) offA S1x256x128.size (inbA hh)) w Finset.univ (hx hh) (hm hh)) >>= fun _ =>
              Prog.lift (.enqueueDma (slotM sbM off (inb hh)) (.remote (Dev.tc (dev hh)) (slotM rbM off' (inb' hh)) (.dma (sS hh)) (h0 hh)) (.dma (sR hh)) (h1 hh) (h2 hh) (h3 hh)) >>= fun _ => kk ⟨⟩
        else kk ⟨⟩) Q) := by
  unfold Snd
  rw [bigSep_Ico_succ_bot hp, bigSep_Ico_succ_top (Nat.zero_le p)]
  iintro ⟨#HR, ⟨%W, HO⟩, ⟨HU, HUs⟩, HD⟩ Hk
  by_cases hh : cond = 1#1
  · rw [dif_pos hh]
    simp only [Prog.lift, Prog.bind_op, Prog.bind_ret]
    iapply (wp_transfer m K c hp (hc.mp hh) hA ht hd (inbA hh) (inb hh) (inb' hh) hw (hdev hh) (hsS hh) (hsR hh)) $$ [HO HU]
    · isplitr; · iexact HR
      isplitl [HO]
      · iexists W; iexact HO
      · iexact HU
    iintro HO HDn
    iapply Hk
    isplitl [HO]; · iexact HO
    isplitl [HUs]; · iexact HUs
    isplitl [HDn]; · iexact HDn
    iexact HD
  · rw [dif_neg hh]
    have hpc : pos c p = c := by by_contra e; exact hh (hc.mpr e)
    ihave HU := (Entails.of_eq (show Undone c (pos c p) = (Undone c c : sProp 𝕄) by rw [hpc])) $$ HU
    unfold Undone
    icases HU with ⟨⟨%f, Hs⟩, ⟨%fd, Hr⟩, Ht1, Ht2⟩
    iapply Hk
    rw [← Or_own c hp hpc]
    isplitl [HO]; · iexists W; iexact HO
    isplitl [HUs]; · iexact HUs
    isplitl [Hs Hr]
    · unfold Done
      rw [if_pos hpc]
      isplitl [Hs]
      · iexists f; iexact Hs
      · iexists fd; iexact Hr
    iexact HD

/-! ## The waits -/

/-- The barrier: every other device has handed over its slot. -/
theorem wp_barrier (c : Dev nD) (W : Waits sig Unit) (n : ℤ) (hn : n = ((31 : ℕ) : ℤ)) {α : Type} {Q : α → sProp 𝕄}
    {kk : PUnit → Prog (TpuEff nD τ sig (Elt F) Λ₀ .tc) α} :
    iprop(records m K ∗ levAts L lv ∗ owes (c : Thread nD τ) (Or c 0) W ∗ atPos ER (barCell c) 0 ∅ 0 ∗ cred (tallyAt (barCell c) () 31))
      ⊢ iprop((∀ W', owes (c : Thread nD τ) (Or c 0) W' -∗ atPos ER (barCell c) 1 ∅ 0
          -∗ (bigSep (Finset.univ.erase c) fun q : Dev nD => iprop(∃ f, recvPts q c f)) -∗ WP c (kk ⟨⟩) Q)
      -∗ WP c (.op (.semWait barS n) kk) Q) := by
  subst hn
  iintro ⟨#HR, #Hlev, HO, Hat, Hc⟩ Hk
  ihave H := (rec_bar m K c) $$ HR
  icases H with ⟨HI, -⟩
  iapply (Rounds.wp_wait_rest_token 𝒱₀ ER (Rd m) (c : Thread nD τ) none (κ := K (c, 0))
      (wpE_semWait_eq 𝒱₀ (c : Thread nD τ) none Set.univ) (Set.mem_univ _) () (O := Or c 0) (W := W) (R := 0) (m := 0) (T := ∅)
      (by rw [Nat.zero_add, expect_bar])) $$ [HI Hc HO Hat]
  · isplitl [HI]; · iexact HI
    isplitl [Hc]; · iexact Hc
    isplitl [HO]; · iexact HO
    isplitr
    · iapply (mayWait_low c 0 (.reg barS) (by decide))
      iexact Hlev
    iexact Hat
  iintro ⟨HO, Hat, -, Hpay⟩
  ihave Hp := (Entails.of_eq (rest_bar m c)) $$ Hpay
  iapply Hk $$ HO Hat Hp

/-- The block from `src` is in. -/
theorem wp_received (c : Dev nD) {src : Dev nD} (hne : src ≠ c) {off off' : Fin 3 → ℕ}
    (inb : ∀ a, off a + S1x256x128.size a ≤ S32x256x128.size a) (inb' : ∀ a, off' a + S1x256x128.size a ≤ S32x256x128.size a)
    (sem : DmaSem sig) (hsem : sem = rsem src)
    {h1 : (slotM sbM off' inb').view.WordExact} {h2 : (slotM rbM off inb).view.WordExact} (W : Waits sig Unit)
    {α : Type} {Q : α → sProp 𝕄} {kk : PUnit → Prog (TpuEff nD τ sig (Elt F) Λ₀ .tc) α} :
    iprop(records m K ∗ owes (c : Thread nD τ) 0 W ∗ atPos ER (recvCell c src) 0 ∅ 0 ∗ cred (tallyAt (recvCell c src) () NB))
      ⊢ iprop((∀ W', owes (c : Thread nD τ) 0 W' -∗ atPos ER (recvCell c src) 1 ∅ 0 -∗ recvPts c src (recvArr m c) -∗ WP c (kk ⟨⟩) Q)
      -∗ WP c (.op (.waitDma2 sem (slotM sbM off' inb') (slotM rbM off inb) h1 h2) kk) Q) := by
  subst hsem
  iintro ⟨#HR, HO, Hat, Hc⟩ Hk
  ihave H := (rec_recv m K c src) $$ HR
  icases H with ⟨HI, -⟩
  iapply (Rounds.wp_wait_rest_token 𝒱₀ ER (Rd m) (c : Thread nD τ) none (κ := K (c, kr src))
      (wpE_waitDma2_eq 𝒱₀ (c : Thread nD τ) none Set.univ) (Set.mem_univ _) () (O := 0) (W := W) (R := 0) (m := 0) (T := ∅)
      (by rw [Nat.zero_add, expect_recv m c src hne])) $$ [HI Hc HO Hat]
  · isplitl [HI]; · iexact HI
    isplitl [Hc]; · iexact Hc
    isplitl [HO]; · iexact HO
    isplitr
    · rw [MayWait_zero]; iempintro
    iexact Hat
  iintro ⟨HO, Hat, -, Hpay⟩
  ihave Hp := (Entails.of_eq (rest_recv m c src hne)) $$ Hpay
  iapply Hk $$ HO Hat Hp

/-- The block for `t` has left. -/
theorem wp_sent (c : Dev nD) {t : Dev nD} (hne : t ≠ c) {off off' : Fin 3 → ℕ}
    (inb : ∀ a, off a + S1x256x128.size a ≤ S32x256x128.size a) (inb' : ∀ a, off' a + S1x256x128.size a ≤ S32x256x128.size a)
    (sem : DmaSem sig) (hsem : sem = ssem t)
    {h1 : (slotM rbM off inb).view.WordExact} {h2 : (slotM sbM off' inb').view.WordExact} (W : Waits sig Unit)
    {α : Type} {Q : α → sProp 𝕄} {kk : PUnit → Prog (TpuEff nD τ sig (Elt F) Λ₀ .tc) α} :
    iprop(records m K ∗ owes (c : Thread nD τ) 0 W ∗ atPos ER (sendCell c t) 0 ∅ 0 ∗ Done (F := F) c t)
      ⊢ iprop((∀ W', owes (c : Thread nD τ) 0 W' -∗ atPos ER (sendCell c t) 1 ∅ 0 -∗ (∃ f, sendPts c t f) -∗ WP c (kk ⟨⟩) Q)
      -∗ WP c (.op (.waitDma2 sem (slotM rbM off inb) (slotM sbM off' inb') h1 h2) kk) Q) := by
  subst hsem
  unfold Done
  rw [if_neg hne]
  iintro ⟨#HR, HO, Hat, Hc⟩ Hk
  ihave H := (rec_send m K c t) $$ HR
  icases H with ⟨HI, -⟩
  iapply (Rounds.wp_wait_rest_token 𝒱₀ ER (Rd m) (c : Thread nD τ) none (κ := K (c, ks t))
      (wpE_waitDma2_eq 𝒱₀ (c : Thread nD τ) none Set.univ) (Set.mem_univ _) () (O := 0) (W := W) (R := 0) (m := 0) (T := ∅)
      (by rw [Nat.zero_add, expect_send m c t hne])) $$ [HI Hc HO Hat]
  · isplitl [HI]; · iexact HI
    isplitl [Hc]; · iexact Hc
    isplitl [HO]; · iexact HO
    isplitr
    · rw [MayWait_zero]; iempintro
    iexact Hat
  iintro ⟨HO, Hat, -, Hpay⟩
  ihave Hp := (Entails.of_eq (rest_send m c t hne)) $$ Hpay
  iapply Hk $$ HO Hat Hp

end Cert.KernelIdeal.A2A

end
-- ==== Proof.Scalars.lean ====
/- The scalar arithmetic of the kernel in closed form. Every device number, offset and branch condition the kernel
   computes is a function of the device `d` and of a loop's trip; each is evaluated here once, over all of them. -/
module

public import proofs.«01_k».proof.Proof.Gen.KernelIdeal

@[expose] public section

set_option Elab.async false

namespace Cert.KernelIdeal.A2A

open Idealize.ShloMosaic Idealize.SL.Sem

/-- The peer that column block `j` of trip group `q` belongs to: the groups of eight peers are visited from the
    device's own one on, round the four of them. -/
def tgt (d : Dev nD) (q j : ℕ) : ℕ := 8 * ((d.val / 8 + q) % 4) + j

/-- The group of 1024 columns of `w` that trip group `q` multiplies by. -/
def grp (d : Dev nD) (q : ℕ) : ℕ := (d.val / 8 + q) % 4

/-! ## The barrier: the `p`-th signal goes to the device `p` places on -/

theorem dev1_eq : ∀ d : Dev nD, k0_dev1 d = (d.val + 1) % 32 := by decide +kernel
theorem dev2_eq : ∀ d : Dev nD, k0_dev2 d = (d.val + 2) % 32 := by decide +kernel
theorem dev3_eq : ∀ d : Dev nD, k0_dev3 d = (d.val + 3) % 32 := by decide +kernel
theorem dev4_eq : ∀ d : Dev nD, k0_dev4 d = (d.val + 4) % 32 := by decide +kernel
theorem dev5_eq : ∀ d : Dev nD, k0_dev5 d = (d.val + 5) % 32 := by decide +kernel
theorem dev6_eq : ∀ d : Dev nD, k0_dev6 d = (d.val + 6) % 32 := by decide +kernel
theorem dev7_eq : ∀ d : Dev nD, k0_dev7 d = (d.val + 7) % 32 := by decide +kernel
theorem dev8_eq : ∀ d : Dev nD, k0_dev8 d = (d.val + 8) % 32 := by decide +kernel
theorem dev9_eq : ∀ d : Dev nD, k0_dev9 d = (d.val + 9) % 32 := by decide +kernel
theorem dev10_eq : ∀ d : Dev nD, k0_dev10 d = (d.val + 10) % 32 := by decide +kernel
theorem dev11_eq : ∀ d : Dev nD, k0_dev11 d = (d.val + 11) % 32 := by decide +kernel
theorem dev12_eq : ∀ d : Dev nD, k0_dev12 d = (d.val + 12) % 32 := by decide +kernel
theorem dev13_eq : ∀ d : Dev nD, k0_dev13 d = (d.val + 13) % 32 := by decide +kernel
theorem dev14_eq : ∀ d : Dev nD, k0_dev14 d = (d.val + 14) % 32 := by decide +kernel
theorem dev15_eq : ∀ d : Dev nD, k0_dev15 d = (d.val + 15) % 32 := by decide +kernel
theorem dev16_eq : ∀ d : Dev nD, k0_dev16 d = (d.val + 16) % 32 := by decide +kernel
theorem dev17_eq : ∀ d : Dev nD, k0_dev17 d = (d.val + 17) % 32 := by decide +kernel
theorem dev18_eq : ∀ d : Dev nD, k0_dev18 d = (d.val + 18) % 32 := by decide +kernel
theorem dev19_eq : ∀ d : Dev nD, k0_dev19 d = (d.val + 19) % 32 := by decide +kernel
theorem dev20_eq : ∀ d : Dev nD, k0_dev20 d = (d.val + 20) % 32 := by decide +kernel
theorem dev21_eq : ∀ d : Dev nD, k0_dev21 d = (d.val + 21) % 32 := by decide +kernel
theorem dev22_eq : ∀ d : Dev nD, k0_dev22 d = (d.val + 22) % 32 := by decide +kernel
theorem dev23_eq : ∀ d : Dev nD, k0_dev23 d = (d.val + 23) % 32 := by decide +kernel
theorem dev24_eq : ∀ d : Dev nD, k0_dev24 d = (d.val + 24) % 32 := by decide +kernel
theorem dev25_eq : ∀ d : Dev nD, k0_dev25 d = (d.val + 25) % 32 := by decide +kernel
theorem dev26_eq : ∀ d : Dev nD, k0_dev26 d = (d.val + 26) % 32 := by decide +kernel
theorem dev27_eq : ∀ d : Dev nD, k0_dev27 d = (d.val + 27) % 32 := by decide +kernel
theorem dev28_eq : ∀ d : Dev nD, k0_dev28 d = (d.val + 28) % 32 := by decide +kernel
theorem dev29_eq : ∀ d : Dev nD, k0_dev29 d = (d.val + 29) % 32 := by decide +kernel
theorem dev30_eq : ∀ d : Dev nD, k0_dev30 d = (d.val + 30) % 32 := by decide +kernel
theorem dev31_eq : ∀ d : Dev nD, k0_dev31 d = (d.val + 31) % 32 := by decide +kernel

/-! ## The fetches of `w` -/

theorem off1_eq : ∀ d : Dev nD, k0_off1 d = ![0, 1024 * grp d 0] := by decide +kernel
theorem cond1_iff : ∀ t : Fin k0_t1_loop.trips, k0_cond1 t = 1#1 ↔ t.val < 15 := by decide +kernel
theorem off2_eq : ∀ t : Fin k0_t1_loop.trips, k0_off2 t = ![(t.val + 1) % 2] := by decide +kernel
theorem off3_eq : ∀ t : Fin k0_t1_loop.trips, k0_off3 t = ![(t.val + 1) % 2, 0, 0] := by decide +kernel
theorem off4_eq : ∀ (d : Dev nD) (t : Fin k0_t1_loop.trips),
    k0_off4 d t = ![2048 * ((t.val + 1) % 4), 1024 * grp d ((t.val + 1) / 4)] := by decide +kernel
theorem off5_eq : ∀ t : Fin k0_t1_loop.trips, k0_off5 t = ![t.val % 2] := by decide +kernel
theorem off6_eq : ∀ t : Fin k0_t1_loop.trips, k0_off6 t = ![t.val % 2, 0, 0] := by decide +kernel
theorem off7_eq : ∀ (d : Dev nD) (t : Fin k0_t1_loop.trips),
    k0_off7 d t = ![2048 * (t.val % 4), 1024 * grp d (t.val / 4)] := by decide +kernel
theorem off8_eq : ∀ t : Fin k0_t1_loop.trips, k0_off8 t = ![t.val % 2, 0, 0] := by decide +kernel
theorem off9_eq : ∀ t : Fin k0_t1_loop.trips, k0_off9 t = ![0, 2048 * (t.val % 4)] := by decide +kernel
theorem cond4_iff : ∀ t : Fin k0_t1_loop.trips, k0_cond4 t = 1#1 ↔ t.val % 4 = 3 := by decide +kernel

/-! ## The eight column blocks of a group -/

theorem own0_iff : ∀ (d : Dev nD) (t : Fin k0_t1_loop.trips),
    k0_cond5 d t = 1#1 ↔ tgt d (t.val / 4) 0 = d.val := by decide +kernel
theorem send0_iff : ∀ (d : Dev nD) (t : Fin k0_t1_loop.trips),
    k0_cond6 d t = 1#1 ↔ tgt d (t.val / 4) 0 ≠ d.val := by decide +kernel
theorem own0_off : ∀ d : Dev nD, k0_off10 d = ![256 * d.val, 0] := by decide +kernel
theorem blk0_off : ∀ (d : Dev nD) (t : Fin k0_t1_loop.trips),
    k0_off11 d t = ![tgt d (t.val / 4) 0, 0, 0] := by decide +kernel
theorem ssem0_off : ∀ (d : Dev nD) (t : Fin k0_t1_loop.trips),
    k0_off12 d t = ![tgt d (t.val / 4) 0] := by decide +kernel
theorem rsem0_off : ∀ d : Dev nD, k0_off13 d = ![d.val] := by decide +kernel
theorem dst0_off : ∀ d : Dev nD, k0_off14 d = ![d.val, 0, 0] := by decide +kernel
theorem src0_off : ∀ (d : Dev nD) (t : Fin k0_t1_loop.trips),
    k0_off15 d t = ![tgt d (t.val / 4) 0, 0, 0] := by decide +kernel
theorem peer0_eq : ∀ (d : Dev nD) (t : Fin k0_t1_loop.trips),
    k0_dev32 d t = tgt d (t.val / 4) 0 := by decide +kernel

theorem own1_iff : ∀ (d : Dev nD) (t : Fin k0_t1_loop.trips),
    k0_cond7 d t = 1#1 ↔ tgt d (t.val / 4) 1 = d.val := by decide +kernel
theorem send1_iff : ∀ (d : Dev nD) (t : Fin k0_t1_loop.trips),
    k0_cond8 d t = 1#1 ↔ tgt d (t.val / 4) 1 ≠ d.val := by decide +kernel
theorem own1_off : ∀ d : Dev nD, k0_off16 d = ![256 * d.val, 0] := by decide +kernel
theorem blk1_off : ∀ (d : Dev nD) (t : Fin k0_t1_loop.trips),
    k0_off17 d t = ![tgt d (t.val / 4) 1, 0, 0] := by decide +kernel
theorem ssem1_off : ∀ (d : Dev nD) (t : Fin k0_t1_loop.trips),
    k0_off18 d t = ![tgt d (t.val / 4) 1] := by decide +kernel
theorem rsem1_off : ∀ d : Dev nD, k0_off19 d = ![d.val] := by decide +kernel
theorem dst1_off : ∀ d : Dev nD, k0_off20 d = ![d.val, 0, 0] := by decide +kernel
theorem src1_off : ∀ (d : Dev nD) (t : Fin k0_t1_loop.trips),
    k0_off21 d t = ![tgt d (t.val / 4) 1, 0, 0] := by decide +kernel
theorem peer1_eq : ∀ (d : Dev nD) (t : Fin k0_t1_loop.trips),
    k0_dev33 d t = tgt d (t.val / 4) 1 := by decide +kernel

theorem own2_iff : ∀ (d : Dev nD) (t : Fin k0_t1_loop.trips),
    k0_cond9 d t = 1#1 ↔ tgt d (t.val / 4) 2 = d.val := by decide +kernel
theorem send2_iff : ∀ (d : Dev nD) (t : Fin k0_t1_loop.trips),
    k0_cond10 d t = 1#1 ↔ tgt d (t.val / 4) 2 ≠ d.val := by decide +kernel
theorem own2_off : ∀ d : Dev nD, k0_off22 d = ![256 * d.val, 0] := by decide +kernel
theorem blk2_off : ∀ (d : Dev nD) (t : Fin k0_t1_loop.trips),
    k0_off23 d t = ![tgt d (t.val / 4) 2, 0, 0] := by decide +kernel
theorem ssem2_off : ∀ (d : Dev nD) (t : Fin k0_t1_loop.trips),
    k0_off24 d t = ![tgt d (t.val / 4) 2] := by decide +kernel
theorem rsem2_off : ∀ d : Dev nD, k0_off25 d = ![d.val] := by decide +kernel
theorem dst2_off : ∀ d : Dev nD, k0_off26 d = ![d.val, 0, 0] := by decide +kernel
theorem src2_off : ∀ (d : Dev nD) (t : Fin k0_t1_loop.trips),
    k0_off27 d t = ![tgt d (t.val / 4) 2, 0, 0] := by decide +kernel
theorem peer2_eq : ∀ (d : Dev nD) (t : Fin k0_t1_loop.trips),
    k0_dev34 d t = tgt d (t.val / 4) 2 := by decide +kernel

theorem own3_iff : ∀ (d : Dev nD) (t : Fin k0_t1_loop.trips),
    k0_cond11 d t = 1#1 ↔ tgt d (t.val / 4) 3 = d.val := by decide +kernel
theorem send3_iff : ∀ (d : Dev nD) (t : Fin k0_t1_loop.trips),
    k0_cond12 d t = 1#1 ↔ tgt d (t.val / 4) 3 ≠ d.val := by decide +kernel
theorem own3_off : ∀ d : Dev nD, k0_off28 d = ![256 * d.val, 0] := by decide +kernel
theorem blk3_off : ∀ (d : Dev nD) (t : Fin k0_t1_loop.trips),
    k0_off29 d t = ![tgt d (t.val / 4) 3, 0, 0] := by decide +kernel
theorem ssem3_off : ∀ (d : Dev nD) (t : Fin k0_t1_loop.trips),
    k0_off30 d t = ![tgt d (t.val / 4) 3] := by decide +kernel
theorem rsem3_off : ∀ d : Dev nD, k0_off31 d = ![d.val] := by decide +kernel
theorem dst3_off : ∀ d : Dev nD, k0_off32 d = ![d.val, 0, 0] := by decide +kernel
theorem src3_off : ∀ (d : Dev nD) (t : Fin k0_t1_loop.trips),
    k0_off33 d t = ![tgt d (t.val / 4) 3, 0, 0] := by decide +kernel
theorem peer3_eq : ∀ (d : Dev nD) (t : Fin k0_t1_loop.trips),
    k0_dev35 d t = tgt d (t.val / 4) 3 := by decide +kernel

theorem own4_iff : ∀ (d : Dev nD) (t : Fin k0_t1_loop.trips),
    k0_cond13 d t = 1#1 ↔ tgt d (t.val / 4) 4 = d.val := by decide +kernel
theorem send4_iff : ∀ (d : Dev nD) (t : Fin k0_t1_loop.trips),
    k0_cond14 d t = 1#1 ↔ tgt d (t.val / 4) 4 ≠ d.val := by decide +kernel
theorem own4_off : ∀ d : Dev nD, k0_off34 d = ![256 * d.val, 0] := by decide +kernel
theorem blk4_off : ∀ (d : Dev nD) (t : Fin k0_t1_loop.trips),
    k0_off35 d t = ![tgt d (t.val / 4) 4, 0, 0] := by decide +kernel
theorem ssem4_off : ∀ (d : Dev nD) (t : Fin k0_t1_loop.trips),
    k0_off36 d t = ![tgt d (t.val / 4) 4] := by decide +kernel
theorem rsem4_off : ∀ d : Dev nD, k0_off37 d = ![d.val] := by decide +kernel
theorem dst4_off : ∀ d : Dev nD, k0_off38 d = ![d.val, 0, 0] := by decide +kernel
theorem src4_off : ∀ (d : Dev nD) (t : Fin k0_t1_loop.trips),
    k0_off39 d t = ![tgt d (t.val / 4) 4, 0, 0] := by decide +kernel
theorem peer4_eq : ∀ (d : Dev nD) (t : Fin k0_t1_loop.trips),
    k0_dev36 d t = tgt d (t.val / 4) 4 := by decide +kernel

theorem own5_iff : ∀ (d : Dev nD) (t : Fin k0_t1_loop.trips),
    k0_cond15 d t = 1#1 ↔ tgt d (t.val / 4) 5 = d.val := by decide +kernel
theorem send5_iff : ∀ (d : Dev nD) (t : Fin k0_t1_loop.trips),
    k0_cond16 d t = 1#1 ↔ tgt d (t.val / 4) 5 ≠ d.val := by decide +kernel
theorem own5_off : ∀ d : Dev nD, k0_off40 d = ![256 * d.val, 0] := by decide +kernel
theorem blk5_off : ∀ (d : Dev nD) (t : Fin k0_t1_loop.trips),
    k0_off41 d t = ![tgt d (t.val / 4) 5, 0, 0] := by decide +kernel
theorem ssem5_off : ∀ (d : Dev nD) (t : Fin k0_t1_loop.trips),
    k0_off42 d t = ![tgt d (t.val / 4) 5] := by decide +kernel
theorem rsem5_off : ∀ d : Dev nD, k0_off43 d = ![d.val] := by decide +kernel
theorem dst5_off : ∀ d : Dev nD, k0_off44 d = ![d.val, 0, 0] := by decide +kernel
theorem src5_off : ∀ (d : Dev nD) (t : Fin k0_t1_loop.trips),
    k0_off45 d t = ![tgt d (t.val / 4) 5, 0, 0] := by decide +kernel
theorem peer5_eq : ∀ (d : Dev nD) (t : Fin k0_t1_loop.trips),
    k0_dev37 d t = tgt d (t.val / 4) 5 := by decide +kernel

theorem own6_iff : ∀ (d : Dev nD) (t : Fin k0_t1_loop.trips),
    k0_cond17 d t = 1#1 ↔ tgt d (t.val / 4) 6 = d.val := by decide +kernel
theorem send6_iff : ∀ (d : Dev nD) (t : Fin k0_t1_loop.trips),
    k0_cond18 d t = 1#1 ↔ tgt d (t.val / 4) 6 ≠ d.val := by decide +kernel
theorem own6_off : ∀ d : Dev nD, k0_off46 d = ![256 * d.val, 0] := by decide +kernel
theorem blk6_off : ∀ (d : Dev nD) (t : Fin k0_t1_loop.trips),
    k0_off47 d t = ![tgt d (t.val / 4) 6, 0, 0] := by decide +kernel
theorem ssem6_off : ∀ (d : Dev nD) (t : Fin k0_t1_loop.trips),
    k0_off48 d t = ![tgt d (t.val / 4) 6] := by decide +kernel
theorem rsem6_off : ∀ d : Dev nD, k0_off49 d = ![d.val] := by decide +kernel
theorem dst6_off : ∀ d : Dev nD, k0_off50 d = ![d.val, 0, 0] := by decide +kernel
theorem src6_off : ∀ (d : Dev nD) (t : Fin k0_t1_loop.trips),
    k0_off51 d t = ![tgt d (t.val / 4) 6, 0, 0] := by decide +kernel
theorem peer6_eq : ∀ (d : Dev nD) (t : Fin k0_t1_loop.trips),
    k0_dev38 d t = tgt d (t.val / 4) 6 := by decide +kernel

theorem own7_iff : ∀ (d : Dev nD) (t : Fin k0_t1_loop.trips),
    k0_cond19 d t = 1#1 ↔ tgt d (t.val / 4) 7 = d.val := by decide +kernel
theorem send7_iff : ∀ (d : Dev nD) (t : Fin k0_t1_loop.trips),
    k0_cond20 d t = 1#1 ↔ tgt d (t.val / 4) 7 ≠ d.val := by decide +kernel
theorem own7_off : ∀ d : Dev nD, k0_off52 d = ![256 * d.val, 0] := by decide +kernel
theorem blk7_off : ∀ (d : Dev nD) (t : Fin k0_t1_loop.trips),
    k0_off53 d t = ![tgt d (t.val / 4) 7, 0, 0] := by decide +kernel
theorem ssem7_off : ∀ (d : Dev nD) (t : Fin k0_t1_loop.trips),
    k0_off54 d t = ![tgt d (t.val / 4) 7] := by decide +kernel
theorem rsem7_off : ∀ d : Dev nD, k0_off55 d = ![d.val] := by decide +kernel
theorem dst7_off : ∀ d : Dev nD, k0_off56 d = ![d.val, 0, 0] := by decide +kernel
theorem src7_off : ∀ (d : Dev nD) (t : Fin k0_t1_loop.trips),
    k0_off57 d t = ![tgt d (t.val / 4) 7, 0, 0] := by decide +kernel
theorem peer7_eq : ∀ (d : Dev nD) (t : Fin k0_t1_loop.trips),
    k0_dev39 d t = tgt d (t.val / 4) 7 := by decide +kernel

/-! ## The receive loop: trip `s` takes the block from `s + 1` places back and closes the send to `s + 1` on -/

/-- The device whose block the trip `s` of the receive loop takes. -/
def from_ (d : Dev nD) (s : ℕ) : ℕ := (d.val + 31 - s) % 32
/-- The device whose send the trip `s` of the receive loop waits for. -/
def to_ (d : Dev nD) (s : ℕ) : ℕ := (d.val + 1 + s) % 32

theorem off58_eq : ∀ (d : Dev nD) (s : Fin k0_t2_loop.trips), k0_off58 d s = ![from_ d s] := by decide +kernel
theorem off59_eq : ∀ (d : Dev nD) (s : Fin k0_t2_loop.trips), k0_off59 d s = ![from_ d s, 0, 0] := by decide +kernel
theorem off60_eq : ∀ (d : Dev nD) (s : Fin k0_t2_loop.trips), k0_off60 d s = ![to_ d s, 0, 0] := by decide +kernel
theorem off61_eq : ∀ (d : Dev nD) (s : Fin k0_t2_loop.trips), k0_off61 d s = ![from_ d s, 0, 0] := by decide +kernel
theorem off62_eq : ∀ (d : Dev nD) (s : Fin k0_t2_loop.trips), k0_off62 d s = ![256 * from_ d s, 0] := by decide +kernel
theorem off63_eq : ∀ (d : Dev nD) (s : Fin k0_t2_loop.trips), k0_off63 d s = ![to_ d s] := by decide +kernel

end Cert.KernelIdeal.A2A

end
-- ==== Proof.Signals.lean ====
/- The start of the kernel, part by part: thirty-one signals on the other devices' barrier semaphores. -/
module

public import proofs.«01_k».proof.Proof.Steps
public import proofs.«01_k».proof.Proof.Scalars
public import proofs.«01_k».proof.Proof.Gen.KernelIdeal.Skeleton

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 67 → ℕ)

abbrev barA : Sems sig S_ := SemArray.scalar (sig.barrier 0 rfl)

theorem wp_part8 (c : Dev nD) (W : Waits sig Unit) {Φ : (Σ' (d0 : Dev nD) (v2 : BitVec 32) (v3 : Sems sig S_) (v30 : BitVec 32) (c32_i32_18 : BitVec 32), BitVec 1) → sProp 𝕄} :
    iprop(records m K ∗ Sig c 0 W) ⊢ iprop(iprop(∀ v2 a b d, Sig c 2 W -∗ Φ ⟨c, v2, barA, a, b, d⟩) -∗ WP c (k0_part8 (F := F) xM (Memref.isWhole_whole _) wM (Memref.isWhole_whole _) oM (Memref.isWhole_whole _) xbM (Memref.isWhole_whole _) wbM (Memref.isWhole_whole _) accM (Memref.isWhole_whole _) sbM (Memref.isWhole_whole _) rbM (Memref.isWhole_whole _) cc0_scratch5 cc0_scratch6 cc0_scratch7) Φ) := by
  rw [k0_part8_eq_skeleton]
  unfold k0_part8_skel
  simp only [semSignalWord, Prog.lift, Prog.bind_op, Prog.bind_ret, Prog.pure_eq_ret]
  iintro ⟨#HR, HS⟩ Hk
  iapply (WP_deviceId c)
  iapply (wp_signal_step m K c _ (k := 0) (by decide) (Fin.ext ((dev1_eq c).trans (by show _ = (_ + 1 + 0) % 32; rw [Nat.add_assoc]))) _ (by decide) W) $$ [HS]
  · isplitr; · iexact HR
    iexact HS
  iintro HS
  iapply (wp_signal_step m K c _ (k := 1) (by decide) (Fin.ext ((dev2_eq c).trans (by show _ = (_ + 1 + 1) % 32; rw [Nat.add_assoc]))) _ (by decide) W) $$ [HS]
  · isplitr; · iexact HR
    iexact HS
  iintro HS
  iapply (WP_ret c _ Φ)
  iapply Hk $$ HS

theorem wp_part9 (c : Dev nD) (W : Waits sig Unit) (v2 : BitVec 32) (v30 : BitVec 32) (c32_i32_18 : BitVec 32) (v31 : BitVec 1) {Φ : (Σ' (v59 : BitVec 32) (v64 : BitVec 1), BitVec 32) → sProp 𝕄} :
    iprop(records m K ∗ Sig c 2 W) ⊢ iprop(iprop(∀ r, Sig c 4 W -∗ Φ r) -∗ WP c (k0_part9 (F := F) xM (Memref.isWhole_whole _) wM (Memref.isWhole_whole _) oM (Memref.isWhole_whole _) xbM (Memref.isWhole_whole _) wbM (Memref.isWhole_whole _) accM (Memref.isWhole_whole _) sbM (Memref.isWhole_whole _) rbM (Memref.isWhole_whole _) cc0_scratch5 cc0_scratch6 cc0_scratch7 c v2 barA v30 c32_i32_18 v31) Φ) := by
  rw [k0_part9_eq_skeleton]
  unfold k0_part9_skel
  simp only [semSignalWord, Prog.lift, Prog.bind_op, Prog.bind_ret, Prog.pure_eq_ret]
  iintro ⟨#HR, HS⟩ Hk
  iapply (wp_signal_step m K c _ (k := 2) (by decide) (Fin.ext ((dev3_eq c).trans (by show _ = (_ + 1 + 2) % 32; rw [Nat.add_assoc]))) _ (by decide) W) $$ [HS]
  · isplitr; · iexact HR
    iexact HS
  iintro HS
  iapply (wp_signal_step m K c _ (k := 3) (by decide) (Fin.ext ((dev4_eq c).trans (by show _ = (_ + 1 + 3) % 32; rw [Nat.add_assoc]))) _ (by decide) W) $$ [HS]
  · isplitr; · iexact HR
    iexact HS
  iintro HS
  iapply (WP_ret c _ Φ)
  iapply Hk $$ HS

theorem wp_part10 (c : Dev nD) (W : Waits sig Unit) (v2 : BitVec 32) (v59 : BitVec 32) (v64 : BitVec 1) (v65 : BitVec 32) {Φ : (Σ' (v95 : BitVec 32) (c32_i32_63 : BitVec 32), BitVec 1) → sProp 𝕄} :
    iprop(records m K ∗ Sig c 4 W) ⊢ iprop(iprop(∀ r, Sig c 7 W -∗ Φ r) -∗ WP c (k0_part10 (F := F) xM (Memref.isWhole_whole _) wM (Memref.isWhole_whole _) oM (Memref.isWhole_whole _) xbM (Memref.isWhole_whole _) wbM (Memref.isWhole_whole _) accM (Memref.isWhole_whole _) sbM (Memref.isWhole_whole _) rbM (Memref.isWhole_whole _) cc0_scratch5 cc0_scratch6 cc0_scratch7 c v2 barA v59 v64 v65) Φ) := by
  rw [k0_part10_eq_skeleton]
  unfold k0_part10_skel
  simp only [semSignalWord, Prog.lift, Prog.bind_op, Prog.bind_ret, Prog.pure_eq_ret]
  iintro ⟨#HR, HS⟩ Hk
  iapply (wp_signal_step m K c _ (k := 4) (by decide) (Fin.ext ((dev5_eq c).trans (by show _ = (_ + 1 + 4) % 32; rw [Nat.add_assoc]))) _ (by decide) W) $$ [HS]
  · isplitr; · iexact HR
    iexact HS
  iintro HS
  iapply (wp_signal_step m K c _ (k := 5) (by decide) (Fin.ext ((dev6_eq c).trans (by show _ = (_ + 1 + 5) % 32; rw [Nat.add_assoc]))) _ (by decide) W) $$ [HS]
  · isplitr; · iexact HR
    iexact HS
  iintro HS
  iapply (wp_signal_step m K c _ (k := 6) (by decide) (Fin.ext ((dev7_eq c).trans (by show _ = (_ + 1 + 6) % 32; rw [Nat.add_assoc]))) _ (by decide) W) $$ [HS]
  · isplitr; · iexact HR
    iexact HS
  iintro HS
  iapply (WP_ret c _ Φ)
  iapply Hk $$ HS

theorem wp_part11 (c : Dev nD) (W : Waits sig Unit) (v2 : BitVec 32) (v95 : BitVec 32) (c32_i32_63 : BitVec 32) (v96 : BitVec 1) {Φ : (Σ' (v124 : BitVec 32) (v129 : BitVec 1), BitVec 32) → sProp 𝕄} :
    iprop(records m K ∗ Sig c 7 W) ⊢ iprop(iprop(∀ r, Sig c 9 W -∗ Φ r) -∗ WP c (k0_part11 (F := F) xM (Memref.isWhole_whole _) wM (Memref.isWhole_whole _) oM (Memref.isWhole_whole _) xbM (Memref.isWhole_whole _) wbM (Memref.isWhole_whole _) accM (Memref.isWhole_whole _) sbM (Memref.isWhole_whole _) rbM (Memref.isWhole_whole _) cc0_scratch5 cc0_scratch6 cc0_scratch7 c v2 barA v95 c32_i32_63 v96) Φ) := by
  rw [k0_part11_eq_skeleton]
  unfold k0_part11_skel
  simp only [semSignalWord, Prog.lift, Prog.bind_op, Prog.bind_ret, Prog.pure_eq_ret]
  iintro ⟨#HR, HS⟩ Hk
  iapply (wp_signal_step m K c _ (k := 7) (by decide) (Fin.ext ((dev8_eq c).trans (by show _ = (_ + 1 + 7) % 32; rw [Nat.add_assoc]))) _ (by decide) W) $$ [HS]
  · isplitr; · iexact HR
    iexact HS
  iintro HS
  iapply (wp_signal_step m K c _ (k := 8) (by decide) (Fin.ext ((dev9_eq c).trans (by show _ = (_ + 1 + 8) % 32; rw [Nat.add_assoc]))) _ (by decide) W) $$ [HS]
  · isplitr; · iexact HR
    iexact HS
  iintro HS
  iapply (WP_ret c _ Φ)
  iapply Hk $$ HS

theorem wp_part12 (c : Dev nD) (W : Waits sig Unit) (v2 : BitVec 32) (v124 : BitVec 32) (v129 : BitVec 1) (v130 : BitVec 32) {Φ : (Σ' (v160 : BitVec 32) (c32_i32_108 : BitVec 32), BitVec 1) → sProp 𝕄} :
    iprop(records m K ∗ Sig c 9 W) ⊢ iprop(iprop(∀ r, Sig c 12 W -∗ Φ r) -∗ WP c (k0_part12 (F := F) xM (Memref.isWhole_whole _) wM (Memref.isWhole_whole _) oM (Memref.isWhole_whole _) xbM (Memref.isWhole_whole _) wbM (Memref.isWhole_whole _) accM (Memref.isWhole_whole _) sbM (Memref.isWhole_whole _) rbM (Memref.isWhole_whole _) cc0_scratch5 cc0_scratch6 cc0_scratch7 c v2 barA v124 v129 v130) Φ) := by
  rw [k0_part12_eq_skeleton]
  unfold k0_part12_skel
  simp only [semSignalWord, Prog.lift, Prog.bind_op, Prog.bind_ret, Prog.pure_eq_ret]
  iintro ⟨#HR, HS⟩ Hk
  iapply (wp_signal_step m K c _ (k := 9) (by decide) (Fin.ext ((dev10_eq c).trans (by show _ = (_ + 1 + 9) % 32; rw [Nat.add_assoc]))) _ (by decide) W) $$ [HS]
  · isplitr; · iexact HR
    iexact HS
  iintro HS
  iapply (wp_signal_step m K c _ (k := 10) (by decide) (Fin.ext ((dev11_eq c).trans (by show _ = (_ + 1 + 10) % 32; rw [Nat.add_assoc]))) _ (by decide) W) $$ [HS]
  · isplitr; · iexact HR
    iexact HS
  iintro HS
  iapply (wp_signal_step m K c _ (k := 11) (by decide) (Fin.ext ((dev12_eq c).trans (by show _ = (_ + 1 + 11) % 32; rw [Nat.add_assoc]))) _ (by decide) W) $$ [HS]
  · isplitr; · iexact HR
    iexact HS
  iintro HS
  iapply (WP_ret c _ Φ)
  iapply Hk $$ HS

theorem wp_part13 (c : Dev nD) (W : Waits sig Unit) (v2 : BitVec 32) (v160 : BitVec 32) (c32_i32_108 : BitVec 32) (v161 : BitVec 1) {Φ : (Σ' (v189 : BitVec 32) (v194 : BitVec 1), BitVec 32) → sProp 𝕄} :
    iprop(records m K ∗ Sig c 12 W) ⊢ iprop(iprop(∀ r, Sig c 14 W -∗ Φ r) -∗ WP c (k0_part13 (F := F) xM (Memref.isWhole_whole _) wM (Memref.isWhole_whole _) oM (Memref.isWhole_whole _) xbM (Memref.isWhole_whole _) wbM (Memref.isWhole_whole _) accM (Memref.isWhole_whole _) sbM (Memref.isWhole_whole _) rbM (Memref.isWhole_whole _) cc0_scratch5 cc0_scratch6 cc0_scratch7 c v2 barA v160 c32_i32_108 v161) Φ) := by
  rw [k0_part13_eq_skeleton]
  unfold k0_part13_skel
  simp only [semSignalWord, Prog.lift, Prog.bind_op, Prog.bind_ret, Prog.pure_eq_ret]
  iintro ⟨#HR, HS⟩ Hk
  iapply (wp_signal_step m K c _ (k := 12) (by decide) (Fin.ext ((dev13_eq c).trans (by show _ = (_ + 1 + 12) % 32; rw [Nat.add_assoc]))) _ (by decide) W) $$ [HS]
  · isplitr; · iexact HR
    iexact HS
  iintro HS
  iapply (wp_signal_step m K c _ (k := 13) (by decide) (Fin.ext ((dev14_eq c).trans (by show _ = (_ + 1 + 13) % 32; rw [Nat.add_assoc]))) _ (by decide) W) $$ [HS]
  · isplitr; · iexact HR
    iexact HS
  iintro HS
  iapply (WP_ret c _ Φ)
  iapply Hk $$ HS

theorem wp_part14 (c : Dev nD) (W : Waits sig Unit) (v2 : BitVec 32) (v189 : BitVec 32) (v194 : BitVec 1) (v195 : BitVec 32) {Φ : (Σ' (v225 : BitVec 32) (c32_i32_153 : BitVec 32), BitVec 1) → sProp 𝕄} :
    iprop(records m K ∗ Sig c 14 W) ⊢ iprop(iprop(∀ r, Sig c 17 W -∗ Φ r) -∗ WP c (k0_part14 (F := F) xM (Memref.isWhole_whole _) wM (Memref.isWhole_whole _) oM (Memref.isWhole_whole _) xbM (Memref.isWhole_whole _) wbM (Memref.isWhole_whole _) accM (Memref.isWhole_whole _) sbM (Memref.isWhole_whole _) rbM (Memref.isWhole_whole _) cc0_scratch5 cc0_scratch6 cc0_scratch7 c v2 barA v189 v194 v195) Φ) := by
  rw [k0_part14_eq_skeleton]
  unfold k0_part14_skel
  simp only [semSignalWord, Prog.lift, Prog.bind_op, Prog.bind_ret, Prog.pure_eq_ret]
  iintro ⟨#HR, HS⟩ Hk
  iapply (wp_signal_step m K c _ (k := 14) (by decide) (Fin.ext ((dev15_eq c).trans (by show _ = (_ + 1 + 14) % 32; rw [Nat.add_assoc]))) _ (by decide) W) $$ [HS]
  · isplitr; · iexact HR
    iexact HS
  iintro HS
  iapply (wp_signal_step m K c _ (k := 15) (by decide) (Fin.ext ((dev16_eq c).trans (by show _ = (_ + 1 + 15) % 32; rw [Nat.add_assoc]))) _ (by decide) W) $$ [HS]
  · isplitr; · iexact HR
    iexact HS
  iintro HS
  iapply (wp_signal_step m K c _ (k := 16) (by decide) (Fin.ext ((dev17_eq c).trans (by show _ = (_ + 1 + 16) % 32; rw [Nat.add_assoc]))) _ (by decide) W) $$ [HS]
  · isplitr; · iexact HR
    iexact HS
  iintro HS
  iapply (WP_ret c _ Φ)
  iapply Hk $$ HS

theorem wp_part15 (c : Dev nD) (W : Waits sig Unit) (v2 : BitVec 32) (v225 : BitVec 32) (c32_i32_153 : BitVec 32) (v226 : BitVec 1) {Φ : (Σ' (v254 : BitVec 32) (v259 : BitVec 1), BitVec 32) → sProp 𝕄} :
    iprop(records m K ∗ Sig c 17 W) ⊢ iprop(iprop(∀ r, Sig c 19 W -∗ Φ r) -∗ WP c (k0_part15 (F := F) xM (Memref.isWhole_whole _) wM (Memref.isWhole_whole _) oM (Memref.isWhole_whole _) xbM (Memref.isWhole_whole _) wbM (Memref.isWhole_whole _) accM (Memref.isWhole_whole _) sbM (Memref.isWhole_whole _) rbM (Memref.isWhole_whole _) cc0_scratch5 cc0_scratch6 cc0_scratch7 c v2 barA v225 c32_i32_153 v226) Φ) := by
  rw [k0_part15_eq_skeleton]
  unfold k0_part15_skel
  simp only [semSignalWord, Prog.lift, Prog.bind_op, Prog.bind_ret, Prog.pure_eq_ret]
  iintro ⟨#HR, HS⟩ Hk
  iapply (wp_signal_step m K c _ (k := 17) (by decide) (Fin.ext ((dev18_eq c).trans (by show _ = (_ + 1 + 17) % 32; rw [Nat.add_assoc]))) _ (by decide) W) $$ [HS]
  · isplitr; · iexact HR
    iexact HS
  iintro HS
  iapply (wp_signal_step m K c _ (k := 18) (by decide) (Fin.ext ((dev19_eq c).trans (by show _ = (_ + 1 + 18) % 32; rw [Nat.add_assoc]))) _ (by decide) W) $$ [HS]
  · isplitr; · iexact HR
    iexact HS
  iintro HS
  iapply (WP_ret c _ Φ)
  iapply Hk $$ HS

theorem wp_part16 (c : Dev nD) (W : Waits sig Unit) (v2 : BitVec 32) (v254 : BitVec 32) (v259 : BitVec 1) (v260 : BitVec 32) {Φ : (Σ' (v290 : BitVec 32) (c32_i32_198 : BitVec 32), BitVec 1) → sProp 𝕄} :
    iprop(records m K ∗ Sig c 19 W) ⊢ iprop(iprop(∀ r, Sig c 22 W -∗ Φ r) -∗ WP c (k0_part16 (F := F) xM (Memref.isWhole_whole _) wM (Memref.isWhole_whole _) oM (Memref.isWhole_whole _) xbM (Memref.isWhole_whole _) wbM (Memref.isWhole_whole _) accM (Memref.isWhole_whole _) sbM (Memref.isWhole_whole _) rbM (Memref.isWhole_whole _) cc0_scratch5 cc0_scratch6 cc0_scratch7 c v2 barA v254 v259 v260) Φ) := by
  rw [k0_part16_eq_skeleton]
  unfold k0_part16_skel
  simp only [semSignalWord, Prog.lift, Prog.bind_op, Prog.bind_ret, Prog.pure_eq_ret]
  iintro ⟨#HR, HS⟩ Hk
  iapply (wp_signal_step m K c _ (k := 19) (by decide) (Fin.ext ((dev20_eq c).trans (by show _ = (_ + 1 + 19) % 32; rw [Nat.add_assoc]))) _ (by decide) W) $$ [HS]
  · isplitr; · iexact HR
    iexact HS
  iintro HS
  iapply (wp_signal_step m K c _ (k := 20) (by decide) (Fin.ext ((dev21_eq c).trans (by show _ = (_ + 1 + 20) % 32; rw [Nat.add_assoc]))) _ (by decide) W) $$ [HS]
  · isplitr; · iexact HR
    iexact HS
  iintro HS
  iapply (wp_signal_step m K c _ (k := 21) (by decide) (Fin.ext ((dev22_eq c).trans (by show _ = (_ + 1 + 21) % 32; rw [Nat.add_assoc]))) _ (by decide) W) $$ [HS]
  · isplitr; · iexact HR
    iexact HS
  iintro HS
  iapply (WP_ret c _ Φ)
  iapply Hk $$ HS

theorem wp_part17 (c : Dev nD) (W : Waits sig Unit) (v2 : BitVec 32) (v290 : BitVec 32) (c32_i32_198 : BitVec 32) (v291 : BitVec 1) {Φ : (Σ' (v319 : BitVec 32) (v324 : BitVec 1), BitVec 32) → sProp 𝕄} :
    iprop(records m K ∗ Sig c 22 W) ⊢ iprop(iprop(∀ r, Sig c 24 W -∗ Φ r) -∗ WP c (k0_part17 (F := F) xM (Memref.isWhole_whole _) wM (Memref.isWhole_whole _) oM (Memref.isWhole_whole _) xbM (Memref.isWhole_whole _) wbM (Memref.isWhole_whole _) accM (Memref.isWhole_whole _) sbM (Memref.isWhole_whole _) rbM (Memref.isWhole_whole _) cc0_scratch5 cc0_scratch6 cc0_scratch7 c v2 barA v290 c32_i32_198 v291) Φ) := by
  rw [k0_part17_eq_skeleton]
  unfold k0_part17_skel
  simp only [semSignalWord, Prog.lift, Prog.bind_op, Prog.bind_ret, Prog.pure_eq_ret]
  iintro ⟨#HR, HS⟩ Hk
  iapply (wp_signal_step m K c _ (k := 22) (by decide) (Fin.ext ((dev23_eq c).trans (by show _ = (_ + 1 + 22) % 32; rw [Nat.add_assoc]))) _ (by decide) W) $$ [HS]
  · isplitr; · iexact HR
    iexact HS
  iintro HS
  iapply (wp_signal_step m K c _ (k := 23) (by decide) (Fin.ext ((dev24_eq c).trans (by show _ = (_ + 1 + 23) % 32; rw [Nat.add_assoc]))) _ (by decide) W) $$ [HS]
  · isplitr; · iexact HR
    iexact HS
  iintro HS
  iapply (WP_ret c _ Φ)
  iapply Hk $$ HS

theorem wp_part18 (c : Dev nD) (W : Waits sig Unit) (v2 : BitVec 32) (v319 : BitVec 32) (v324 : BitVec 1) (v325 : BitVec 32) {Φ : (Σ' (v355 : BitVec 32) (c32_i32_243 : BitVec 32), BitVec 1) → sProp 𝕄} :
    iprop(records m K ∗ Sig c 24 W) ⊢ iprop(iprop(∀ r, Sig c 27 W -∗ Φ r) -∗ WP c (k0_part18 (F := F) xM (Memref.isWhole_whole _) wM (Memref.isWhole_whole _) oM (Memref.isWhole_whole _) xbM (Memref.isWhole_whole _) wbM (Memref.isWhole_whole _) accM (Memref.isWhole_whole _) sbM (Memref.isWhole_whole _) rbM (Memref.isWhole_whole _) cc0_scratch5 cc0_scratch6 cc0_scratch7 c v2 barA v319 v324 v325) Φ) := by
  rw [k0_part18_eq_skeleton]
  unfold k0_part18_skel
  simp only [semSignalWord, Prog.lift, Prog.bind_op, Prog.bind_ret, Prog.pure_eq_ret]
  iintro ⟨#HR, HS⟩ Hk
  iapply (wp_signal_step m K c _ (k := 24) (by decide) (Fin.ext ((dev25_eq c).trans (by show _ = (_ + 1 + 24) % 32; rw [Nat.add_assoc]))) _ (by decide) W) $$ [HS]
  · isplitr; · iexact HR
    iexact HS
  iintro HS
  iapply (wp_signal_step m K c _ (k := 25) (by decide) (Fin.ext ((dev26_eq c).trans (by show _ = (_ + 1 + 25) % 32; rw [Nat.add_assoc]))) _ (by decide) W) $$ [HS]
  · isplitr; · iexact HR
    iexact HS
  iintro HS
  iapply (wp_signal_step m K c _ (k := 26) (by decide) (Fin.ext ((dev27_eq c).trans (by show _ = (_ + 1 + 26) % 32; rw [Nat.add_assoc]))) _ (by decide) W) $$ [HS]
  · isplitr; · iexact HR
    iexact HS
  iintro HS
  iapply (WP_ret c _ Φ)
  iapply Hk $$ HS

theorem wp_part19 (c : Dev nD) (W : Waits sig Unit) (v2 : BitVec 32) (v355 : BitVec 32) (c32_i32_243 : BitVec 32) (v356 : BitVec 1) {Φ : (Σ' (v384 : BitVec 32) (v389 : BitVec 1), BitVec 32) → sProp 𝕄} :
    iprop(records m K ∗ Sig c 27 W) ⊢ iprop(iprop(∀ r, Sig c 29 W -∗ Φ r) -∗ WP c (k0_part19 (F := F) xM (Memref.isWhole_whole _) wM (Memref.isWhole_whole _) oM (Memref.isWhole_whole _) xbM (Memref.isWhole_whole _) wbM (Memref.isWhole_whole _) accM (Memref.isWhole_whole _) sbM (Memref.isWhole_whole _) rbM (Memref.isWhole_whole _) cc0_scratch5 cc0_scratch6 cc0_scratch7 c v2 barA v355 c32_i32_243 v356) Φ) := by
  rw [k0_part19_eq_skeleton]
  unfold k0_part19_skel
  simp only [semSignalWord, Prog.lift, Prog.bind_op, Prog.bind_ret, Prog.pure_eq_ret]
  iintro ⟨#HR, HS⟩ Hk
  iapply (wp_signal_step m K c _ (k := 27) (by decide) (Fin.ext ((dev28_eq c).trans (by show _ = (_ + 1 + 27) % 32; rw [Nat.add_assoc]))) _ (by decide) W) $$ [HS]
  · isplitr; · iexact HR
    iexact HS
  iintro HS
  iapply (wp_signal_step m K c _ (k := 28) (by decide) (Fin.ext ((dev29_eq c).trans (by show _ = (_ + 1 + 28) % 32; rw [Nat.add_assoc]))) _ (by decide) W) $$ [HS]
  · isplitr; · iexact HR
    iexact HS
  iintro HS
  iapply (WP_ret c _ Φ)
  iapply Hk $$ HS

end Cert.KernelIdeal.A2A

end
-- ==== Proof.Trip1.lean ====
/- One trip of the kernel's first loop: the next fetch is started, this trip's block of `w` is waited for and multiplied
   with its block of `x`, the product is accumulated, and after every fourth trip the eight blocks of a finished column
   group are activated and each is kept or sent. -/
module

public import proofs.«01_k».proof.Proof.Signals

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 67 → ℕ)

/-! ## What the loop carries -/

/-- The slot of fetch `k`. -/
abbrev sl (k : ℕ) : Fin 2 := Fin.ofNat 2 k
theorem sl_round (k : ℕ) : 2 * (k / 2) + (sl k).val = k := by show 2 * (k / 2) + k % 2 = k; omega
theorem sl_succ₂ (k : ℕ) : sl (k + 2) = sl k := Fin.ext (by show (k + 2) % 2 = k % 2; omega)

/-- Fetch `k` under way, if there is one. -/
def Due (c : Dev nD) (k : ℕ) : sProp 𝕄 := if k < 16 then Fly m c (sl k) (k / 2) else Idle m c (sl k) (k / 2)
/-- The rounded rows of `x`. -/
def Xb (c : Dev nD) : sProp 𝕄 := ((c : Thread nD τ).loc cc0_scratch0) ↦[Finset.univ]{fullShare} (k0_pay14 (xArr m c))
def accPts (c : Dev nD) (f : Vec F S256x1024 .f32) : sProp 𝕄 := ((c : Thread nD τ).loc cc0_scratch2) ↦[Finset.univ]{fullShare} f
/-- The accumulator before trip `k`. -/
def AccIn (c : Dev nD) (k : ℕ) : sProp 𝕄 := iprop(∃ f, ⌜k % 4 ≠ 0 → f = accAt m c (fg c k) (k % 4 - 1)⌝ ∗ accPts c f)
/-- The accumulator once trip `k`'s first product is stored, if it is the first of its group. -/
def AccMid (c : Dev nD) (k : ℕ) : sProp 𝕄 :=
  iprop(∃ f, ⌜(k % 4 = 0 → f = accAt m c (fg c k) 0) ∧ (k % 4 ≠ 0 → f = accAt m c (fg c k) (k % 4 - 1))⌝ ∗ accPts c f)

theorem fk_mod (k : ℕ) : Fin.ofNat 4 (k % 4) = fk k := Fin.ext (by show k % 4 % 4 = k % 4; omega)
theorem accAt_zero (c : Dev nD) {k : ℕ} (h : k % 4 = 0) :
    k0_pay12 (wBlk1 m c (fg c k) (fk k)) (xBlk m c (fk k)) = accAt m c (fg c k) 0 := by
  rw [← fk_mod, h]; rfl
theorem accAt_next (c : Dev nD) {k : ℕ} (h : k % 4 ≠ 0) :
    k0_pay15 (k0_pay11 (wBlk1 m c (fg c k) (fk k)) (xBlk m c (fk k))) (accAt m c (fg c k) (k % 4 - 1)) = accAt m c (fg c k) (k % 4) := by
  obtain ⟨n, hn⟩ := Nat.exists_eq_succ_of_ne_zero h
  rw [← fk_mod, hn]; rfl

theorem acc_write (f w : Vec F S256x1024 .f32) :
    (accM.access (Rect.unit (s := S256x1024) ![0, 0] S256x1024.size inb_S256x1024_S256x1024_0_0)).write (Elt F) f w Finset.univ = w :=
  Memref.write_access_unit_zero_univ (Elt F) cc0_scratch2 (by decide) _ _ _

theorem acc_read (f : Vec F S256x1024 .f32) :
    accM.view.readAt (Elt F) (Rect.unit (s := S256x1024) ![0, 0] S256x1024.size inb_S256x1024_S256x1024_0_0).toLoadRect f = f :=
  Memref.readAt_unit_zero (Elt F) cc0_scratch2 (by decide) _ _

/-! ## The parts of a trip -/

theorem offw_eq (c : Dev nD) (k : ℕ) : (![2048 * (k % 4), 1024 * grp c (k / 4)] : Fin 2 → ℕ) = ![2048 * (fk k).val, 1024 * (fg c k).val] := rfl

theorem part4_eq (t : Fin k0_t1_loop.trips) : ∃ r, k0_part4 (F := F) xM (Memref.isWhole_whole _) wM (Memref.isWhole_whole _) oM (Memref.isWhole_whole _) xbM (Memref.isWhole_whole _) wbM (Memref.isWhole_whole _) accM (Memref.isWhole_whole _) sbM (Memref.isWhole_whole _) rbM (Memref.isWhole_whole _) cc0_scratch5 cc0_scratch6 cc0_scratch7 0#32 1#32 t = .ret r ∧ r.2.2.1 = BitVec.ofNat 32 (t.val % 4) := by
  rw [k0_part4_eq_skeleton]
  unfold k0_part4_skel
  simp only [Prog.pure_eq_ret]
  refine ⟨_, rfl, ?_⟩
  revert t; decide +kernel

theorem wp_part5 (c : Dev nD) (v2 : BitVec 32) (t : Fin k0_t1_loop.trips) (a b : BitVec 32)
    {Φ : (Σ' (v505 : BitVec 32) (v515 : BitVec 32) (c8_i32_344 : BitVec 32) (v516 : BitVec 32), BitVec 1) → sProp 𝕄} :
    iprop(records m K ∗ Idle m c (sl (t.val + 1)) ((t.val + 1) / 2)) ⊢ iprop((∀ r, Due m c (t.val + 1) -∗ Φ r)
      -∗ WP c (k0_part5 (F := F) xM (Memref.isWhole_whole _) wM (Memref.isWhole_whole _) oM (Memref.isWhole_whole _) xbM (Memref.isWhole_whole _) wbM (Memref.isWhole_whole _) accM (Memref.isWhole_whole _) sbM (Memref.isWhole_whole _) rbM (Memref.isWhole_whole _) cc0_scratch5 cc0_scratch6 cc0_scratch7 c v2 t a b) Φ) := by
  rw [k0_part5_eq_skeleton]
  unfold k0_part5_skel
  simp only [k0_part1_eq_skeleton]
  unfold k0_part1_skel
  simp only [Prog.lift, Prog.bind_op, Prog.bind_ret, Prog.pure_eq_ret]
  iintro ⟨#HR, HI⟩ Hk
  by_cases h : k0_cond1 t = 1#1
  · rw [dif_pos h]
    have ht := (cond1_iff t).mp h
    iapply (wp_fetch m K c (s := sl (t.val + 1)) (R := (t.val + 1) / 2) (by omega) (off3_eq t) _
      ((off4_eq c t).trans (by rw [sl_round]; exact offw_eq c _)) _ _ (wsem_eq (s := sl (t.val + 1)) (off2_eq t) _)) $$ [HI]
    · isplitr; · iexact HR
      iexact HI
    iintro HF
    iapply (WP_ret c)
    iapply Hk
    unfold Due
    rw [if_pos (by omega)]
    iexact HF
  · rw [dif_neg h]
    have ht : ¬ t.val < 15 := fun e => h ((cond1_iff t).mpr e)
    iapply (WP_ret c)
    iapply Hk
    unfold Due
    rw [if_neg (by omega)]
    iexact HI

theorem wp_part6 (c : Dev nD) (v2 : BitVec 32) (t : Fin k0_t1_loop.trips) (p : ℕ) (W : Waits sig Unit) (a b d e f : BitVec 32) (g : BitVec 1)
    {Φ : (Σ' (v558 : FVec F S256x1024 .f32), BitVec 1) → sProp 𝕄} :
    iprop(records m K ∗ levAts L lv ∗ owes (c : Thread nD τ) (Or c p) W ∗ Due m c t.val ∗ Xb m c ∗ AccIn m c t.val)
      ⊢ iprop((∀ W' v, ⌜v = 1#1 ↔ t.val % 4 ≠ 0⌝ -∗ owes (c : Thread nD τ) (Or c p) W' -∗ Idle m c (sl (t.val + 2)) ((t.val + 2) / 2) -∗ Xb m c
          -∗ AccMid m c t.val -∗ Φ ⟨k0_pay11 (wBlk1 m c (fg c t.val) (fk t.val)) (xBlk m c (fk t.val)), v⟩)
      -∗ WP c (k0_part6 (F := F) xM (Memref.isWhole_whole _) wM (Memref.isWhole_whole _) oM (Memref.isWhole_whole _) xbM (Memref.isWhole_whole _) wbM (Memref.isWhole_whole _) accM (Memref.isWhole_whole _) sbM (Memref.isWhole_whole _) rbM (Memref.isWhole_whole _) cc0_scratch5 cc0_scratch6 cc0_scratch7 c v2 t (BitVec.ofNat 32 (t.val % 4)) a b d e f g) Φ) := by
  rw [k0_part6_eq_skeleton]
  unfold k0_part6_skel
  simp only [Prog.lift, Prog.bind_op, Prog.bind_ret, Prog.pure_eq_ret]
  have ht : t.val < 16 := t.isLt
  unfold Due
  rw [if_pos ht]
  iintro ⟨#HR, #Hlev, HO, HF, HX, HA⟩ Hk
  iapply (wp_fetched m K c (s := sl t.val) (R := t.val / 2) (by omega) (off6_eq t) _ _ _ (wsem_eq (s := sl t.val) (off5_eq t) _) p W) $$ [HO HF]
  · isplitr; · iexact HR
    isplitr; · iexact Hlev
    isplitl [HO] <;> iassumption
  iintro %W' HO Hb Hidle
  rw [sl_round]
  unfold wbufPts
  iapply (wp_load 𝒱₀ (c : Thread nD τ) none Set.univ (m := wbM) (load_wslot (s := sl t.val) (off8_eq t) _)) $$ Hb; iintro Hb
  rw [read_wslot m (s := sl t.val) (off8_eq t)]
  ihave HI := Hidle $$ Hb
  unfold Xb
  iapply (wp_load 𝒱₀ (c : Thread nD τ) none Set.univ (m := xbM) (Finset.subset_univ _)) $$ HX; iintro HX
  rw [read_xb m c (kc := fk t.val) (off9_eq t)]
  rw [show (t.val + 2) / 2 = t.val / 2 + 1 by omega, sl_succ₂]
  unfold AccIn AccMid accPts
  icases HA with ⟨%fa, %hfa, HA⟩
  have key : ∀ t : Fin k0_t1_loop.trips, (Scalar.cmpi .ne (Scalar.extui (Scalar.cmpi .eq (BitVec.ofNat 32 (t.val % 4)) 0#32)) 0#32 = 1#1 ↔ t.val % 4 = 0)
      ∧ (Scalar.cmpi .ne (Scalar.extui (Scalar.cmpi .ne (BitVec.ofNat 32 (t.val % 4)) 0#32)) 0#32 = 1#1 ↔ t.val % 4 ≠ 0) := by decide +kernel
  split
  · next h =>
    have h0 := (key t).1.mp h
    iapply (wp_load 𝒱₀ (c : Thread nD τ) none Set.univ (m := accM) (Finset.subset_univ _)) $$ HA; iintro HA
    iapply (wp_store 𝒱₀ (c : Thread nD τ) none Set.univ (m := accM) (r := Rect.unit (s := S256x1024) ![0, 0] S256x1024.size inb_S256x1024_S256x1024_0_0) (Mk := Finset.univ) (Finset.subset_univ _)) $$ HA; iintro HA
    rw [acc_write]
    iapply (WP_ret c)
    iapply Hk $$ [] HO HI HX
    · ipureintro; exact (key t).2
    iexists _
    isplitr
    · ipureintro; exact ⟨fun _ => accAt_zero m c h0, fun h' => absurd h0 h'⟩
    · iexact HA
  · next h =>
    have h0 : t.val % 4 ≠ 0 := fun e => h ((key t).1.mpr e)
    iapply (WP_ret c)
    iapply Hk $$ [] HO HI HX
    · ipureintro; exact (key t).2
    iexists fa
    isplitr
    · ipureintro; exact ⟨fun h' => absurd h' h0, hfa⟩
    · iexact HA

end Cert.KernelIdeal.A2A

end
-- ==== Proof.Group.lean ====
/- The eight blocks of a finished column group: the group is activated, and each block of 128 columns is kept if it
   belongs to this device and sent to its owner if not. -/
module

public import proofs.«01_k».proof.Proof.Trip1

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 67 → ℕ)

theorem pos_val (c : Dev nD) (t : Fin k0_t1_loop.trips) (j : ℕ) (hj : j < 8) : (pos c (8 * (t.val / 4) + j)).val = tgt c (t.val / 4) j := by
  show 8 * ((c.val / 8 + (8 * (t.val / 4) + j) / 8) % 4) + (8 * (t.val / 4) + j) % 8 = 8 * ((c.val / 8 + t.val / 4) % 4) + j
  rw [show (8 * (t.val / 4) + j) / 8 = t.val / 4 by omega]; omega
theorem pos_iff (c : Dev nD) (t : Fin k0_t1_loop.trips) (j : ℕ) (hj : j < 8) : tgt c (t.val / 4) j = c.val ↔ pos c (8 * (t.val / 4) + j) = c := by
  rw [← pos_val c t j hj]; exact (Fin.ext_iff (n := nD)).symm
theorem cols_at (c : Dev nD) (t : Fin k0_t1_loop.trips) (j : ℕ) (hj : j < 8) :
    cols (tile m c (fg c t.val)) ⟨j, hj⟩ = blkFor m c (pos c (8 * (t.val / 4) + j)) := by
  have h : tgt c (t.val / 4) j = 8 * ((c.val / 8 + t.val / 4) % 4) + j := rfl
  unfold blkFor
  rw [show gOf (pos c (8 * (t.val / 4) + j)) = fg c t.val from Fin.ext (by
      show (pos c (8 * (t.val / 4) + j)).val / 8 = (c.val / 8 + t.val / 4) % 4; rw [pos_val c t j hj, h]; omega),
    show jOf (pos c (8 * (t.val / 4) + j)) = ⟨j, hj⟩ from Fin.ext (by
      show (pos c (8 * (t.val / 4) + j)).val % 8 = j; rw [pos_val c t j hj, h]; omega)]

theorem wp_part2 (c : Dev nD) (v2 : BitVec 32) (t : Fin k0_t1_loop.trips) (a : BitVec 32) (h4 : k0_cond4 t = 1#1)
    {Φ : (Σ' (v570 : FVec F S256x1024 .f32) (v598 : BitVec 32) (v600 : BitVec 32), FVec F S256x128 .f32) → sProp 𝕄} :
    iprop(accPts c (accAt m c (fg c t.val) 3) ∗ Outs m c (Own c (8 * (t.val / 4)))) ⊢ iprop((∀ a b, accPts c (accAt m c (fg c t.val) 3) -∗ Outs m c (Own c ((8 * (t.val / 4)) + 1))
        -∗ Φ ⟨tile m c (fg c t.val), a, b, k0_pay2 (accAt m c (fg c t.val) 3)⟩)
      -∗ WP c (k0_part2 (F := F) xM (Memref.isWhole_whole _) wM (Memref.isWhole_whole _) oM (Memref.isWhole_whole _) xbM (Memref.isWhole_whole _) wbM (Memref.isWhole_whole _) accM (Memref.isWhole_whole _) sbM (Memref.isWhole_whole _) rbM (Memref.isWhole_whole _) cc0_scratch5 cc0_scratch6 cc0_scratch7 c v2 t a h4) Φ) := by
  rw [k0_part2_eq_skeleton]
  unfold k0_part2_skel accPts tile
  iintro ⟨HA, HO⟩ Hk
  iapply (WP_lift c)
  iapply (wp_load 𝒱₀ (c : Thread nD τ) none Set.univ (m := accM) (Finset.subset_univ _)) $$ HA; iintro HA
  rw [acc_read]
  simp -zeta -zetaHave only []
  extract_lets
  iapply (wp_own m c (p := (8 * (t.val / 4))) ((own0_iff c t).trans (pos_iff c t 0 (by decide))) (own0_off c) _ (w := k0_pay2 (accAt m c (fg c t.val) 3)) (cols_at m c t 0 (by decide))) $$ HO
  iintro HO
  iapply (WP_ret c)
  iapply Hk $$ HA HO

theorem wp_part3 (c : Dev nD) (v2 : BitVec 32) (t : Fin k0_t1_loop.trips) (a b : BitVec 32) (h4 : k0_cond4 t = 1#1)
    {Φ : (Σ' (v636 : BitVec 32), FVec F S256x128 .f32) → sProp 𝕄} :
    iprop(records m K ∗ Outs m c (Own c ((8 * (t.val / 4)) + 1)) ∗ Snd (F := F) c (8 * (t.val / 4)))
      ⊢ iprop((∀ a, Outs m c (Own c ((8 * (t.val / 4)) + 5)) -∗ Snd (F := F) c ((8 * (t.val / 4)) + 4) -∗ Φ ⟨a, k0_pay10 (tile m c (fg c t.val))⟩)
      -∗ WP c (k0_part3 (F := F) xM (Memref.isWhole_whole _) wM (Memref.isWhole_whole _) oM (Memref.isWhole_whole _) xbM (Memref.isWhole_whole _) wbM (Memref.isWhole_whole _) accM (Memref.isWhole_whole _) sbM (Memref.isWhole_whole _) rbM (Memref.isWhole_whole _) cc0_scratch5 cc0_scratch6 cc0_scratch7 c v2 t h4 (tile m c (fg c t.val)) a b (k0_pay2 (accAt m c (fg c t.val) 3))) Φ) := by
  have hlt : t.val < 16 := t.isLt
  have h32 : (8 * (t.val / 4)) + 8 ≤ 32 := by omega
  rw [k0_part3_eq_skeleton]
  unfold k0_part3_skel
  iintro ⟨#HR, HO, HS⟩ Hk
  simp -zeta -zetaHave only []
  extract_lets
  iapply (wp_sendblk m K c (p := (8 * (t.val / 4))) (by omega) ((send0_iff c t).trans (pos_iff c t 0 (by decide)).not)
    ((blk0_off c t).trans (congrArg (fun n => ![n, 0, 0]) (pos_val c t 0 (by decide)).symm)) ((src0_off c t).trans (congrArg (fun n => ![n, 0, 0]) (pos_val c t 0 (by decide)).symm)) (dst0_off c) _ _ _
    (w := k0_pay3 (k0_pay2 (accAt m c (fg c t.val) 3))) (congrArg packed (cols_at m c t 0 (by decide))) _ (fun _ => Fin.ext ((peer0_eq c t).trans (pos_val c t 0 (by decide)).symm)) _ _
    (fun _ => ssem_eq (t := pos c ((8 * (t.val / 4)) + 0)) ((ssem0_off c t).trans (congrArg (fun n => ![n]) (pos_val c t 0 (by decide)).symm)) _) (fun _ => rsem_eq (t := c) (rsem0_off c) _)) $$ [HS]
  · isplitr <;> iassumption
  iintro HS
  iapply (wp_own m c (p := (8 * (t.val / 4)) + 1) ((own1_iff c t).trans (pos_iff c t 1 (by decide))) (own1_off c) _ (w := k0_pay4 (tile m c (fg c t.val))) (cols_at m c t 1 (by decide))) $$ HO
  iintro HO
  iapply (wp_sendblk m K c (p := (8 * (t.val / 4)) + 1) (by omega) ((send1_iff c t).trans (pos_iff c t 1 (by decide)).not)
    ((blk1_off c t).trans (congrArg (fun n => ![n, 0, 0]) (pos_val c t 1 (by decide)).symm)) ((src1_off c t).trans (congrArg (fun n => ![n, 0, 0]) (pos_val c t 1 (by decide)).symm)) (dst1_off c) _ _ _
    (w := k0_pay5 (tile m c (fg c t.val))) (congrArg packed (cols_at m c t 1 (by decide))) _ (fun _ => Fin.ext ((peer1_eq c t).trans (pos_val c t 1 (by decide)).symm)) _ _
    (fun _ => ssem_eq (t := pos c ((8 * (t.val / 4)) + 1)) ((ssem1_off c t).trans (congrArg (fun n => ![n]) (pos_val c t 1 (by decide)).symm)) _) (fun _ => rsem_eq (t := c) (rsem1_off c) _)) $$ [HS]
  · isplitr <;> iassumption
  iintro HS
  iapply (wp_own m c (p := (8 * (t.val / 4)) + 2) ((own2_iff c t).trans (pos_iff c t 2 (by decide))) (own2_off c) _ (w := k0_pay6 (tile m c (fg c t.val))) (cols_at m c t 2 (by decide))) $$ HO
  iintro HO
  iapply (wp_sendblk m K c (p := (8 * (t.val / 4)) + 2) (by omega) ((send2_iff c t).trans (pos_iff c t 2 (by decide)).not)
    ((blk2_off c t).trans (congrArg (fun n => ![n, 0, 0]) (pos_val c t 2 (by decide)).symm)) ((src2_off c t).trans (congrArg (fun n => ![n, 0, 0]) (pos_val c t 2 (by decide)).symm)) (dst2_off c) _ _ _
    (w := k0_pay7 (tile m c (fg c t.val))) (congrArg packed (cols_at m c t 2 (by decide))) _ (fun _ => Fin.ext ((peer2_eq c t).trans (pos_val c t 2 (by decide)).symm)) _ _
    (fun _ => ssem_eq (t := pos c ((8 * (t.val / 4)) + 2)) ((ssem2_off c t).trans (congrArg (fun n => ![n]) (pos_val c t 2 (by decide)).symm)) _) (fun _ => rsem_eq (t := c) (rsem2_off c) _)) $$ [HS]
  · isplitr <;> iassumption
  iintro HS
  iapply (wp_own m c (p := (8 * (t.val / 4)) + 3) ((own3_iff c t).trans (pos_iff c t 3 (by decide))) (own3_off c) _ (w := k0_pay8 (tile m c (fg c t.val))) (cols_at m c t 3 (by decide))) $$ HO
  iintro HO
  iapply (wp_sendblk m K c (p := (8 * (t.val / 4)) + 3) (by omega) ((send3_iff c t).trans (pos_iff c t 3 (by decide)).not)
    ((blk3_off c t).trans (congrArg (fun n => ![n, 0, 0]) (pos_val c t 3 (by decide)).symm)) ((src3_off c t).trans (congrArg (fun n => ![n, 0, 0]) (pos_val c t 3 (by decide)).symm)) (dst3_off c) _ _ _
    (w := k0_pay9 (tile m c (fg c t.val))) (congrArg packed (cols_at m c t 3 (by decide))) _ (fun _ => Fin.ext ((peer3_eq c t).trans (pos_val c t 3 (by decide)).symm)) _ _
    (fun _ => ssem_eq (t := pos c ((8 * (t.val / 4)) + 3)) ((ssem3_off c t).trans (congrArg (fun n => ![n]) (pos_val c t 3 (by decide)).symm)) _) (fun _ => rsem_eq (t := c) (rsem3_off c) _)) $$ [HS]
  · isplitr <;> iassumption
  iintro HS
  iapply (wp_own m c (p := (8 * (t.val / 4)) + 4) ((own4_iff c t).trans (pos_iff c t 4 (by decide))) (own4_off c) _ (w := k0_pay10 (tile m c (fg c t.val))) (cols_at m c t 4 (by decide))) $$ HO
  iintro HO
  iapply (WP_ret c)
  iapply Hk $$ HO HS

end Cert.KernelIdeal.A2A

end
-- ==== Proof.Trip.lean ====
/- One trip of the kernel's first loop, and the loop. -/
module

public import proofs.«01_k».proof.Proof.Group

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 67 → ℕ)

abbrev accR : Rect S256x1024 := Rect.unit (s := S256x1024) ![0, 0] S256x1024.size inb_S256x1024_S256x1024_0_0

/-- The product of a trip that does not begin its group is added to what is there. -/
theorem wp_accum (c : Dev nD) {k : ℕ} {cond : BitVec 1} (hc : cond = 1#1 ↔ k % 4 ≠ 0)
    {hl hl' : accM.view.LoadsAt accR.toLoadRect} {hx : (accM.access accR).Stores Finset.univ}
    {hm : (Finset.univ : Finset S256x1024.Idx) = Finset.univ ∨ ∀ a, accR.stride a = 1}
    {α : Type} {Q : α → sProp 𝕄} {kk : PUnit → Prog (TpuEff nD τ sig (Elt F) Λ₀ .tc) α} :
    AccMid m c k ⊢ iprop((accPts c (accAt m c (fg c k) (k % 4)) -∗ WP c (kk ⟨⟩) Q)
      -∗ WP c (if hh : cond = 1#1 then
          Prog.lift (.load accM accR.toLoadRect hl) >>= fun v =>
            Prog.lift (.load accM accR.toLoadRect hl') >>= fun _ =>
              Prog.lift (.store accM accR (k0_pay15 (k0_pay11 (wBlk1 m c (fg c k) (fk k)) (xBlk m c (fk k))) v) Finset.univ hx hm) >>= fun _ => kk ⟨⟩
        else kk ⟨⟩) Q) := by
  unfold AccMid accPts
  iintro ⟨%f, %hf, H⟩ Hk
  by_cases hh : cond = 1#1
  · rw [dif_pos hh]
    simp only [Prog.lift, Prog.bind_op, Prog.bind_ret]
    iapply (wp_load 𝒱₀ (c : Thread nD τ) none Set.univ (m := accM) (Finset.subset_univ _)) $$ H; iintro H
    iapply (wp_load 𝒱₀ (c : Thread nD τ) none Set.univ (m := accM) (Finset.subset_univ _)) $$ H; iintro H
    iapply (wp_store 𝒱₀ (c : Thread nD τ) none Set.univ (m := accM) (r := accR) (Mk := Finset.univ) (Finset.subset_univ _)) $$ H; iintro H
    rw [acc_write, acc_read, hf.2 (hc.mp hh), accAt_next m c (hc.mp hh)]
    iapply Hk $$ H
  · rw [dif_neg hh]
    have h0 : k % 4 = 0 := by by_contra h; exact hh (hc.mpr h)
    iapply Hk
    rw [h0, hf.1 h0]
    iexact H

/-- What a trip of the first loop begins with. -/
def Inv1 (c : Dev nD) (k : ℕ) : sProp 𝕄 :=
  iprop(records m K ∗ levAts L lv ∗ Snd (F := F) c (8 * (k / 4)) ∗ Outs m c (Own c (8 * (k / 4))) ∗ Xb m c ∗ AccIn m c k
    ∗ Due m c k ∗ Idle m c (sl (k + 1)) ((k + 1) / 2))

theorem accIn_next (c : Dev nD) (k : ℕ) : accPts c (accAt m c (fg c k) (k % 4)) ⊢ AccIn m c (k + 1) := by
  unfold AccIn
  iintro H
  iexists _
  isplitr
  · ipureintro
    intro h
    rw [show fg c (k + 1) = fg c k from Fin.ext (by show (c.val / 8 + (k + 1) / 4) % 4 = (c.val / 8 + k / 4) % 4; rw [show (k + 1) / 4 = k / 4 by omega]),
      show (k + 1) % 4 - 1 = k % 4 by omega]
  · iexact H

set_option maxHeartbeats 1600000 in
theorem wp_trip1 (c : Dev nD) (v2 : BitVec 32) (t : Fin k0_t1_loop.trips) (u : Unit) :
    Inv1 m K c t.val ⊢ WP c (k0_t1_body (F := F) xM (Memref.isWhole_whole _) wM (Memref.isWhole_whole _) oM (Memref.isWhole_whole _) xbM (Memref.isWhole_whole _) wbM (Memref.isWhole_whole _) accM (Memref.isWhole_whole _) sbM (Memref.isWhole_whole _) rbM (Memref.isWhole_whole _) cc0_scratch5 cc0_scratch6 cc0_scratch7 c v2 t u) (fun _ => Inv1 m K c (t.val + 1)) := by
  have hlt : t.val < 16 := t.isLt
  unfold k0_t1_body Inv1
  iintro ⟨#HR, #Hlev, HS, HO, HX, HA, HD, HI⟩
  obtain ⟨⟨a1, a2, a3, a4, a5⟩, hr, h3⟩ := part4_eq (F := F) t
  have h3 : a3 = BitVec.ofNat 32 (t.val % 4) := h3
  subst h3
  iapply (WP_bind c)
  rw [hr]
  iapply (WP_ret c)
  iapply (WP_bind c)
  iapply (wp_part5 m K c v2 t _ _) $$ [HI]
  · isplitr <;> iassumption
  iintro %r HD'
  obtain ⟨b1, b2, b3, b4, b5⟩ := r
  unfold Snd
  icases HS with ⟨⟨%W, HW⟩, HU, HN⟩
  iapply (WP_bind c)
  iapply (wp_part6 m K c v2 t (8 * (t.val / 4)) W _ _ _ _ _ _) $$ [HW HD HX HA]
  · isplitr; · iexact HR
    isplitr; · iexact Hlev
    isplitl [HW]; · iexact HW
    isplitl [HD]; · iexact HD
    isplitl [HX] <;> iassumption
  iintro %W' %v %hv HW HI HX HA
  simp -zeta -zetaHave only []
  extract_lets
  iapply (wp_accum m c (k := t.val) hv) $$ HA
  iintro HA
  by_cases h4 : k0_cond4 t = 1#1
  · have hm : t.val % 4 = 3 := (cond4_iff t).mp h4
    rw [hm]
    iapply (WP_pos c h4)
    iapply (WP_bind c)
    iapply (wp_part2 m c v2 t _ h4) $$ [HA HO]
    · isplitl [HA] <;> iassumption
    iintro %x1 %x2 HA HO
    iapply (WP_bind c)
    iapply (wp_part3 m K c v2 t _ _ h4) $$ [HO HW HU HN]
    · isplitr; · iexact HR
      isplitl [HO]; · iexact HO
      unfold Snd
      isplitl [HW]; · iexists W'; iexact HW
      isplitl [HU] <;> iassumption
    iintro %x3 HO HS
    simp -zeta -zetaHave only []
    extract_lets
    iapply (wp_sendblk m K c (p := (8 * (t.val / 4)) + 4) (by omega) ((send4_iff c t).trans (pos_iff c t 4 (by decide)).not)
      ((blk4_off c t).trans (congrArg (fun n => ![n, 0, 0]) (pos_val c t 4 (by decide)).symm)) ((src4_off c t).trans (congrArg (fun n => ![n, 0, 0]) (pos_val c t 4 (by decide)).symm)) (dst4_off c) _ _ _
      (w := k0_pay16 (k0_pay10 (tile m c (fg c t.val)))) (congrArg packed (cols_at m c t 4 (by decide))) _ (fun _ => Fin.ext ((peer4_eq c t).trans (pos_val c t 4 (by decide)).symm)) _ _
      (fun _ => ssem_eq (t := pos c ((8 * (t.val / 4)) + 4)) ((ssem4_off c t).trans (congrArg (fun n => ![n]) (pos_val c t 4 (by decide)).symm)) _) (fun _ => rsem_eq (t := c) (rsem4_off c) _)) $$ [HS]
    · isplitr <;> iassumption
    iintro HS
    iapply (wp_own m c (p := (8 * (t.val / 4)) + 5) ((own5_iff c t).trans (pos_iff c t 5 (by decide))) (own5_off c) _ (w := k0_pay17 (tile m c (fg c t.val))) (cols_at m c t 5 (by decide))) $$ HO
    iintro HO
    iapply (wp_sendblk m K c (p := (8 * (t.val / 4)) + 5) (by omega) ((send5_iff c t).trans (pos_iff c t 5 (by decide)).not)
      ((blk5_off c t).trans (congrArg (fun n => ![n, 0, 0]) (pos_val c t 5 (by decide)).symm)) ((src5_off c t).trans (congrArg (fun n => ![n, 0, 0]) (pos_val c t 5 (by decide)).symm)) (dst5_off c) _ _ _
      (w := k0_pay18 (tile m c (fg c t.val))) (congrArg packed (cols_at m c t 5 (by decide))) _ (fun _ => Fin.ext ((peer5_eq c t).trans (pos_val c t 5 (by decide)).symm)) _ _
      (fun _ => ssem_eq (t := pos c ((8 * (t.val / 4)) + 5)) ((ssem5_off c t).trans (congrArg (fun n => ![n]) (pos_val c t 5 (by decide)).symm)) _) (fun _ => rsem_eq (t := c) (rsem5_off c) _)) $$ [HS]
    · isplitr <;> iassumption
    iintro HS
    iapply (wp_own m c (p := (8 * (t.val / 4)) + 6) ((own6_iff c t).trans (pos_iff c t 6 (by decide))) (own6_off c) _ (w := k0_pay19 (tile m c (fg c t.val))) (cols_at m c t 6 (by decide))) $$ HO
    iintro HO
    iapply (wp_sendblk m K c (p := (8 * (t.val / 4)) + 6) (by omega) ((send6_iff c t).trans (pos_iff c t 6 (by decide)).not)
      ((blk6_off c t).trans (congrArg (fun n => ![n, 0, 0]) (pos_val c t 6 (by decide)).symm)) ((src6_off c t).trans (congrArg (fun n => ![n, 0, 0]) (pos_val c t 6 (by decide)).symm)) (dst6_off c) _ _ _
      (w := k0_pay20 (tile m c (fg c t.val))) (congrArg packed (cols_at m c t 6 (by decide))) _ (fun _ => Fin.ext ((peer6_eq c t).trans (pos_val c t 6 (by decide)).symm)) _ _
      (fun _ => ssem_eq (t := pos c ((8 * (t.val / 4)) + 6)) ((ssem6_off c t).trans (congrArg (fun n => ![n]) (pos_val c t 6 (by decide)).symm)) _) (fun _ => rsem_eq (t := c) (rsem6_off c) _)) $$ [HS]
    · isplitr <;> iassumption
    iintro HS
    iapply (wp_own m c (p := (8 * (t.val / 4)) + 7) ((own7_iff c t).trans (pos_iff c t 7 (by decide))) (own7_off c) _ (w := k0_pay21 (tile m c (fg c t.val))) (cols_at m c t 7 (by decide))) $$ HO
    iintro HO
    iapply (wp_sendblk m K c (p := (8 * (t.val / 4)) + 7) (by omega) ((send7_iff c t).trans (pos_iff c t 7 (by decide)).not)
      ((blk7_off c t).trans (congrArg (fun n => ![n, 0, 0]) (pos_val c t 7 (by decide)).symm)) ((src7_off c t).trans (congrArg (fun n => ![n, 0, 0]) (pos_val c t 7 (by decide)).symm)) (dst7_off c) _ _ _
      (w := k0_pay22 (tile m c (fg c t.val))) (congrArg packed (cols_at m c t 7 (by decide))) _ (fun _ => Fin.ext ((peer7_eq c t).trans (pos_val c t 7 (by decide)).symm)) _ _
      (fun _ => ssem_eq (t := pos c ((8 * (t.val / 4)) + 7)) ((ssem7_off c t).trans (congrArg (fun n => ![n]) (pos_val c t 7 (by decide)).symm)) _) (fun _ => rsem_eq (t := c) (rsem7_off c) _)) $$ [HS]
    · isplitr <;> iassumption
    iintro HS
    iapply (WP_ret c)
    rw [show 8 * ((t.val + 1) / 4) = 8 * (t.val / 4) + 7 + 1 by omega]
    isplitr; · iexact HR
    isplitr; · iexact Hlev
    isplitl [HS]; · unfold Snd; iexact HS
    isplitl [HO]; · iexact HO
    isplitl [HX]; · iexact HX
    isplitl [HA]
    · iapply (accIn_next m c t.val); rw [hm]; iexact HA
    isplitl [HD'] <;> iassumption
  · have hm : t.val % 4 ≠ 3 := fun e => h4 ((cond4_iff t).mpr e)
    iapply (WP_neg c h4)
    iapply (WP_ret c)
    rw [show (t.val + 1) / 4 = t.val / 4 by omega]
    isplitr; · iexact HR
    isplitr; · iexact Hlev
    isplitl [HW HU HN]
    · isplitl [HW]; · iexists W'; iexact HW
      isplitl [HU] <;> iassumption
    isplitl [HO]; · iexact HO
    isplitl [HX]; · iexact HX
    isplitl [HA]
    · iapply (accIn_next m c t.val); iexact HA
    isplitl [HD'] <;> iassumption

end Cert.KernelIdeal.A2A

end
-- ==== Proof.Recv.lean ====
/- One trip of the kernel's second loop: the block of the device before is waited for and stored, and the transfer to the
   device after is seen to have left. -/
module

public import proofs.«01_k».proof.Proof.Trip

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 67 → ℕ)

/-- What trip `s` takes. -/
def Wait (c : Dev nD) (s : ℕ) : sProp 𝕄 :=
  iprop((atPos ER (recvCell c (fromD c s)) 0 ∅ 0 ∗ cred (tallyAt (recvCell c (fromD c s)) () NB))
    ∗ atPos ER (sendCell c (toD c s)) 0 ∅ 0 ∗ Done (F := F) c (toD c s))
/-- What it leaves. -/
def Got (c : Dev nD) (s : ℕ) : sProp 𝕄 :=
  iprop((atPos ER (recvCell c (fromD c s)) 1 ∅ 0 ∗ ∃ f, recvPts c (fromD c s) f)
    ∗ atPos ER (sendCell c (toD c s)) 1 ∅ 0 ∗ ∃ f, sendPts c (toD c s) f)
/-- The devices whose rows are in place before trip `k`. -/
def InPlace (c : Dev nD) (k : ℕ) (d : Dev nD) : Prop := d = c ∨ ∃ s, s < k ∧ d = fromD c s

def Inv2 (c : Dev nD) (k : ℕ) : sProp 𝕄 :=
  iprop(records m K ∗ (∃ W, owes (c : Thread nD τ) 0 W) ∗ bigSep (Finset.Ico k 31) (Wait c) ∗ bigSep (Finset.Ico 0 k) (Got (F := F) c)
    ∗ Outs m c (InPlace c k))

theorem read_recvArr (c s : Dev nD) (hne : s ≠ c) {off : Fin 3 → ℕ} (ht : off = ![s.val, 0, 0])
    (inb : ∀ a, off a + S1x256x128.size a ≤ S32x256x128.size a) :
    k0_pay13 (rbM.view.readAt (Elt F) (Rect.unit (s := S32x256x128) off S1x256x128.size inb).toLoadRect (recvArr m c)) = outBlk m c s := by
  unfold outBlk
  rw [if_neg hne, read_recv ht inb]
  refine congrArg k0_pay13 (funext fun y => ?_)
  show sent m s c _ = sent m s c y
  refine congrArg (sent m s c) (funext fun a => ?_)
  match a with
  | ⟨0, _⟩ => exact Fin.ext (Nat.lt_one_iff.mp (y 0).isLt).symm
  | ⟨1, _⟩ => rfl
  | ⟨2, _⟩ => rfl

theorem wp_trip2 (c : Dev nD) (v2 b : BitVec 32) (t : Fin k0_t2_loop.trips) (u : Unit) :
    Inv2 m K c t.val ⊢ WP c (k0_t2_body (F := F) xM (Memref.isWhole_whole _) wM (Memref.isWhole_whole _) oM (Memref.isWhole_whole _) xbM (Memref.isWhole_whole _) wbM (Memref.isWhole_whole _) accM (Memref.isWhole_whole _) sbM (Memref.isWhole_whole _) rbM (Memref.isWhole_whole _) cc0_scratch5 cc0_scratch6 cc0_scratch7 c v2 b t u) (fun _ => Inv2 m K c (t.val + 1)) := by
  have ht : t.val < 31 := t.isLt
  have hF : fromD c t.val ≠ c := fromD_ne c ht
  have hT : toD c t.val ≠ c := toD_ne c ht
  unfold k0_t2_body
  simp only [k0_part7_eq_skeleton]
  unfold k0_part7_skel Inv2
  simp only [Prog.lift, Prog.bind_op, Prog.bind_ret, Prog.pure_eq_ret]
  rw [bigSep_Ico_succ_bot ht, bigSep_Ico_succ_top (Nat.zero_le _)]
  unfold Wait
  iintro ⟨#HR, ⟨%W, HW⟩, ⟨⟨⟨Hr, Hc⟩, Hs, HD⟩, Hwait⟩, Hgot, HO⟩
  iapply (wp_received m K c hF _ _ _ (rsem_eq (t := fromD c t.val) (off58_eq c t) _) W) $$ [HW Hr Hc]
  · isplitr; · iexact HR
    isplitl [HW]; · iexact HW
    isplitl [Hr] <;> iassumption
  iintro %W' HW Hr Hb
  unfold recvPts
  iapply (wp_load 𝒱₀ (c : Thread nD τ) none Set.univ (m := rbM) (load_recv (t := fromD c t.val) (off61_eq c t) _)) $$ Hb; iintro Hb
  iapply (wp_rows m c (s := fromD c t.val) (off62_eq c t) _ (read_recvArr m c (fromD c t.val) hF (off61_eq c t) _)) $$ HO
  iintro HO
  iapply (wp_sent m K c hT _ _ _ (ssem_eq (t := toD c t.val) (off63_eq c t) _) W') $$ [HW Hs HD]
  · isplitr; · iexact HR
    isplitl [HW]; · iexact HW
    isplitl [Hs] <;> iassumption
  iintro %W'' HW Hs Hp
  iapply (WP_ret c)
  isplitr; · iexact HR
  isplitl [HW]; · iexists W''; iexact HW
  isplitl [Hwait]; · iexact Hwait
  isplitl [Hr Hb Hs Hp Hgot]
  · isplitr [Hgot]
    · unfold Got recvPts
      isplitl [Hr Hb]
      · isplitl [Hr]; · iexact Hr
        iexists _; iexact Hb
      isplitl [Hs] <;> iassumption
    · iexact Hgot
  iapply (Outs.mono m (P := fun d => InPlace c t.val d ∨ d = fromD c t.val) (fun d hd => by
    rcases hd with h | ⟨s, hs, h⟩
    · exact Or.inl (Or.inl h)
    · rcases Nat.lt_succ_iff_lt_or_eq.mp hs with h' | h'
      · exact Or.inl (Or.inr ⟨s, h', h⟩)
      · exact Or.inr (h' ▸ h))) $$ HO

end Cert.KernelIdeal.A2A

end
-- ==== Proof.Body.lean ====
/- The kernel's body on one device. -/
module

public import proofs.«01_k».proof.Proof.Recv
public import proofs.«01_k».proof.Proof.Gen.KernelIdeal.Loops

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 67 → ℕ)

theorem xb_write (f w : Vec F S256x8192 .bf16) :
    (xbM.access (Rect.unit (s := S256x8192) ![0, 0] S256x8192.size inb_S256x8192_S256x8192_0_0)).write (Elt F) f w Finset.univ = w :=
  Memref.write_access_unit_zero_univ (Elt F) cc0_scratch0 (by decide) _ _ _
theorem x_read (f : Vec F S256x8192 .f32) :
    xM.view.readAt (Elt F) (Rect.unit (s := S256x8192) ![0, 0] S256x8192.size inb_S256x8192_S256x8192_0_0).toLoadRect f = f :=
  Memref.readAt_unit_zero (Elt F) cc0_stg0_0 (by decide) _ _

def xPts (c : Dev nD) : sProp 𝕄 := ((c : Thread nD τ).loc cc0_stg0_0) ↦[Finset.univ]{fullShare} (xArr m c)
/-- The room for the rounded rows. -/
def XbAny (c : Dev nD) : sProp 𝕄 := iprop(∃ f, ((c : Thread nD τ).loc cc0_scratch0) ↦[Finset.univ]{fullShare} f)
/-- The barrier passed: every other device's slot for this device is this device's. -/
def Theirs (c : Dev nD) : sProp 𝕄 := bigSep (Finset.univ.erase c) fun q : Dev nD => iprop(∃ f, recvPts (F := F) q c f)

theorem wp_part20 (c : Dev nD) (W : Waits sig Unit) (v2 a : BitVec 32) (b : BitVec 1) (d : BitVec 32)
    {Φ : (Σ' (c8_i32_283 : BitVec 32) (v413 : BitVec 32) (v418 : BitVec 32) (v420 : BitVec 32), BitVec 32) → sProp 𝕄} :
    iprop(records m K ∗ levAts L lv ∗ Sig c 29 W ∗ atPos ER (barCell c) 0 ∅ 0 ∗ cred (tallyAt (barCell c) () 31) ∗ xPts m c ∗ XbAny (F := F) c)
      ⊢ iprop((∀ r W', owes (c : Thread nD τ) (Or c 0) W' -∗ atPos ER (barCell c) 1 ∅ 0 -∗ Theirs (F := F) c -∗ xPts m c -∗ Xb m c -∗ Φ r)
      -∗ WP c (k0_part20 (F := F) xM (Memref.isWhole_whole _) wM (Memref.isWhole_whole _) oM (Memref.isWhole_whole _) xbM (Memref.isWhole_whole _) wbM (Memref.isWhole_whole _) accM (Memref.isWhole_whole _) sbM (Memref.isWhole_whole _) rbM (Memref.isWhole_whole _) cc0_scratch5 cc0_scratch6 cc0_scratch7 c v2 barA a b d) Φ) := by
  rw [k0_part20_eq_skeleton]
  unfold k0_part20_skel
  simp only [semSignalWord, semWaitWord, Prog.lift, Prog.bind_op, Prog.bind_ret, Prog.pure_eq_ret]
  iintro ⟨#HR, #Hlev, HS, Hat, Hc, HX, HXb⟩ Hk
  iapply (wp_signal_step m K c _ (k := 29) (by decide) (Fin.ext ((dev30_eq c).trans (by show _ = (_ + 1 + 29) % 32; rw [Nat.add_assoc]))) _ (by decide) W) $$ [HS]
  · isplitr; · iexact HR
    iexact HS
  iintro HS
  iapply (wp_signal_step m K c _ (k := 30) (by decide) (Fin.ext ((dev31_eq c).trans (by show _ = (_ + 1 + 30) % 32; rw [Nat.add_assoc]))) _ (by decide) W) $$ [HS]
  · isplitr; · iexact HR
    iexact HS
  iintro HS
  unfold Sig
  rw [Ob_end, add_zero]
  icases HS with ⟨HS, -⟩
  iapply (wp_barrier m K c W _ (by decide)) $$ [HS Hat Hc]
  · isplitr; · iexact HR
    isplitr; · iexact Hlev
    isplitl [HS]; · iexact HS
    isplitl [Hat] <;> iassumption
  iintro %W' HW Hat Hp
  unfold xPts XbAny Xb
  icases HXb with ⟨%f, HXb⟩
  iapply (wp_load 𝒱₀ (c : Thread nD τ) none Set.univ (m := xM) (Finset.subset_univ _)) $$ HX; iintro HX
  iapply (wp_load 𝒱₀ (c : Thread nD τ) none Set.univ (m := xbM) (Finset.subset_univ _)) $$ HXb; iintro HXb
  iapply (wp_store 𝒱₀ (c : Thread nD τ) none Set.univ (m := xbM) (r := Rect.unit (s := S256x8192) ![0, 0] S256x8192.size inb_S256x8192_S256x8192_0_0) (Mk := Finset.univ) (Finset.subset_univ _)) $$ HXb; iintro HXb
  rw [xb_write, x_read]
  iapply (WP_ret c)
  unfold Theirs
  iapply Hk $$ HW Hat Hp HX HXb

/-- What a transfer to `t` takes, but for the slot it lands in. -/
def Mine (c t : Dev nD) : sProp 𝕄 :=
  iprop((∃ f, sendPts (F := F) c t f) ∗ dutyTok ER (sendCell c t) 0 0 ∗ dutyTok ER (recvCell t c) 0 0)
def Hear (c : Dev nD) (q : Dev nD) : sProp 𝕄 := iprop(atPos ER (recvCell c q) 0 ∅ 0 ∗ cred (tallyAt (recvCell c q) () NB))
def Heard (c : Dev nD) (q : Dev nD) : sProp 𝕄 := iprop(atPos ER (recvCell c q) 1 ∅ 0 ∗ ∃ f, recvPts (F := F) c q f)
def Gone (c : Dev nD) (t : Dev nD) : sProp 𝕄 := iprop(atPos ER (sendCell c t) 1 ∅ 0 ∗ ∃ f, sendPts (F := F) c t f)

/-- What the body begins with. -/
def Start (c : Dev nD) (W : Waits sig Unit) : sProp 𝕄 :=
  iprop(Sig (F := F) c 0 W ∗ atPos ER (barCell c) 0 ∅ 0 ∗ cred (tallyAt (barCell c) () 31) ∗ bigSep Finset.univ (Mine (F := F) c)
    ∗ (∃ f, recvPts (F := F) c c f) ∗ bigSep (Finset.univ.erase c) (Hear c)
    ∗ (bigSep (Finset.univ.erase c) fun t => atPos ER (sendCell c t) 0 ∅ 0)
    ∗ Idle m c 0 0 ∗ Idle m c 1 0 ∗ xPts m c ∗ Outs m c (fun _ => False) ∗ XbAny (F := F) c ∗ ∃ f, accPts (F := F) c f)
/-- What it ends with. -/
def Finish (c : Dev nD) : sProp 𝕄 :=
  iprop((∃ W, owes (c : Thread nD τ) 0 W) ∗ atPos ER (barCell c) 1 ∅ 0 ∗ bigSep (Finset.univ.erase c) (Heard (F := F) c)
    ∗ bigSep (Finset.univ.erase c) (Gone (F := F) c) ∗ ((∃ f, sendPts (F := F) c c f) ∗ ∃ f, recvPts (F := F) c c f)
    ∗ Idle m c 0 8 ∗ Idle m c 1 8 ∗ xPts m c ∗ Outs m c (fun _ => True) ∗ XbAny (F := F) c ∗ ∃ f, accPts (F := F) c f)

theorem all_but (c : Dev nD) (Φ : Dev nD → sProp 𝕄) : bigSep Finset.univ Φ = iprop(Φ c ∗ bigSep (Finset.univ.erase c) Φ) :=
  bigSep_erase (Finset.mem_univ c)

theorem undone_intro (c : Dev nD) :
    iprop(bigSep Finset.univ (Mine (F := F) c) ∗ Theirs (F := F) c ∗ ∃ f, recvPts (F := F) c c f)
      ⊢ bigSep (Finset.Ico 0 32) fun q => Undone (F := F) c (pos c q) := by
  rw [← bigSep_pos c (fun t => Undone (F := F) c t)]
  unfold Theirs
  iintro ⟨HM, HT, Ho⟩
  have h : ∀ t, iprop(Mine (F := F) c t ∗ ∃ f, recvPts (F := F) t c f) ⊢ Undone (F := F) c t := fun t => by
    unfold Mine Undone
    iintro ⟨⟨Ha, Hb, Hc⟩, Hd⟩
    isplitl [Ha]; · iexact Ha
    isplitl [Hd]; · iexact Hd
    isplitl [Hb] <;> iassumption
  iapply (show bigSep Finset.univ (fun t => iprop(Mine (F := F) c t ∗ ∃ f, recvPts (F := F) t c f)) ⊢ bigSep Finset.univ fun t => Undone (F := F) c t
    from bigSep_mono fun t _ => h t)
  rw [bigSep_sep', all_but c fun t => iprop(∃ f, recvPts (F := F) t c f)]
  isplitl [HM]; · iexact HM
  isplitl [Ho] <;> iassumption

theorem done_elim (c : Dev nD) : (bigSep (Finset.Ico 0 32) fun q => Done (F := F) c (pos c q))
    ⊢ iprop(((∃ f, sendPts (F := F) c c f) ∗ ∃ f, recvPts (F := F) c c f) ∗ bigSep (Finset.univ.erase c) (Done (F := F) c)) := by
  rw [← bigSep_pos c (fun t => Done (F := F) c t), all_but c]
  refine sep_mono_left (Entails.of_eq ?_)
  unfold Done
  exact if_pos rfl

theorem wait_intro (c : Dev nD) :
    iprop(bigSep (Finset.univ.erase c) (Hear (F := F) c) ∗ (bigSep (Finset.univ.erase c) fun t => atPos ER (sendCell c t) 0 ∅ 0)
      ∗ bigSep (Finset.univ.erase c) (Done (F := F) c)) ⊢ bigSep (Finset.Ico 0 31) (Wait (F := F) c) := by
  rw [bigSep_fromD c (Hear (F := F) c), bigSep_toD c (fun t => atPos ER (sendCell c t) 0 ∅ 0), bigSep_toD c (Done (F := F) c), ← bigSep_sep', ← bigSep_sep']
  exact Entails.rfl

theorem got_elim (c : Dev nD) : bigSep (Finset.Ico 0 31) (Got (F := F) c)
    ⊢ iprop(bigSep (Finset.univ.erase c) (Heard (F := F) c) ∗ bigSep (Finset.univ.erase c) (Gone (F := F) c)) := by
  rw [bigSep_fromD c (Heard (F := F) c), bigSep_toD c (Gone (F := F) c), ← bigSep_sep']
  exact Entails.rfl

theorem own_all (c : Dev nD) : Outs m c (Own c 32) ⊢ Outs m c (InPlace c 0) :=
  Outs.mono m fun d hd => by
    rcases hd with h | ⟨s, hs, -⟩
    · refine ⟨h, ?_⟩
      obtain ⟨q, hq, e⟩ := Finset.mem_image.mp (show c ∈ (Finset.Ico 0 32).image (pos c) by rw [pos_image]; exact Finset.mem_univ _)
      exact ⟨q, (Finset.mem_Ico.mp hq).2, e⟩
    · omega
theorem place_all (c : Dev nD) : Outs m c (InPlace c 31) ⊢ Outs m c (fun _ => True) :=
  Outs.mono m fun d _ => by
    by_cases h : d = c
    · exact Or.inl h
    · obtain ⟨s, hs, e⟩ := Finset.mem_image.mp (show d ∈ (Finset.Ico 0 31).image (fromD c) by
        rw [fromD_image]; exact Finset.mem_erase.mpr ⟨h, Finset.mem_univ _⟩)
      exact Or.inr ⟨s, (Finset.mem_Ico.mp hs).2, e.symm⟩

theorem due_first (c : Dev nD) : Due m c 0 = Fly m c 0 0 := by unfold Due; exact if_pos (by decide)
theorem due_last (c : Dev nD) : Due m c 16 = Idle m c 0 8 := by unfold Due; exact if_neg (by decide)

set_option warn.classDefReducibility false in
def loop1 (c : Dev nD) (v2 : BitVec 32) :
    Gen.LoopInvTy_k0_t1 (F := F) Unit ℕ UU ℕ 𝒱₀ c none Set.univ xM (Memref.isWhole_whole _) wM (Memref.isWhole_whole _) oM (Memref.isWhole_whole _) xbM (Memref.isWhole_whole _) wbM (Memref.isWhole_whole _) accM (Memref.isWhole_whole _) sbM (Memref.isWhole_whole _) rbM (Memref.isWhole_whole _) cc0_scratch5 cc0_scratch6 cc0_scratch7 c v2 where
  inv k _ := Inv1 m K c k
  step k u := wp_trip1 m K c v2 k u
set_option warn.classDefReducibility false in
def loop2 (c : Dev nD) (v2 b : BitVec 32) :
    Gen.LoopInvTy_k0_t2 (F := F) Unit ℕ UU ℕ 𝒱₀ c none Set.univ xM (Memref.isWhole_whole _) wM (Memref.isWhole_whole _) oM (Memref.isWhole_whole _) xbM (Memref.isWhole_whole _) wbM (Memref.isWhole_whole _) accM (Memref.isWhole_whole _) sbM (Memref.isWhole_whole _) rbM (Memref.isWhole_whole _) cc0_scratch5 cc0_scratch6 cc0_scratch7 c v2 b where
  inv k _ := Inv2 m K c k
  step k u := wp_trip2 m K c v2 b k u

theorem wp_part21 (c : Dev nD) (W : Waits sig Unit) {Φ : (Σ' (d0 : Dev nD) (v2 : BitVec 32), BitVec 32) → sProp 𝕄} :
    iprop(records m K ∗ levAts L lv ∗ Start m c W)
      ⊢ iprop((∀ v2 b, Inv1 m K c 16 -∗ atPos ER (barCell c) 1 ∅ 0 -∗ xPts m c -∗ bigSep (Finset.univ.erase c) (Hear (F := F) c)
          -∗ (bigSep (Finset.univ.erase c) fun t => atPos ER (sendCell c t) 0 ∅ 0) -∗ Φ ⟨c, v2, b⟩)
      -∗ WP c (k0_part21 (F := F) xM (Memref.isWhole_whole _) wM (Memref.isWhole_whole _) oM (Memref.isWhole_whole _) xbM (Memref.isWhole_whole _) wbM (Memref.isWhole_whole _) accM (Memref.isWhole_whole _) sbM (Memref.isWhole_whole _) rbM (Memref.isWhole_whole _) cc0_scratch5 cc0_scratch6 cc0_scratch7) Φ) := by
  rw [k0_part21_eq_skeleton]
  unfold k0_part21_skel Start
  iintro ⟨#HR, #Hlev, HS, Hat, Hc, HM, Ho, Hh, Hs, HI0, HI1, HX, HO, HXb, HA⟩ Hk
  iapply (WP_bind c)
  iapply (wp_part8 m K c W) $$ [HS]
  · isplitr <;> iassumption
  iintro %v2 %r1 %r2 %r3 HS
  iapply (WP_bind c)
  iapply (wp_part9 m K c W _ _ _ _) $$ [HS]
  · isplitr <;> iassumption
  iintro %r9 HS
  iapply (WP_bind c)
  iapply (wp_part10 m K c W _ _ _ _) $$ [HS]
  · isplitr <;> iassumption
  iintro %r10 HS
  iapply (WP_bind c)
  iapply (wp_part11 m K c W _ _ _ _) $$ [HS]
  · isplitr <;> iassumption
  iintro %r11 HS
  iapply (WP_bind c)
  iapply (wp_part12 m K c W _ _ _ _) $$ [HS]
  · isplitr <;> iassumption
  iintro %r12 HS
  iapply (WP_bind c)
  iapply (wp_part13 m K c W _ _ _ _) $$ [HS]
  · isplitr <;> iassumption
  iintro %r13 HS
  iapply (WP_bind c)
  iapply (wp_part14 m K c W _ _ _ _) $$ [HS]
  · isplitr <;> iassumption
  iintro %r14 HS
  iapply (WP_bind c)
  iapply (wp_part15 m K c W _ _ _ _) $$ [HS]
  · isplitr <;> iassumption
  iintro %r15 HS
  iapply (WP_bind c)
  iapply (wp_part16 m K c W _ _ _ _) $$ [HS]
  · isplitr <;> iassumption
  iintro %r16 HS
  iapply (WP_bind c)
  iapply (wp_part17 m K c W _ _ _ _) $$ [HS]
  · isplitr <;> iassumption
  iintro %r17 HS
  iapply (WP_bind c)
  iapply (wp_part18 m K c W _ _ _ _) $$ [HS]
  · isplitr <;> iassumption
  iintro %r18 HS
  iapply (WP_bind c)
  iapply (wp_part19 m K c W _ _ _ _) $$ [HS]
  · isplitr <;> iassumption
  iintro %r19 HS
  iapply (WP_bind c)
  iapply (wp_part20 m K c W _ _ _ _) $$ [HS Hat Hc HX HXb]
  · isplitr; · iexact HR
    isplitr; · iexact Hlev
    isplitl [HS]; · iexact HS
    isplitl [Hat]; · iexact Hat
    isplitl [Hc]; · iexact Hc
    isplitl [HX] <;> iassumption
  iintro %r20 %W' HW Hat HT HX HXb
  obtain ⟨e1, e2, e3, e4, e5⟩ := r20
  simp only [Prog.lift, Prog.bind_op, Prog.bind_ret, Prog.pure_eq_ret]
  iapply (wp_fetch m K c (s := 0) (R := 0) (by decide) (off := ![0, 0, 0]) rfl _ (off1_eq c) _ _ (wsem_eq (s := 0) (off := ![0]) rfl _)) $$ [HI0]
  · isplitr <;> iassumption
  iintro HF
  iapply (exec_loop Idealize.ShloMosaic.frame (wpE defs₀ 𝒱₀ (c : Thread nD τ) none) Set.univ _ _ _ _ _ _ (loop1 m K c v2)) $$ [HW HM HT Ho HO HXb HA HF HI1]
  · iapply (show Inv1 m K c 0 ⊢ (loop1 m K c v2).inv 0 () from Entails.rfl)
    unfold Inv1
    rw [due_first, show Idle m c (sl (0 + 1)) ((0 + 1) / 2) = Idle m c 1 0 from rfl]
    isplitr; · iexact HR
    isplitr; · iexact Hlev
    isplitl [HW HM HT Ho]
    · unfold Snd
      isplitl [HW]; · iexists W'; iexact HW
      isplitl
      · iapply (undone_intro c)
        isplitl [HM]; · iexact HM
        isplitl [HT] <;> iassumption
      · iapply (Entails.of_eq (bigSep_empty (Φ := fun q => Done (F := F) c (pos c q))).symm)
        iempintro
    isplitl [HO]
    · iapply (Outs.mono m (P := fun _ => False) (fun d hd => by obtain ⟨-, q, hq, -⟩ := hd; omega)) $$ HO
    isplitl [HXb]; · iexact HXb
    isplitl [HA]
    · icases HA with ⟨%f, HA⟩
      unfold AccIn
      iexists f
      isplitr
      · ipureintro; intro h; exact absurd rfl h
      · iexact HA
    isplitl [HF]
    · iexact HF
    · iexact HI1
  iintro %u Hinv
  iapply (WP_ret c)
  ihave Hinv := (show (loop1 m K c v2).inv (Scf.trips k0_t1_loop.lb k0_t1_loop.ub k0_t1_loop.st) u ⊢ Inv1 m K c 16 from Entails.rfl) $$ Hinv
  iapply Hk $$ Hinv Hat HX Hh Hs

theorem wp_body (c : Dev nD) (W : Waits sig Unit) {Φ : PUnit → sProp 𝕄} :
    iprop(records m K ∗ levAts L lv ∗ Start m c W) ⊢ iprop((Finish m c -∗ Φ ⟨⟩) -∗ WP c (cc0_body (F := F) xM (Memref.isWhole_whole _) wM (Memref.isWhole_whole _) oM (Memref.isWhole_whole _) xbM (Memref.isWhole_whole _) wbM (Memref.isWhole_whole _) accM (Memref.isWhole_whole _) sbM (Memref.isWhole_whole _) rbM (Memref.isWhole_whole _) cc0_scratch5 cc0_scratch6 cc0_scratch7) Φ) := by
  rw [cc0_body_eq_skeleton]
  unfold cc0_body_skel
  iintro ⟨#HR, #Hlev, HS⟩ Hk
  iapply (WP_bind c)
  iapply (wp_part21 m K c W) $$ [HS]
  · isplitr; · iexact HR
    isplitr <;> iassumption
  iintro %v2 %b Hinv Hat HX Hh Hs
  unfold Inv1
  rw [due_last, show Idle m c (sl (16 + 1)) ((16 + 1) / 2) = Idle m c 1 8 from rfl]
  icases Hinv with ⟨-, -, HS, HO, HXb, HA, HD, HI1⟩
  unfold Snd
  icases HS with ⟨HW, -, HN⟩
  ihave HN := (done_elim (F := F) c) $$ HN
  icases HN with ⟨Hown, HN⟩
  iapply (exec_loop Idealize.ShloMosaic.frame (wpE defs₀ 𝒱₀ (c : Thread nD τ) none) Set.univ _ _ _ _ _ _ (loop2 m K c v2 b)) $$ [HW Hh Hs HN HO]
  · iapply (show Inv2 m K c 0 ⊢ (loop2 m K c v2 b).inv 0 () from Entails.rfl)
    unfold Inv2
    isplitr; · iexact HR
    isplitl [HW]
    · rw [show 8 * (16 / 4) = 32 from rfl, Or_end]; iexact HW
    isplitl [Hh Hs HN]
    · iapply (wait_intro (F := F) c)
      isplitl [Hh]; · iexact Hh
      isplitl [Hs] <;> iassumption
    isplitr
    · iapply (Entails.of_eq (bigSep_empty (Φ := Got (F := F) c)).symm)
      iempintro
    iapply (own_all m c) $$ HO
  iintro %u Hinv
  iapply (WP_ret c)
  iapply Hk
  ihave Hinv := (show (loop2 m K c v2 b).inv (Scf.trips k0_t2_loop.lb k0_t2_loop.ub k0_t2_loop.st) u ⊢ Inv2 m K c 31 from Entails.rfl) $$ Hinv
  unfold Inv2 Finish
  icases Hinv with ⟨-, HW, -, Hgot, HO⟩
  ihave Hgot := (got_elim (F := F) c) $$ Hgot
  icases Hgot with ⟨Hh, Hs⟩
  isplitl [HW]; · iexact HW
  isplitl [Hat]; · iexact Hat
  isplitl [Hh]; · iexact Hh
  isplitl [Hs]; · iexact Hs
  isplitl [Hown]; · iexact Hown
  isplitl [HD]; · iexact HD
  isplitl [HI1]; · iexact HI1
  isplitl [HX]; · iexact HX
  isplitl [HO]; · iapply (place_all m c) $$ HO
  isplitl [HXb]
  · unfold XbAny Xb; iexists _; iexact HXb
  unfold AccIn
  icases HA with ⟨%f, -, HA⟩
  iexists f; iexact HA

end Cert.KernelIdeal.A2A

end
-- ==== Proof.Dats.lean ====
/- What a device holds before the body and after it, and the body's obligation between the two. -/
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Ring

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## A device's semaphores, sort by sort -/

def cellSort : Fin 1 ⊕ Fin 2 ⊕ Dev nD ⊕ Dev nD → Fin 67 := Sum.elim (fun _ => 0) (Sum.elim kw (Sum.elim ks kr))

theorem cellSort_bijective : Function.Bijective cellSort := by
  refine (Fintype.bijective_iff_injective_and_card _).mpr ⟨?_, by decide⟩
  rintro (a | s | t | t) (a' | s' | t' | t') h
  all_goals
    have h' := congrArg Fin.val h
    simp only [cellSort, Sum.elim_inl, Sum.elim_inr, kw, ks, kr, Fin.val_zero] at h'
  · exact congrArg Sum.inl (Subsingleton.elim _ _)
  · exact absurd h' (by have := s'.isLt; omega)
  · exact absurd h' (by have : t'.val < 32 := t'.isLt; omega)
  · exact absurd h' (by have : t'.val < 32 := t'.isLt; omega)
  · exact absurd h' (by have := s.isLt; omega)
  · exact congrArg Sum.inr (congrArg Sum.inl (Fin.ext (by omega)))
  · exact absurd h' (by have := s.isLt; have : t'.val < 32 := t'.isLt; omega)
  · exact absurd h' (by have := s.isLt; have : t'.val < 32 := t'.isLt; omega)
  · exact absurd h' (by have : t.val < 32 := t.isLt; omega)
  · exact absurd h' (by have : t.val < 32 := t.isLt; have := s'.isLt; omega)
  · exact congrArg Sum.inr (congrArg Sum.inr (congrArg Sum.inl (Fin.ext (by omega))))
  · exact absurd h' (by have : t.val < 32 := t.isLt; have : t'.val < 32 := t'.isLt; omega)
  · exact absurd h' (by have : t.val < 32 := t.isLt; omega)
  · exact absurd h' (by have : t.val < 32 := t.isLt; have := s'.isLt; omega)
  · exact absurd h' (by have : t.val < 32 := t.isLt; have : t'.val < 32 := t'.isLt; omega)
  · exact congrArg Sum.inr (congrArg Sum.inr (congrArg Sum.inr (Fin.ext (by omega))))

theorem bigSep_cells (Φ : Fin 67 → sProp 𝕄) :
    bigSep Finset.univ Φ = iprop(Φ 0 ∗ bigSep Finset.univ (fun s : Fin 2 => Φ (kw s))
      ∗ bigSep Finset.univ (fun t : Dev nD => Φ (ks t)) ∗ bigSep Finset.univ fun t : Dev nD => Φ (kr t)) := by
  rw [bigSep_univ_equiv (Equiv.ofBijective cellSort cellSort_bijective) Φ, bigSep_univ_sum, bigSep_univ_sum, bigSep_univ_sum]
  rw [Finset.univ_unique, bigSep_singleton]
  rfl

theorem bigSep_two (Φ : Fin 2 → sProp 𝕄) : bigSep Finset.univ Φ = iprop(Φ 0 ∗ Φ 1) := BI.bigSep_fin_two Φ

theorem keep {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## The buffers, whole and in slots -/

theorem send_slots (c : Dev nD) : iprop(∃ f, ((c : Thread nD τ).loc cc0_scratch3) ↦{fullShare} f)
    ⊢ (bigSep Finset.univ fun t : Dev nD => iprop(∃ f, sendPts (F := F) c t f) : sProp 𝕄) := by
  iintro ⟨%f, H⟩
  iapply (show (((c : Thread nD τ).loc cc0_scratch3) ↦{fullShare} f : sProp 𝕄) ⊢ bigSep Finset.univ fun t : Dev nD => iprop(∃ f, sendPts (F := F) c t f) from by
    rw [Ring.pointsTo_blocks (ℓ := (c : Thread nD τ).loc cc0_scratch3) slot (fun b b' h => slot_disjoint h) slot_cover f]
    exact bigSep_mono fun t _ => show (((c : Thread nD τ).loc cc0_scratch3) ↦[slot t]{fullShare} f : sProp 𝕄) ⊢ iprop(∃ f, sendPts (F := F) c t f) from by
      unfold sendPts; iintro H; iexists f; iexact H)
  iexact H
theorem recv_slots (c : Dev nD) : iprop(∃ f, ((c : Thread nD τ).loc cc0_scratch4) ↦{fullShare} f)
    ⊢ (bigSep Finset.univ fun t : Dev nD => iprop(∃ f, recvPts (F := F) c t f) : sProp 𝕄) := by
  iintro ⟨%f, H⟩
  iapply (show (((c : Thread nD τ).loc cc0_scratch4) ↦{fullShare} f : sProp 𝕄) ⊢ bigSep Finset.univ fun t : Dev nD => iprop(∃ f, recvPts (F := F) c t f) from by
    rw [Ring.pointsTo_blocks (ℓ := (c : Thread nD τ).loc cc0_scratch4) slot (fun b b' h => slot_disjoint h) slot_cover f]
    exact bigSep_mono fun t _ => show (((c : Thread nD τ).loc cc0_scratch4) ↦[slot t]{fullShare} f : sProp 𝕄) ⊢ iprop(∃ f, recvPts (F := F) c t f) from by
      unfold recvPts; iintro H; iexists f; iexact H)
  iexact H
theorem wbuf_slots (c : Dev nD) : iprop(∃ f, ((c : Thread nD τ).loc cc0_scratch1) ↦{fullShare} f)
    ⊢ (bigSep Finset.univ fun s : Fin 2 => iprop(∃ f, wbufPts (F := F) c s f) : sProp 𝕄) := by
  iintro ⟨%f, H⟩
  iapply (show (((c : Thread nD τ).loc cc0_scratch1) ↦{fullShare} f : sProp 𝕄) ⊢ bigSep Finset.univ fun s : Fin 2 => iprop(∃ f, wbufPts (F := F) c s f) from by
    rw [Ring.pointsTo_blocks (ℓ := (c : Thread nD τ).loc cc0_scratch1) wslot (fun b b' h => wslot_disjoint h) wslot_cover f]
    exact bigSep_mono fun t _ => show (((c : Thread nD τ).loc cc0_scratch1) ↦[wslot t]{fullShare} f : sProp 𝕄) ⊢ iprop(∃ f, wbufPts (F := F) c t f) from by
      unfold wbufPts; iintro H; iexists f; iexact H)
  iexact H

theorem send_whole (c : Dev nD) (f₀ : Buf (Elt F) ((c : Thread nD τ).loc cc0_scratch3)) :
    (bigSep Finset.univ fun t : Dev nD => iprop(∃ f, sendPts (F := F) c t f) : sProp 𝕄) ⊢ iprop(∃ f, ((c : Thread nD τ).loc cc0_scratch3) ↦{fullShare} f) :=
  Ring.pointsTo_blocks_join_exists (ℓ := (c : Thread nD τ).loc cc0_scratch3) slot (fun b b' h => slot_disjoint h) slot_cover f₀
theorem recv_whole (c : Dev nD) (f₀ : Buf (Elt F) ((c : Thread nD τ).loc cc0_scratch4)) :
    (bigSep Finset.univ fun t : Dev nD => iprop(∃ f, recvPts (F := F) c t f) : sProp 𝕄) ⊢ iprop(∃ f, ((c : Thread nD τ).loc cc0_scratch4) ↦{fullShare} f) :=
  Ring.pointsTo_blocks_join_exists (ℓ := (c : Thread nD τ).loc cc0_scratch4) slot (fun b b' h => slot_disjoint h) slot_cover f₀
theorem wbuf_whole (c : Dev nD) (f₀ : Buf (Elt F) ((c : Thread nD τ).loc cc0_scratch1)) :
    (bigSep Finset.univ fun s : Fin 2 => iprop(∃ f, wbufPts (F := F) c s f) : sProp 𝕄) ⊢ iprop(∃ f, ((c : Thread nD τ).loc cc0_scratch1) ↦{fullShare} f) :=
  Ring.pointsTo_blocks_join_exists (ℓ := (c : Thread nD τ).loc cc0_scratch1) wslot (fun b b' h => wslot_disjoint h) wslot_cover f₀

theorem w_halves (c : Dev nD) : (((c : Thread nD τ).loc main_arg1) ↦{fullShare} (wArr m c) : sProp 𝕄)
    ⊣⊢ iprop(wPts m c 0 Finset.univ ∗ wPts m c 1 Finset.univ) := by
  unfold wPts half
  rw [if_pos rfl, if_neg (by decide)]
  exact pointsTo_share (PosShare.mem_left_op_right fullShare)

/-! ## Before the body and after it -/

/-- A device's positions, and the tokens of the duties it pays. -/
def Linear (c : Dev nD) : sProp 𝕄 :=
  iprop((bigSep Finset.univ fun k : Fin 67 => atPos ER (kcell (c, k)) 0 ∅ 0)
    ∗ (bigSep Finset.univ fun q : Dev nD => dutyTok ER (barCell q) 0 c)
    ∗ (bigSep Finset.univ fun s : Fin 2 => bigSep (Finset.Ico 0 8) fun r => dutyTok ER (wCell c s) r 0)
    ∗ (bigSep Finset.univ fun t : Dev nD => dutyTok ER (sendCell c t) 0 0)
    ∗ (bigSep Finset.univ fun t : Dev nD => dutyTok ER (recvCell t c) 0 0))

/-- What a device's body starts from, but for the buffers of the launch. -/
def Begin (c : Dev nD) : sProp 𝕄 :=
  iprop((∃ K, records m K ∗ Linear (F := F) c) ∗ levAts L lv ∗ cred (tallyAt (barCell c) () 31)
    ∗ (bigSep (Finset.univ.erase c) fun q : Dev nD => cred (tallyAt (recvCell c q) () NB))
    ∗ (((c : Thread nD τ).loc main_arg1) ↦{fullShare} (wArr m c)))

def Φ₀ (c : Dev nD) : sProp 𝕄 := iprop(Begin m c ∗ Pipeline.scopedRest spec0 c)
def Φ₁ (c : Dev nD) : sProp 𝕄 :=
  iprop((((c : Thread nD τ).loc main_arg1) ↦{fullShare} (wArr m c)) ∗ (bigSep Finset.univ fun k : Fin 67 => semVal (kcell (c, k)) 0)
    ∗ Pipeline.scopedRest spec0 c)

/-! ## Into the body -/

/-- What the body leaves alone: the positions at the device's own two unused semaphores. -/
def Aside (c : Dev nD) : sProp 𝕄 := iprop(atPos ER (sendCell c c) 0 ∅ 0 ∗ atPos ER (recvCell c c) 0 ∅ 0)

theorem positions (c : Dev nD) : (bigSep Finset.univ fun k : Fin 67 => (atPos ER (kcell (c, k)) 0 ∅ 0 : sProp 𝕄))
    ⊢ iprop(atPos ER (barCell c) 0 ∅ 0 ∗ (atPos ER (wCell c 0) 0 ∅ 0 ∗ atPos ER (wCell c 1) 0 ∅ 0)
      ∗ (bigSep (Finset.univ.erase c) fun t => atPos ER (sendCell c t) 0 ∅ 0) ∗ (bigSep (Finset.univ.erase c) fun t => atPos ER (recvCell c t) 0 ∅ 0)
      ∗ Aside (F := F) c) := by
  rw [bigSep_cells, bigSep_two, kcell_bar, kcell_w, kcell_w,
    bigSep_congr (s := Finset.univ) (fun (t : Dev nD) _ => congrArg (fun g => (atPos ER g 0 ∅ 0 : sProp 𝕄)) (kcell_s c t)),
    bigSep_congr (s := Finset.univ) (fun (t : Dev nD) _ => congrArg (fun g => (atPos ER g 0 ∅ 0 : sProp 𝕄)) (kcell_r c t)),
    all_but c (fun t => atPos ER (sendCell c t) 0 ∅ 0), all_but c (fun t => atPos ER (recvCell c t) 0 ∅ 0)]
  unfold Aside
  iintro ⟨Hb, ⟨H0, H1⟩, ⟨Hs, Hss⟩, Hr, Hrs⟩
  isplitl [Hb]; · iexact Hb
  isplitl [H0 H1]; · isplitl [H0] <;> iassumption
  isplitl [Hss]; · iexact Hss
  isplitl [Hrs]; · iexact Hrs
  isplitl [Hs] <;> iassumption

theorem body_in (K : Dev nD × Fin 67 → ℕ) (c : Dev nD) (W : Waits sig Unit) (f : Vec F S8192x128 .f32) :
    iprop(records m K ∗ Linear (F := F) c ∗ cred (tallyAt (barCell c) () 31) ∗ (bigSep (Finset.univ.erase c) fun q : Dev nD => cred (tallyAt (recvCell c q) () NB))
      ∗ (((c : Thread nD τ).loc main_arg1) ↦{fullShare} (wArr m c)) ∗ Pipeline.scopedRest spec0 c
      ∗ owes (c : Thread nD τ) (O₀ c) W ∗ xPts m c ∗ (((c : Thread nD τ).loc cc0_stg1_0) ↦{fullShare} f))
      ⊢ iprop(Start m c W ∗ Aside (F := F) c) := by
  rw [scopedRest0_eq]
  unfold Linear
  iintro ⟨#HR, ⟨Hat, Htb, Htw, Hts, Htr⟩, Hcb, Hcr, Hw, ⟨Hxb, Hwb, Hacc, Hsb, Hrb⟩, HO, HX, Hout⟩
  ihave Hat := (positions (F := F) c) $$ Hat
  icases Hat with ⟨Hab, ⟨Haw0, Haw1⟩, Has, Har, Hown⟩
  ihave Hsb := (send_slots (F := F) c) $$ Hsb
  ihave Hrb := (recv_slots (F := F) c) $$ Hrb
  ihave Hwb := (wbuf_slots (F := F) c) $$ Hwb
  ihave Hwb := (Entails.of_eq (bigSep_two (F := F) _)) $$ Hwb
  ihave Htw := (Entails.of_eq (bigSep_two (F := F) _)) $$ Htw
  ihave Hrb := (Entails.of_eq (all_but c (fun t => iprop(∃ f, recvPts (F := F) c t f)))) $$ Hrb
  ihave Htb := (Entails.of_eq (all_but c (fun t => (dutyTok ER (barCell t) 0 c : sProp 𝕄)))) $$ Htb
  icases Hwb with ⟨Hwb0, Hwb1⟩
  icases Htw with ⟨Htw0, Htw1⟩
  icases Hrb with ⟨Hrown, Hrb⟩
  icases Htb with ⟨-, Htb⟩
  ihave Hw := (w_halves m c).1 $$ Hw
  icases Hw with ⟨Hw0, Hw1⟩
  unfold Start Sig Idle
  isplitr [Hown]
  rotate_left
  · iexact Hown
  isplitl [HO Htb Hrb]
  · isplitl [HO]
    · unfold O₀; rw [add_comm]; iexact HO
    rw [bigSep_sep', ← bigSep_toD c (fun t => dutyTok ER (barCell t) 0 c), ← bigSep_toD c (fun t => iprop(∃ f, recvPts (F := F) c t f))]
    isplitl [Htb] <;> iassumption
  isplitl [Hab]; · iexact Hab
  isplitl [Hcb]; · iexact Hcb
  isplitl [Hsb Hts Htr]
  · iapply (show iprop((bigSep Finset.univ fun t : Dev nD => iprop(∃ f, sendPts (F := F) c t f)) ∗ (bigSep Finset.univ fun t : Dev nD => dutyTok ER (sendCell c t) 0 0)
      ∗ bigSep Finset.univ fun t : Dev nD => dutyTok ER (recvCell t c) 0 0) ⊢ (bigSep Finset.univ (Mine (F := F) c) : sProp 𝕄) from by
        rw [← bigSep_sep', ← bigSep_sep']; exact Entails.rfl)
    isplitl [Hsb]; · iexact Hsb
    isplitl [Hts] <;> iassumption
  isplitl [Hrown]; · iexact Hrown
  isplitl [Har Hcr]
  · iapply (show iprop((bigSep (Finset.univ.erase c) fun t => atPos ER (recvCell c t) 0 ∅ 0) ∗ bigSep (Finset.univ.erase c) fun q : Dev nD => cred (tallyAt (recvCell c q) () NB))
      ⊢ (bigSep (Finset.univ.erase c) (Hear (F := F) c) : sProp 𝕄) from by rw [← bigSep_sep']; exact Entails.rfl)
    isplitl [Har] <;> iassumption
  isplitl [Has]; · iexact Has
  isplitl [Haw0 Htw0 Hwb0 Hw0]
  · isplitl [Haw0]; · iexact Haw0
    isplitr
    · ihave #H := (rec_w m K c 0) $$ HR
      icases H with ⟨-, #H⟩
      iexact H
    isplitl [Htw0]; · iexact Htw0
    isplitl [Hwb0] <;> iassumption
  isplitl [Haw1 Htw1 Hwb1 Hw1]
  · isplitl [Haw1]; · iexact Haw1
    isplitr
    · ihave #H := (rec_w m K c 1) $$ HR
      icases H with ⟨-, #H⟩
      iexact H
    isplitl [Htw1]; · iexact Htw1
    isplitl [Hwb1] <;> iassumption
  isplitl [HX]; · iexact HX
  isplitl [Hout]
  · unfold Outs
    iexists f
    isplitr; · ipureintro; exact fun i h => h.elim
    iexact Hout
  isplitl [Hxb]; · unfold XbAny; iexact Hxb
  unfold accPts; iexact Hacc

/-! ## Out of the body -/

section Close
variable (K : Dev nD × Fin 67 → ℕ)

theorem close_cell (c : Dev nD) (k : Fin 67) {g : GSem nD τ sig} (h : kcell (c, k) = g) {R : ℕ} (hR : ∀ r, R ≤ r → (Rd (F := F) m).duties g r = ∅) :
    iprop(records m K ∗ atPos ER g R ∅ 0) ⊢ (|={Set.univ}=> semVal (kcell (c, k)) 0 : sProp 𝕄) := by
  subst h
  iintro ⟨#HR, Hat⟩
  ihave #HI := (rec_at m K (c, k) rfl) $$ HR
  icases HI with ⟨#HI, -⟩
  iapply (Rounds.cell_close ER (Rd m) (Set.mem_univ (K (c, k))) (fun h => h) (R := R) hR)
  isplitr; · iexact HI
  iexact Hat

/-- Every semaphore of the device is at zero. -/
theorem close_all (c : Dev nD) :
    iprop(records m K ∗ atPos ER (barCell c) 1 ∅ 0 ∗ (atPos ER (wCell c 0) 8 ∅ 0 ∗ atPos ER (wCell c 1) 8 ∅ 0)
      ∗ (bigSep (Finset.univ.erase c) fun t => atPos ER (sendCell c t) 1 ∅ 0) ∗ (bigSep (Finset.univ.erase c) fun t => atPos ER (recvCell c t) 1 ∅ 0)
      ∗ Aside (F := F) c)
      ⊢ (|={Set.univ}=> bigSep Finset.univ fun k : Fin 67 => semVal (kcell (c, k)) 0 : sProp 𝕄) := by
  unfold Aside
  rw [bigSep_cells, bigSep_two, all_but c (fun t => semVal (kcell (c, ks t)) 0), all_but c (fun t => semVal (kcell (c, kr t)) 0)]
  iintro ⟨#HR, Hb, ⟨H0, H1⟩, Hss, Hrs, Hs, Hr⟩
  imod (close_cell m K c 0 (kcell_bar c) (later_bar m c)) $$ [Hb] with Hb
  · isplitr <;> iassumption
  imod (close_cell m K c (kw 0) (kcell_w c 0) (later_w m c 0)) $$ [H0] with H0
  · isplitr <;> iassumption
  imod (close_cell m K c (kw 1) (kcell_w c 1) (later_w m c 1)) $$ [H1] with H1
  · isplitr <;> iassumption
  imod (close_cell m K c (ks c) (kcell_s c c) (own_send m c)) $$ [Hs] with Hs
  · isplitr <;> iassumption
  imod (close_cell m K c (kr c) (kcell_r c c) (own_recv m c)) $$ [Hr] with Hr
  · isplitr <;> iassumption
  imod ((keep (R := records m K) fun t _ => close_cell m K c (ks t) (kcell_s c t) (later_send m c t)).trans (bigSep_fupd (Finset.univ.erase c) _)) $$ [Hss] with Hss
  · isplitr <;> iassumption
  imod ((keep (R := records m K) fun t _ => close_cell m K c (kr t) (kcell_r c t) (later_recv m c t)).trans (bigSep_fupd (Finset.univ.erase c) _)) $$ [Hrs] with Hrs
  · isplitr <;> iassumption
  imodintro
  isplitl [Hb]; · iexact Hb
  isplitl [H0 H1]; · isplitl [H0] <;> iassumption
  isplitl [Hs Hss]; · isplitl [Hs] <;> iassumption
  isplitl [Hr] <;> iassumption

theorem body_out (c : Dev nD) :
    iprop(records m K ∗ Finish m c ∗ Aside (F := F) c)
      ⊢ (|={Set.univ}=> iprop(Φ₁ m c ∗ (∃ W, owes (c : Thread nD τ) 0 W) ∗ xPts m c ∗ (((c : Thread nD τ).loc cc0_stg1_0) ↦{fullShare} (outArr m c))) : sProp 𝕄) := by
  unfold Finish Idle
  iintro ⟨#HR, ⟨HO, Hb, Hh, Hg, ⟨Hs, Hr⟩, ⟨Ha0, -, -, Hwb0, Hw0⟩, ⟨Ha1, -, -, Hwb1, Hw1⟩, HX, Hout, Hxb, Hacc⟩, Has⟩
  ihave Hh := (show bigSep (Finset.univ.erase c) (Heard (F := F) c)
    ⊢ iprop((bigSep (Finset.univ.erase c) fun t => atPos ER (recvCell c t) 1 ∅ 0) ∗ bigSep (Finset.univ.erase c) fun t => iprop(∃ f, recvPts (F := F) c t f)) from by
      rw [← bigSep_sep']; exact Entails.rfl) $$ Hh
  ihave Hg := (show bigSep (Finset.univ.erase c) (Gone (F := F) c)
    ⊢ iprop((bigSep (Finset.univ.erase c) fun t => atPos ER (sendCell c t) 1 ∅ 0) ∗ bigSep (Finset.univ.erase c) fun t => iprop(∃ f, sendPts (F := F) c t f)) from by
      rw [← bigSep_sep']; exact Entails.rfl) $$ Hg
  icases Hh with ⟨Hrs, Hrb⟩
  icases Hg with ⟨Hss, Hsb⟩
  imod (close_all m K c) $$ [Hb Ha0 Ha1 Hss Hrs Has] with Hz
  · isplitr; · iexact HR
    isplitl [Hb]; · iexact Hb
    isplitl [Ha0 Ha1]; · isplitl [Ha0] <;> iassumption
    isplitl [Hss]; · iexact Hss
    isplitl [Hrs] <;> iassumption
  imodintro
  isplitr [HO HX Hout]
  · unfold Φ₁
    rw [scopedRest0_eq]
    isplitl [Hw0 Hw1]
    · iapply (w_halves m c).2
      isplitl [Hw0] <;> iassumption
    isplitl [Hz]; · iexact Hz
    isplitl [Hxb]; · unfold XbAny; iexact Hxb
    isplitl [Hwb0 Hwb1]
    · icases Hwb0 with ⟨%f0, Hwb0⟩
      iapply (wbuf_whole (F := F) c f0)
      rw [bigSep_two]
      isplitl [Hwb0]; · iexists f0; iexact Hwb0
      iexact Hwb1
    isplitl [Hacc]; · unfold accPts; iexact Hacc
    isplitl [Hs Hsb]
    · icases Hs with ⟨%f0, Hs⟩
      iapply (send_whole (F := F) c f0)
      rw [all_but c (fun t => iprop(∃ f, sendPts (F := F) c t f))]
      isplitl [Hs]; · iexists f0; iexact Hs
      iexact Hsb
    · icases Hr with ⟨%f0, Hr⟩
      iapply (recv_whole (F := F) c f0)
      rw [all_but c (fun t => iprop(∃ f, recvPts (F := F) c t f))]
      isplitl [Hr]; · iexists f0; iexact Hr
      iexact Hrb
  isplitl [HO]; · iexact HO
  isplitl [HX]; · iexact HX
  unfold Outs
  icases Hout with ⟨%f, %hf, Hout⟩
  have e : f = outArr m c := funext fun i => hf i trivial
  subst e
  iexact Hout

end Close

end Cert.KernelIdeal.A2A

end
-- ==== Proof.Obligation.lean ====
/- The body at the library's obligation. -/
module

public import proofs.«01_k».proof.Proof.Dats
public import Idealize.ShloMosaic.Lib.Tactic

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The pipeline's proof data -/

/-- Either window is its whole array. -/
theorem blk_x (t : Fin cfg0.N) (f : Vec F S256x8192 .f32) : (win0_0.blk t).view.read (Elt F) f = f := by
  refine funext fun y => congrArg f ?_
  exact funext fun a => Fin.ext (Pipeline.Window.rect_emb_val_of_index_zero win0_0 t a rfl y)
theorem blk_out (t : Fin cfg0.N) (f : Vec F S8192x128 .f32) : (win0_1.blk t).view.read (Elt F) f = f := by
  refine funext fun y => congrArg f ?_
  exact funext fun a => Fin.ext (Pipeline.Window.rect_emb_val_of_index_zero win0_1 t a rfl y)

def dats (_ : Fin 1) (c : Dev nD) : Dat τ (Elt F) Unit ℕ UU ℕ cfg0 c where
  A w := m ((cfg0.win w).arr.view.loc (c : Thread nD τ))
  after w _ := match w with
    | ⟨0, _⟩ => xArr m c
    | ⟨1, _⟩ => outArr m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_0 (t : Fin cfg0.N) : (cfg0.win (0 : Fin 2)).fetch t = true := by rw [show t = t0_0 from fin_N0 t]; rfl

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def Before (c : Dev nD) : sProp 𝕄 :=
  iprop(Φ₀ m c ∗ (dats m 0 c).owesAt () t0_0.castSucc
    ∗ (∃ d, held c cc0_stg0_0 ((dats m 0 c).before (0 : Fin 2) t0_0 d))
    ∗ (∃ d, held c cc0_stg1_0 ((dats m 0 c).before (1 : Fin 2) t0_0 d)))
def After (c : Dev nD) : sProp 𝕄 :=
  iprop(Φ₁ m c ∗ (dats m 0 c).owesAt () t0_0.succ ∗ held c cc0_stg0_0 (xArr m c) ∗ held c cc0_stg1_0 (outArr m c))

theorem body_sound (c : Dev nD) :
    Before m c ⊢ WP c (cc0_body xM (Memref.isWhole_whole _) wM (Memref.isWhole_whole _) oM (Memref.isWhole_whole _) xbM (Memref.isWhole_whole _) wbM (Memref.isWhole_whole _) accM (Memref.isWhole_whole _) sbM (Memref.isWhole_whole _) rbM (Memref.isWhole_whole _) cc0_scratch5 cc0_scratch6 cc0_scratch7)
      (fun _ => After m c) := by
  unfold Before Φ₀ Begin
  iintro ⟨⟨⟨⟨%K, #HR, Hlin⟩, #Hlev, Hcb, Hcr, Hw⟩, Hsc⟩, Ho, ⟨%d0, %g0, %hg0, Hx⟩, ⟨%d1, %g1, %hg1, Hout⟩⟩
  have hx : g0 = xArr m c := by
    rw [hg0]; unfold Dat.before; rw [if_pos (fetch_0 t0_0)]
    exact blk_x t0_0 (xArr m c)
  subst hx
  unfold Dat.owesAt Pipeline.owesWithin
  icases Ho with ⟨%W, %hW, HO⟩
  rw [show (dats m 0 c).owed t0_0.castSucc = O₀ c from rfl]
  ihave H := (body_in m K c W g1) $$ [Hlin Hcb Hcr Hw Hsc HO Hx Hout]
  · isplitr; · iexact HR
    isplitl [Hlin]; · iexact Hlin
    isplitl [Hcb]; · iexact Hcb
    isplitl [Hcr]; · iexact Hcr
    isplitl [Hw]; · iexact Hw
    isplitl [Hsc]; · iexact Hsc
    isplitl [HO]; · iexact HO
    isplitl [Hx]; · unfold xPts; iexact Hx
    iexact Hout
  icases H with ⟨HS, Has⟩
  iapply (wp_fupd frame)
  iapply (wp_body m K c W) $$ [HS]
  · isplitr; · iexact HR
    isplitr; · iexact Hlev
    iexact HS
  iintro HF
  imod (body_out m K c) $$ [HF Has] with H
  · isplitr; · iexact HR
    isplitl [HF] <;> iassumption
  icases H with ⟨HΦ, ⟨%W', HO⟩, HX, Hout⟩
  imodintro
  unfold After Dat.owesAt Pipeline.owesWithin
  rw [show (dats m 0 c).owed t0_0.succ = 0 from rfl]
  isplitl [HΦ]; · iexact HΦ
  isplitl [HO]
  · iexists W'
    isplitr; · ipureintro; exact fun _ _ => Or.inl trivial
    iexact HO
  isplitl [HX]
  · iexists _; isplitr; · (ipureintro; rfl)
    unfold xPts; iexact HX
  iexists _; isplitr; · (ipureintro; rfl)
  iexact Hout

end Cert.KernelIdeal.A2A

end
-- ==== Proof.Ghost.lean ====
/- The ghost state of the launch: the invariants of all the devices' semaphores, their positions, and the tokens of the
   duties, each dealt to the device that pays it. -/
module

public import proofs.«01_k».proof.Proof.Obligation

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The semaphores, all of them -/

/-- The kernel's own transfer semaphores. -/
def osem (k : Fin 66) : SemLoc sig := .dma ⟨k.val + 2, by have := k.isLt; show _ < 68; omega⟩

theorem low : ∀ (w : Fin cfg0.W) (s : Fin (cfg0.spec w).nbuf), ((cfg0.spec w).sem s).val < 2 := by decide

theorem ownSemFacts : Pipeline.OwnSemFacts cfg0.spec osem where
  isScoped k := by revert k; decide
  inj k k' h := by
    have h' : (⟨k.val + 2, _⟩ : DmaSem sig) = ⟨k'.val + 2, _⟩ := SemLoc.dma.inj h
    have := congrArg Fin.val h'
    exact Fin.ext (by simp only at this; omega)
  disj k w s := by
    intro h
    have h' := SemLoc.dma.inj h
    have h2 := congrArg Fin.val h'
    have h3 : ((cfg0.spec w).sem s).val < 2 := low w s
    have h4 : k.val + 2 = ((cfg0.spec w).sem s).val := h2
    omega

theorem csem_succ (k : Fin 66) : csem k.succ = osem k := by
  unfold csem osem
  rw [if_neg (Fin.succ_ne_zero k)]
  exact congrArg SemLoc.dma (Fin.ext (by show k.succ.val + 1 = k.val + 2; rw [Fin.val_succ]))

theorem csem_injective : Function.Injective csem := fun k k' h => by
  induction k using Fin.cases with
  | zero => induction k' using Fin.cases with
    | zero => rfl
    | succ k' => rw [csem_succ] at h; exact absurd (show SemLoc.reg barS = osem k' from h) (by unfold osem; intro h; cases h)
  | succ k => induction k' using Fin.cases with
    | zero => rw [csem_succ] at h; exact absurd (show osem k = SemLoc.reg barS from h) (by unfold osem; intro h; cases h)
    | succ k' => rw [csem_succ, csem_succ] at h; rw [ownSemFacts.inj h]

theorem kcell_injective : Function.Injective (kcell : Dev nD × Fin 67 → GSem nD τ sig) := fun ⟨c, k⟩ ⟨c', k'⟩ h => by
  have h1 : c = c' := congrArg (fun g : GSem nD τ sig => g.1.1) h
  have h2 : k = k' := csem_injective (congrArg Prod.snd h)
  rw [h1, h2]

/-- The barrier is the one semaphore that outlives the launch. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The kernel's own semaphores and the barrier are the semaphores of the protocol. -/
theorem sems0_eq (c : Dev nD) :
    (bigSep Finset.univ fun k : Fin 67 => (semVal (kcell (c, k)) 0 : sProp 𝕄))
      = iprop(unscopedSems0 c ∗ Pipeline.ownSems0 (Ix := Unit) (Name := ℕ) (U := UU) (Lvl := ℕ) (Val := Elt F) (τ := τ) osem c) := by
  rw [unscopedSems0_eq, Fin.univ_succ, Finset.cons_eq_insert, bigSep_insert (by simp [Fin.succ_ne_zero]), bigSep_map]
  refine congrArg (BI.sep _) (bigSep_congr fun k _ => ?_)
  show semVal ((c : Thread nD τ), csem k.succ) 0 = semVal ((c : Thread nD τ), osem k) 0
  rw [csem_succ]

/-! ## The tokens, as they are minted at the semaphores' owners -/

abbrev Tok : Type := Dev nD ⊕ (Fin 2 × Fin 8) ⊕ Dev nD ⊕ Dev nD

/-- The duties at device `c`'s semaphores: a signal from each device, eight fetches into each slot, a send and a receipt a device. -/
def tokOf (ct : Dev nD × Tok) : GSem nD τ sig × ℕ × Dev nD := match ct.2 with
  | .inl q => (barCell ct.1, 0, q)
  | .inr (.inl sr) => (wCell ct.1 sr.1, sr.2.val, 0)
  | .inr (.inr (.inl t)) => (sendCell ct.1 t, 0, 0)
  | .inr (.inr (.inr t)) => (recvCell ct.1 t, 0, 0)

/-- What tells the tokens of one device apart: the semaphore's place, the round and the payer. -/
def tokKey (t : Tok) : ℕ × ℕ × Dev nD := match t with
  | .inl q => (0, 0, q)
  | .inr (.inl sr) => (2 + sr.1.val, sr.2.val, 0)
  | .inr (.inr (.inl t)) => (4 + t.val, 0, 0)
  | .inr (.inr (.inr t)) => (36 + t.val, 0, 0)
def semKey : SemLoc sig → ℕ | .reg _ => 0 | .dma s => s.val

theorem tokKey_of (c : Dev nD) (t : Tok) : (semKey (tokOf (c, t)).1.2, (tokOf (c, t)).2.1, (tokOf (c, t)).2.2) = tokKey t := by
  rcases t with q | sr | t | t <;> rfl
theorem tokOf_dev (c : Dev nD) (t : Tok) : (tokOf (c, t)).1.1.1 = c := by
  rcases t with q | sr | t | t <;> rfl

theorem tokKey_injective : Function.Injective tokKey := fun a b h => by
  have h1 := congrArg Prod.fst h
  have h2 := congrArg (fun x => x.2.1) h
  have h3 := congrArg (fun x => x.2.2) h
  rcases a with q | ⟨s, r⟩ | t | t <;> rcases b with q' | ⟨s', r'⟩ | t' | t' <;> simp only [tokKey] at h1 h2 h3
  · rw [h3]
  · exact absurd h1 (by omega)
  · exact absurd h1 (by omega)
  · exact absurd h1 (by omega)
  · exact absurd h1 (by omega)
  · have e1 : s = s' := Fin.ext (by omega)
    have e2 : r = r' := Fin.ext h2
    rw [e1, e2]
  · exact absurd h1 (by have := s.isLt; omega)
  · exact absurd h1 (by have := s.isLt; omega)
  · exact absurd h1 (by omega)
  · exact absurd h1 (by have := s'.isLt; omega)
  · have e : t = t' := Fin.ext (by omega)
    rw [e]
  · exact absurd h1 (by have : t.val < 32 := t.isLt; omega)
  · exact absurd h1 (by omega)
  · exact absurd h1 (by have := s'.isLt; omega)
  · exact absurd h1 (by have : t'.val < 32 := t'.isLt; omega)
  · have e : t = t' := Fin.ext (by omega)
    rw [e]

theorem tokOf_injective : Function.Injective tokOf := fun ⟨c, t⟩ ⟨c', t'⟩ h => by
  have h1 : c = c' := by rw [← tokOf_dev c t, ← tokOf_dev c' t', h]
  have h2 : t = t' := tokKey_injective (by rw [← tokKey_of c t, ← tokKey_of c' t', h])
  rw [h1, h2]

def allCells : Finset (GSem nD τ sig) := Finset.univ.map ⟨kcell, kcell_injective⟩
def allToks : Finset (GSem nD τ sig × ℕ × Dev nD) := Finset.univ.map ⟨tokOf, tokOf_injective⟩

def u₀ : UU :=
  (initOf (Pipeline.cells cfgs cellOf_inj) (Pipeline.launchToks cfgs cellOf_inj), initOf allCells allToks)

/-- The tokens at device `c`'s own semaphores. -/
def toks (c : Dev nD) : sProp 𝕄 :=
  iprop((bigSep Finset.univ fun q : Dev nD => dutyTok ER (barCell c) 0 q)
    ∗ (bigSep Finset.univ fun sr : Fin 2 × Fin 8 => dutyTok ER (wCell c sr.1) sr.2.val 0)
    ∗ (bigSep Finset.univ fun t : Dev nD => dutyTok ER (sendCell c t) 0 0)
    ∗ (bigSep Finset.univ fun t : Dev nD => dutyTok ER (recvCell c t) 0 0))

/-- What the launch's first element gives device `c`. -/
def G (c : Dev nD) : sProp 𝕄 :=
  iprop((bigSep Finset.univ fun k : Fin 67 => roundState ER (Rd m) (kcell (c, k)) 0)
    ∗ (bigSep Finset.univ fun k : Fin 67 => iprop(atPos ER (kcell (c, k)) 0 ∅ 0 ∗ reached ER (kcell (c, k)) 0)) ∗ toks (F := F) c)

/-- What every device has once the invariants are made and the tokens dealt. -/
def G' (c : Dev nD) : sProp 𝕄 := iprop(∃ K, records m K ∗ Linear (F := F) c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 67 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum, bigSep_univ_sum]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Fin 67 => semVal (kcell (c, k)) 0) ∗ bigSep Finset.univ fun k : Fin 67 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to the payers -/

theorem deal (Φ : Dev nD → Dev nD → sProp 𝕄) :
    (bigSep Finset.univ fun c => bigSep Finset.univ fun t => Φ c t) = bigSep Finset.univ fun c => bigSep Finset.univ fun t => Φ t c := by
  rw [← bigSep_univ_prod (fun ct : Dev nD × Dev nD => Φ ct.1 ct.2), ← bigSep_univ_prod (fun ct : Dev nD × Dev nD => Φ ct.2 ct.1),
    bigSep_univ_equiv (Equiv.prodComm (Dev nD) (Dev nD)) (fun ct : Dev nD × Dev nD => Φ ct.1 ct.2)]
  rfl

theorem rounds_eight (Φ : ℕ → sProp 𝕄) : (bigSep Finset.univ fun r : Fin 8 => Φ r.val) = bigSep (Finset.Ico 0 8) Φ := by
  rw [show Finset.Ico 0 8 = Finset.univ.image (fun r : Fin 8 => r.val) from by decide,
    bigSep_image_of_injOn (fun a _ b _ h => Fin.ext h)]

/-- The tokens of the duties device `c` pays. -/
def payToks (c : Dev nD) : sProp 𝕄 :=
  iprop((bigSep Finset.univ fun q : Dev nD => dutyTok ER (barCell q) 0 c)
    ∗ (bigSep Finset.univ fun s : Fin 2 => bigSep (Finset.Ico 0 8) fun r => dutyTok ER (wCell c s) r 0)
    ∗ (bigSep Finset.univ fun t : Dev nD => dutyTok ER (sendCell c t) 0 0)
    ∗ (bigSep Finset.univ fun t : Dev nD => dutyTok ER (recvCell t c) 0 0))

theorem toks_dealt : (bigSep Finset.univ fun c : Dev nD => (toks c : sProp 𝕄)) = bigSep Finset.univ fun c : Dev nD => payToks c := by
  have hw (c : Dev nD) : (bigSep Finset.univ fun sr : Fin 2 × Fin 8 => (dutyTok ER (wCell c sr.1) sr.2.val 0 : sProp 𝕄))
      = bigSep Finset.univ fun s : Fin 2 => bigSep (Finset.Ico 0 8) fun r => dutyTok ER (wCell c s) r 0 := by
    rw [bigSep_univ_prod]
    exact bigSep_congr fun s _ => rounds_eight fun r => dutyTok ER (wCell c s) r 0
  unfold toks payToks
  simp only [bigSep_sep']
  rw [deal fun c q => (dutyTok ER (barCell c) 0 q : sProp 𝕄), deal fun c t => (dutyTok ER (recvCell c t) 0 0 : sProp 𝕄),
    bigSep_congr (s := Finset.univ) fun (c : Dev nD) _ => hw c]

theorem share_out (K : Dev nD × Fin 67 → ℕ) (c : Dev nD) :
    iprop(records m K ∗ (bigSep Finset.univ fun k : Fin 67 => atPos ER (kcell (c, k)) 0 ∅ 0) ∗ payToks (F := F) c) ⊢ G' m c := by
  unfold G' Linear payToks
  iintro ⟨#HR, Hat, Htok⟩
  iexists K
  isplitr; · iexact HR
  isplitl [Hat] <;> iassumption

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × Fin 67 => iprop(∃ κ : ℕ, cellInv ER (Rd m) κ (kcell ck))),
    bigSep_congr (s := Finset.univ) (fun (c : Dev nD) _ => bigSep_sep' Finset.univ (fun k : Fin 67 => (atPos ER (kcell (c, k)) 0 ∅ 0 : sProp 𝕄)) (fun k => reached ER (kcell (c, k)) 0)),
    bigSep_sep', ← bigSep_univ_prod (fun ck : Dev nD × Fin 67 => (reached ER (kcell ck) 0 : sProp 𝕄)), toks_dealt]
  iintro ⟨HI, ⟨Hat, #HR⟩, Htok⟩
  ihave HK := (BI.bigSep_exists_pi Finset.univ (fun (ck : Dev nD × Fin 67) (κ : ℕ) => (cellInv ER (Rd m) κ (kcell ck) : sProp 𝕄))) $$ HI
  icases HK with ⟨%K, #HI⟩
  iapply (keep (R := records m K) fun c _ => share_out m K c)
  isplitr
  · unfold records; isplitl; · iexact HI
    iexact HR
  · iapply (Entails.of_eq (bigSep_sep' Finset.univ (fun c : Dev nD => bigSep Finset.univ fun k : Fin 67 => (atPos ER (kcell (c, k)) 0 ∅ 0 : sProp 𝕄)) payToks).symm)
    isplitl [Hat] <;> iassumption

/-- The global step: the invariants of every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.A2A

end
-- ==== Proof.Credits.lean ====
/- The credit each device starts with: what all the devices owe its semaphores. -/
module

public import proofs.«01_k».proof.Proof.Schedule
public import proofs.«01_k».proof.Proof.Gen.KernelIdeal.Launch
public import Idealize.ShloMosaic.Lib.Pipeline.Launch
public import Idealize.ShloMosaic.Lib.Pipeline.Kit

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem bar_eq {a b : Dev nD} (h : barCell a = barCell b) : a = b := congrArg (fun g : GSem nD τ sig => g.1.1) h
theorem recv_eq {a b t u : Dev nD} (h : recvCell a t = recvCell b u) : a = b ∧ t = u := by
  refine ⟨congrArg (fun g : GSem nD τ sig => g.1.1) h, ?_⟩
  have h1 := congrArg Fin.val (SemLoc.dma.inj (congrArg Prod.snd h))
  exact Fin.ext (by simp only at h1; omega)
theorem bar_ne_recv (a b t : Dev nD) : barCell a ≠ recvCell b t := fun h => by
  have h' : SemLoc.reg barS = SemLoc.dma (rsem t) := congrArg Prod.snd h
  cases h'

theorem Ob_all (d : Dev nD) : Ob d 0 = ∑ t ∈ Finset.univ.erase d, tallyAt (barCell t) () 1 := by
  unfold Ob; rw [← toD_image d, Finset.sum_image (toD_inj d)]
theorem Or_all (d : Dev nD) : Or d 0 = ∑ t : Dev nD, if t = d then 0 else tallyAt (recvCell t d) () NB := by
  unfold Or Ot; rw [← pos_image d, Finset.sum_image (pos_inj d)]

theorem Ob_bar (d c : Dev nD) : Ob d 0 (barCell c) () = if c = d then 0 else 1 := by
  rw [Ob_all, Finset.sum_apply, Finsupp.finset_sum_apply,
    Finset.sum_congr rfl fun t _ => show (tallyAt (barCell t) () 1 : CellTallies nD τ sig Unit) (barCell c) () = if c = t then 1 else 0 from by
      rw [tallyAt_apply]
      by_cases h : c = t
      · subst h; rw [if_pos ⟨rfl, rfl⟩, if_pos rfl]
      · rw [if_neg (fun h' => h (bar_eq h'.1)), if_neg h],
    Finset.sum_ite_eq]
  by_cases h : c = d
  · rw [if_neg (fun h' => (Finset.mem_erase.mp h').1 h), if_pos h]
  · rw [if_pos (Finset.mem_erase.mpr ⟨h, Finset.mem_univ _⟩), if_neg h]
theorem Ob_recv (d c q : Dev nD) : Ob d 0 (recvCell c q) () = 0 := by
  rw [Ob_all, Finset.sum_apply, Finsupp.finset_sum_apply]
  exact Finset.sum_eq_zero fun t _ => by rw [tallyAt_apply, if_neg (fun h => bar_ne_recv _ _ _ h.1.symm)]
theorem Or_bar (d c : Dev nD) : Or d 0 (barCell c) () = 0 := by
  rw [Or_all, Finset.sum_apply, Finsupp.finset_sum_apply]
  refine Finset.sum_eq_zero fun t _ => ?_
  split
  · rfl
  · rw [tallyAt_apply, if_neg (fun h => bar_ne_recv _ _ _ h.1)]
theorem Or_recv (d c q : Dev nD) (hq : q ≠ c) : Or d 0 (recvCell c q) () = if d = q then NB else 0 := by
  rw [Or_all, Finset.sum_apply, Finsupp.finset_sum_apply,
    Finset.sum_congr rfl fun t _ => show (if t = d then (0 : CellTallies nD τ sig Unit) else tallyAt (recvCell t d) () NB) (recvCell c q) () = if c = t then (if d = q then NB else 0) else 0 from by
      by_cases h : c = t
      · subst h
        rw [if_pos rfl]
        by_cases hd : d = q
        · subst hd; rw [if_neg (fun h => hq h.symm), if_pos rfl, tallyAt_apply, if_pos ⟨rfl, rfl⟩]
        · rw [if_neg hd]; split
          · rfl
          · rw [tallyAt_apply, if_neg (fun h' => hd (recv_eq h'.1).2.symm)]
      · rw [if_neg h]; split
        · rfl
        · rw [tallyAt_apply, if_neg (fun h' => h (recv_eq h'.1).1)],
    Finset.sum_ite_eq, if_pos (Finset.mem_univ _)]

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same,
    Finset.sum_congr rfl fun d _ => show O₀ d (barCell c) () = if c = d then 0 else 1 from by
      unfold O₀; rw [Pi.add_apply, Finsupp.add_apply, Ob_bar, Or_bar, Nat.add_zero]]
  revert c; decide

theorem launch_recv (c q : Dev nD) (hq : q ≠ c) :
    tallyOn (recvCell c q) (launchCredit (Pipeline.owing O₀) 0 (recvCell c q)) = (tallyAt (recvCell c q) () NB : CellTallies nD τ sig Unit) := by
  unfold tallyAt; refine congrArg _ (Finsupp.ext fun u => ?_); cases u
  rw [Pipeline.launchCredit_owing, Finsupp.single_eq_same,
    Finset.sum_congr rfl fun d _ => show O₀ d (recvCell c q) () = if d = q then NB else 0 from by
      unfold O₀; rw [Pi.add_apply, Finsupp.add_apply, Ob_recv, Or_recv d c q hq, Nat.zero_add],
    Finset.sum_ite_eq', if_pos (Finset.mem_univ _)]

theorem recv_locs (c : Dev nD) : Set.InjOn (fun q : Dev nD => (SemLoc.dma (rsem q) : SemLoc sig)) (Finset.univ.erase c : Finset (Dev nD)) := fun a _ b _ h => by
  have h1 := congrArg Fin.val (SemLoc.dma.inj h)
  exact Fin.ext (by simp only at h1; omega)

/-- A device's credit at launch: a unit from every other device, and a block from every other device. -/
theorem creds (c : Dev nD) :
    (Pipeline.launchCred O₀ c : sProp 𝕄) ⊢ iprop(cred (tallyAt (barCell c) () 31)
      ∗ bigSep (Finset.univ.erase c) fun q : Dev nD => cred (tallyAt (recvCell c q) () NB)) := by
  unfold Pipeline.launchCred
  rw [bigSep_univ_at _ (SemLoc.reg barS), launch_bar]
  refine sep_mono_right ?_
  refine (bigSep_subset (t := (Finset.univ.erase c).image fun q : Dev nD => (SemLoc.dma (rsem q) : SemLoc sig)) fun x hx => ?_).trans ?_
  · obtain ⟨q, -, rfl⟩ := Finset.mem_image.mp hx
    exact Finset.mem_erase.mpr ⟨fun h => (by cases h), Finset.mem_univ _⟩
  · rw [bigSep_image_of_injOn (recv_locs c)]
    exact bigSep_mono fun q hq => Entails.of_eq (congrArg cred (launch_recv c q (Finset.mem_erase.mp hq).1))

end Cert.KernelIdeal.A2A

end
-- ==== Proof.Launch.lean ====
/- The launch: every device's body from the ghost state and the credit of the launch, and what the run ends with. -/
module

public import proofs.«01_k».proof.Proof.Ghost
public import proofs.«01_k».proof.Proof.Credits
public import Idealize.ShloMosaic.Lib.Pipeline.Quiescent

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (ρ : Dev nD → PrngReg)

set_option maxRecDepth 8000 in
/-- The library's body obligation. -/
theorem body_obligation (c : Dev nD) : BodyObligation (dats (F := F) m 0 c) (defs₀ (F := F)) 𝒱₀ () Set.univ := fun t => by
  rw [fin_N0 t]
  rw [bigSep_W0, bigSep_W0]
  simp only [owns_whole]
  show Before m c ⊢ WP c (cc0_body xM (Memref.isWhole_whole _) wM (Memref.isWhole_whole _) oM (Memref.isWhole_whole _) xbM (Memref.isWhole_whole _) wbM (Memref.isWhole_whole _) accM (Memref.isWhole_whole _) sbM (Memref.isWhole_whole _) rbM (Memref.isWhole_whole _) cc0_scratch5 cc0_scratch6 cc0_scratch7)
    (fun _ => After m c)
  exact body_sound m c

theorem share_eq (c : Dev nD) (w : Fin cfg0.W) : (dats (F := F) m 0 c).share w = fullShare := by unfold Dat.share; split <;> rfl

theorem waits (c : Dev nD) : (levAts L lv : sProp 𝕄) ⊢ Pipeline.cellsWaits cfgs (dats (F := F) m) () 0 c :=
  Pipeline.cellsWaits_intro cfgs (dats m) () 0 c fun w s t => by
    rcases t with ⟨_ | _, ht⟩
    · exact mayWait_stage c _ (by fin_cases w <;> fin_cases s <;> decide)
    · show (levAts L lv : sProp 𝕄) ⊢ MayWait (c : Thread nD τ) _ () 0
      have h := mayWait_low (F := F) c 32 (.dma ((cfg0.win w).sem s)) (by fin_cases w <;> fin_cases s <;> decide)
      rw [Or_end] at h
      exact h

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(Begin m c ∗ emp) := by
  rw [Pipeline.unscopedRestP_none, unscopedRest0_eq]
  iintro ⟨Hw, Hlev, Hcr, -, HG⟩
  ihave Hc := (creds (F := F) c) $$ Hcr
  icases Hc with ⟨H1, HN⟩
  imodintro
  unfold Begin G'
  isplitl
  · isplitl [HG]; · iexact HG
    isplitl [Hlev]; · iexact Hlev
    isplitl [H1]; · iexact H1
    isplitl [HN]; · iexact HN
    iexact Hw
  · iempintro

theorem phi0_intro (c : Dev nD) :
    iprop(Begin m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs] <;> iassumption

/-- What a device holds after the launch beside its results: `w` as it was, and the barrier at zero. -/
def End (c : Dev nD) : sProp 𝕄 := iprop((((c : Thread nD τ).loc main_arg1) ↦{fullShare} (wArr m c)) ∗ unscopedSems0 c)

theorem phi1_exit (c : Dev nD) :
    (dats m 0 c).Φ (Fin.last cfg0.N) ⊢ iprop(End m c ∗ Pipeline.ownSems0 osem c ∗ Pipeline.scopedRest cfg0.spec c) := by
  rw [show (dats m 0 c).Φ (Fin.last cfg0.N) = Φ₁ m c from rfl]
  unfold Φ₁ End
  rw [sems0_eq]
  iintro ⟨Hw, ⟨Hu, Ho⟩, Hr⟩
  isplitl [Hw Hu]; · isplitl [Hw] <;> iassumption
  isplitl [Ho] <;> iassumption

/-! ## The run -/

/-- What a device's memory and counters end with, beside the two windows' arrays. -/
def QY (c : Dev nD) (s : MemSt nD τ sig (Elt F)) : Prop :=
  s.mem ((c : Thread nD τ).loc main_arg1) = wArr m c ∧ ∀ sm : SemLoc sig, sm.isScoped .tc = false → s.sem ((c.tc : Thread nD τ), sm) = 0

/-- The arrays of the two windows after the run. -/
def finalA (c : Dev nD) (w : Fin cfg0.W) : Buf (Elt F) ((cfg0.win w).arr.view.loc (c : Thread nD τ)) := (dats m 0 c).arrAt w cfg0.N

set_option maxRecDepth 8000 in
/-- Every weakly fair run ends, with the arrays at the computed contents, `w` unchanged and every counter at zero. -/
theorem run_arrays : θ_run defs (onTc (τ := τ) (main (F := F))) ⟨m, fun _ => 0, ρ⟩ (fun r =>
    (∀ c : Dev nD, (∀ w : Fin cfg0.W, r.2.mem ((cfg0.win w).arr.view.loc (c : Thread nD τ)) = finalA m c w)
      ∧ r.2.mem ((c : Thread nD τ).loc main_arg1) = wArr m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := Begin m) (Y := End m) (Z := fun _ => iprop(emp))
    (hX := start_intro m ρ) (hin := phi0_intro m) (hout := phi1_exit m)
    (QY := QY m)
    (hY := fun c s' => by
      unfold End QY
      iintro ⟨⟨Hw, Hu⟩, -, HSI⟩
      icombine HSI Hw gives %h
      ihave %hs := (tcUnscoped_read c s') $$ [Hu HSI]
      · isplitl [Hu] <;> iassumption
      imodintro
      isplitr
      · ipureintro; exact ⟨Buf.eq_of_forall_mem_univ h, hs⟩
      iexact HSI)
    (hQ := fun _ h hs => ⟨fun c => ⟨(h c).1, (h c).2.2.1⟩, sem_eq_zero hs fun c => (h c).2.2.2⟩)

/-- `x` is as it was, -/
theorem final_x (c : Dev nD) : finalA m c (0 : Fin 2) = xArr m c := (dats m 0 c).arrAt_in (0 : Fin 2) rfl _

theorem whole_out (i : S8192x128.Idx) : i ∈ (win0_1.blk t0_0).view.set := by
  have h : (win0_1.blk t0_0).view.emb i = i := funext fun a => Fin.ext (Pipeline.Window.rect_emb_val_of_index_zero win0_1 t0_0 a rfl i)
  have h' := (win0_1.blk t0_0).view.emb_mem_set i
  rw [h] at h'
  exact h'

/-- and the result is the array the blocks make up. -/
theorem final_out (c : Dev nD) : finalA m c (1 : Fin 2) = outArr m c :=
  Dat.arrAt_eq_of_cover (dats m 0 c) (1 : Fin 2) (outArr m c) (fun t _ => (blk_out t (outArr m c)).symm)
    (fun i => ⟨t0_0, rfl, whole_out i⟩)

/-- The run of the kernel, over any float values. -/
theorem run_main : θ_run defs (onTc (τ := τ) (main (F := F))) ⟨m, fun _ => 0, ρ⟩ (fun r =>
    (∀ c : Dev nD, r.2.mem ((c : Thread nD τ).loc main_v1) = outArr m c ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun r h => ⟨fun c => ⟨((h.1 c).1 (1 : Fin 2)).trans (final_out m c), ((h.1 c).1 (0 : Fin 2)).trans (final_x m c), (h.1 c).2⟩, h.2⟩)
    (run_arrays m ρ)

end Cert.KernelIdeal.A2A

end
-- ==== Proof.Frames.lean ====
/- The frames: the kernel as printed runs the same text as its idealization; the reference declares no semaphore. -/
module

public import proofs.«01_k».proof.Defs
public import proofs.«01_k».proof.Proof.Gen.Kernel
public import proofs.«01_k».proof.Proof.Gen.ReferenceIdeal.Run
public import proofs.«01_k».proof.Proof.Launch
public import Idealize.ShloMosaic.Lib.Quiescent

@[expose] public section

namespace Cert.Proof

open Idealize.ShloMosaic Idealize.ShloMosaic.TcCoe Idealize.SL.Sem

set_option maxRecDepth 20000 in
theorem body_eq : Cert.Kernel.cc0_body (F := Bits) = Cert.KernelIdeal.cc0_body (F := Bits) := rfl
/-- The two body tables are one. -/
theorem defs₀_eq : Cert.Kernel.defs₀ (F := Bits) = Cert.KernelIdeal.defs₀ (F := Bits) := by
  refine congrArg Defs.onTc (funext fun ℓ => ?_)
  refine Fin.cases ?_ (fun i => i.elim0) ℓ
  refine funext fun a => ?_
  obtain ⟨t, s⟩ := a
  exact congrFun (congrFun (congrFun (congrFun (congrFun (congrFun (congrFun (congrFun (congrFun (congrFun (congrFun (congrFun (congrFun (congrFun (congrFun (congrFun (congrFun (congrFun (congrFun body_eq _) _) _) _) _) _) _) _) _) _) _) _) _) _) _) _) _) _) _
theorem defs_eq : Cert.Kernel.defs (F := Bits) = Cert.KernelIdeal.defs (F := Bits) := congrArg (Pipeline.defs _) defs₀_eq

theorem frame_kernel : Cert.quiescent_Kernel := fun m ρ _ => by
  rw [defs_eq]
  exact (θ_run Cert.KernelIdeal.defs _ _).mono (fun _ h => ⟨fun c => (h.1 c).2, h.2⟩) (Cert.KernelIdeal.A2A.run_main (F := Bits) m ρ)

theorem frame_ideal : Cert.quiescent_KernelIdeal := fun m ρ _ =>
  (θ_run Cert.KernelIdeal.defs _ _).mono (fun _ h => ⟨fun c => (h.1 c).2, h.2⟩) (Cert.KernelIdeal.A2A.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof
-- ==== Proof.Product.lean ====
/- Over the extended reals, the accumulator of a column group holds the whole product of a device's rows of `x` with
   those columns of `w`: four sums over 2048 places each are one sum over 8192. -/
module

public import proofs.«01_k».proof.Proof.Blocks
public import Idealize.ShloMosaic.Lib.MatmulPlain
public import Idealize.ShloMosaic.Lib.ValueIdx
public import Idealize.ShloMosaic.Lib.ValueLayout
public import Idealize.ShloMosaic.Lib.Pipeline.Value
public import Idealize.ShloMosaic.Lib.Pipeline.ValueKit.Acc

@[expose] public section

namespace Cert.KernelIdeal.A2A

open Cert.KernelIdeal Cert.KernelIdeal.Gen
open Idealize.ShloMosaic hiding ix2 ix3
open Idealize.ShloMosaic.ValueIdx
open Idealize.ShloMosaic.TcCoe
open Idealize.SL.Sem
open scoped BigOperators

variable (m : (ℓ : Loc nD τ sig) → Buf (Elt Ideal) ℓ)

/-! ## The kernel's expressions at an index -/

theorem pay14_ideal (x : Vec Ideal S256x8192 .f32) : k0_pay14 x = x := by
  unfold k0_pay14
  simp only [shapeCast_self]
  rfl

/-- One block's product. -/
theorem pay11_apply (w : Vec Ideal S1x2048x1024 .f32) (x : Vec Ideal S256x2048 .bf16) (r : Fin 256) (q : Fin 1024) :
    k0_pay11 w x (ix2 r q) = ∑ k : Fin 2048, x (ix2 r k) * w (ix3 (0 : Fin 1) k q) := by
  show FloatOps.matmul (DotDims.plain 256 2048 1024) none x
    (truncf (F := Ideal) (φ := .f32) .bf16 (shapeCast (α := Ideal .f32) S2048x1024 w shapeCasts_S1x2048x1024_S2048x1024) bitsLt_bf16_f32) (constant S256x1024 .f32 0x00000000#32) (ix2 r q) = _
  rw [Ideal.matmul_plain_apply, constant_apply, Ideal.ofBits_zero_f32, zero_add]
  refine Finset.sum_congr rfl fun k _ => ?_
  rw [truncf_apply]
  exact congrArg (x (ix2 r k) * ·) (shapeCast_1ab_ab_apply w _ k q)

theorem pay12_apply (w : Vec Ideal S1x2048x1024 .f32) (x : Vec Ideal S256x2048 .bf16) : k0_pay12 w x = k0_pay11 w x := by
  unfold k0_pay12
  simp only [shapeCast_self]

theorem pay15_apply (p a : Vec Ideal S256x1024 .f32) (i : S256x1024.Idx) : k0_pay15 p a i = a i + p i := by
  unfold k0_pay15
  simp only [shapeCast_self]
  rfl

/-! ## The blocks at an index -/

theorem xBlk_apply (c : Dev nD) (kc : Fin 4) (r : Fin 256) (k : Fin 2048) (h : kc.val * 2048 + k.val < 8192) :
    xBlk m c kc (ix2 r k) = xArr m c (ix2 r ⟨kc.val * 2048 + k.val, h⟩) := by
  unfold xBlk
  rw [pay14_ideal]
  refine congrArg (xArr m c) (funext fun a => Fin.ext ?_)
  match a with
  | ⟨0, _⟩ => show 0 + 1 * r.val = r.val; omega
  | ⟨1, _⟩ => show 2048 * kc.val + 1 * k.val = kc.val * 2048 + k.val; omega

theorem wBlk1_apply (c : Dev nD) (g kc : Fin 4) (k : Fin 2048) (q : Fin 1024) (h : kc.val * 2048 + k.val < 8192) (h' : 1024 * g.val + q.val < 4096) :
    wBlk1 m c g kc (ix3 (0 : Fin 1) k q) = wArr m c (ix2 ⟨kc.val * 2048 + k.val, h⟩ ⟨1024 * g.val + q.val, h'⟩) := by
  unfold wBlk1 wBlk
  refine congrArg (wArr m c) (funext fun a => Fin.ext ?_)
  match a with
  | ⟨0, _⟩ => show 2048 * kc.val + 1 * k.val = kc.val * 2048 + k.val; omega
  | ⟨1, _⟩ => show 1024 * g.val + 1 * q.val = 1024 * g.val + q.val; omega

/-! ## The accumulator -/

/-- Entry `(r, l)` of the product of device `c`'s rows with `w`. -/
noncomputable def prodAt (c : Dev nD) (r : Fin 256) (l : Fin 4096) : EReal :=
  ∑ k : Fin 8192, xArr m c (ix2 r k) * wArr m c (ix2 k l)

theorem accAt_apply (c : Dev nD) (g : Fin 4) (r : Fin 256) (q : Fin 1024) (h' : 1024 * g.val + q.val < 4096) :
    accAt m c g 3 (ix2 r q) = prodAt m c r ⟨1024 * g.val + q.val, h'⟩ := by
  unfold prodAt
  refine Eq.trans ?_ (Fin.sum_mul_add_congr (S := 4) (n := 2048)
    (F := fun s k => xBlk m c s (ix2 r k) * wBlk1 m c g s (ix3 (0 : Fin 1) k q))
    (fun s k hl => by rw [xBlk_apply m c s r k hl, wBlk1_apply m c g s k q hl h']))
  refine Eq.trans ?_ (Finset.sum_congr rfl fun s _ => pay11_apply (wBlk1 m c g s) (xBlk m c s) r q)
  rw [Fin.sum_univ_four]
  simp only [accAt, pay15_apply, pay12_apply]
  rfl

end Cert.KernelIdeal.A2A
-- ==== Proof.Silu.lean ====
/- The activation of a number within the clip: the kernel's `y * logistic y` is the reference's
   `y / (1 + exp (- clip y))`. -/
module

public import Idealize.ShloMosaic.PureOps.Ideal.Laws
public import Idealize.ShloMosaic.Lib.IdealHost

@[expose] public section

namespace Cert.Proof

open Idealize.ShloMosaic

/-- The two words of the clip. -/
theorem hi_eq : Ideal.ofBits .f32 0x42700000#32 = ((60 : ℝ) : EReal) := by
  simp [Ideal.ofBits, Ideal.ieee, -EReal.coe_mul, -EReal.coe_neg]; norm_num
theorem lo_eq : Ideal.ofBits .f32 0xC2700000#32 = ((-60 : ℝ) : EReal) := by
  simp [Ideal.ofBits, Ideal.ieee, -EReal.coe_mul, -EReal.coe_neg]; norm_num

/-- What the kernel applies to a product. -/
noncomputable def silu (y : EReal) : EReal := y * Ideal.logistic y
/-- What the reference applies to a product. -/
noncomputable def siluClip (y : EReal) : EReal :=
  Ideal.div y (Ideal.ofBits .f32 0x3F800000#32
    + Ideal.exp (-(min (Ideal.ofBits .f32 0x42700000#32) (max (Ideal.ofBits .f32 0xC2700000#32) y))))

theorem silu_eq_siluClip (y : EReal) (h : max y (-y) ≤ Ideal.ofBits .f32 0x42700000#32) : silu y = siluClip y := by
  rw [hi_eq] at h
  obtain ⟨h1, h2⟩ := max_le_iff.mp h
  induction y using EReal.rec with
  | bot => exact absurd h2 (by simp)
  | top => exact absurd h1 (by simp)
  | coe r =>
    have hr1 : r ≤ 60 := by exact_mod_cast h1
    have hr2 : -60 ≤ r := by
      have : -r ≤ 60 := by exact_mod_cast h2
      linarith
    have hmax : max ((-60 : ℝ) : EReal) (r : EReal) = (r : EReal) := max_eq_right (by exact_mod_cast hr2)
    have hmin : min ((60 : ℝ) : EReal) (r : EReal) = (r : EReal) := min_eq_right (by exact_mod_cast hr1)
    have hd : (1 : EReal) + ((Real.exp (-r) : ℝ) : EReal) = ((1 + Real.exp (-r) : ℝ) : EReal) := by norm_cast
    have hp : (1 + Real.exp (-r)) ≠ 0 := (by positivity : (0 : ℝ) < 1 + Real.exp (-r)).ne'
    unfold silu siluClip
    rw [hi_eq, lo_eq, hmax, hmin, Ideal.ofBits_one_f32, ← EReal.coe_neg, Ideal.exp_coe, hd, Ideal.div_coe hp,
      Ideal.logistic_coe, one_div]

end Cert.Proof
-- ==== Proof.Result.lean ====
/- The result of the kernel over the extended reals, entry by entry: the activation of one entry of the product. -/
module

public import proofs.«01_k».proof.Proof.Product
public import proofs.«01_k».proof.Proof.Silu

@[expose] public section

namespace Cert.KernelIdeal.A2A

open Cert.KernelIdeal Cert.KernelIdeal.Gen
open Idealize.ShloMosaic hiding ix2 ix3
open Idealize.ShloMosaic.ValueIdx
open Idealize.ShloMosaic.TcCoe
open Idealize.SL.Sem
open Cert.Proof

variable (m : (ℓ : Loc nD τ sig) → Buf (Elt Ideal) ℓ)

theorem pay1_apply (v : Vec Ideal S256x1024 .f32) (i : S256x1024.Idx) : k0_pay1 v i = silu (v i) := rfl

/-- Sending a block and reading it back changes nothing: the roundings are the identity here. -/
theorem pay13_pay3 (y : Vec Ideal S256x128 .f32) (r : Fin 256) (j : Fin 128) : k0_pay13 (F := Ideal) (k0_pay3 (F := Ideal) y) (ix2 r j) = y (ix2 r j) := by
  refine (shapeCast_1ab_ab_apply (k0_pay3 (F := Ideal) y) shapeCasts_S1x256x128_S256x128 r j).trans ?_
  exact shapeCast_ab_1ab_apply (α := Ideal .bf16) y shapeCasts_S256x128_S1x256x128 0 r j

theorem outBlk_apply (c s : Dev nD) (r : Fin 256) (j : Fin 128) : outBlk m c s (ix2 r j) = blkFor m s c (ix2 r j) := by
  unfold outBlk
  split
  · next h => rw [h]
  · exact pay13_pay3 (blkFor m s c) r j

/-- Device `s`'s columns for device `c` start at column `128 c`. -/
theorem blkFor_apply (s c : Dev nD) (r : Fin 256) (j : Fin 128) (h : c.val * 128 + j.val < 4096) :
    blkFor m s c (ix2 r j) = silu (prodAt m s r ⟨c.val * 128 + j.val, h⟩) := by
  have hc : c.val < 32 := c.isLt
  have hj := j.isLt
  have hq : 128 * (c.val % 8) + j.val < 1024 := by omega
  have e : 1024 * (c.val / 8) + (128 * (c.val % 8) + j.val) = c.val * 128 + j.val := by omega
  unfold blkFor cols
  rw [extractStridedSlice_apply _ _ _ (ix2 r j) (ix2 r ⟨128 * (c.val % 8) + j.val, hq⟩) (fun a => by
    match a with
    | ⟨0, _⟩ => show r.val = 0 + r.val; omega
    | ⟨1, _⟩ => rfl)]
  unfold tile
  rw [pay1_apply, accAt_apply m s (gOf c) r ⟨128 * (c.val % 8) + j.val, hq⟩ (by show 1024 * (c.val / 8) + _ < _; rw [e]; exact h)]
  exact congrArg (fun l => silu (prodAt m s r l)) (Fin.ext e)

/-- Entry `(R, j)` of device `c`'s result. -/
theorem outArr_apply (c : Dev nD) (R : Fin 8192) (j : Fin 128) (h : c.val * 128 + j.val < 4096) :
    outArr m c (ix2 R j) = silu (prodAt m (rowDev (ix2 R j)) ⟨R.val % 256, Nat.mod_lt _ (by decide)⟩ ⟨c.val * 128 + j.val, h⟩) :=
  (outBlk_apply m c (rowDev (ix2 R j)) ⟨R.val % 256, Nat.mod_lt _ (by decide)⟩ j).trans (blkFor_apply m _ c _ j h)

end Cert.KernelIdeal.A2A
-- ==== Proof.Algebraic.lean ====
/- The kernel on 32 devices computes the blocks of the reference's result, over the extended reals, where every entry of
   the product lies within the reference's clip. -/
module

public import proofs.«01_k».proof.Proof.Frames
public import proofs.«01_k».proof.Proof.Result
public import Idealize.ShloMosaic.Lib.StackMember
public import Idealize.ShloMosaic.Lib.ReduceAll

@[expose] public section

namespace Cert.Proof

open Idealize.ShloMosaic hiding ix0 ix2 ix3 eq_ix2
open Idealize.ShloMosaic.ValueIdx
open Idealize.ShloMosaic.TcCoe
open Idealize.SL.Sem
open Cert.KernelIdeal.A2A

/-! ## The side conditions of the precondition -/

theorem facts_kernel_pre : Cert.Pre_products_within_clip_KernelIdeal.Facts where
  bcast_S_S256x4096 := by decide
  reducesTo_S256x4096_S_d0_1 := by decide
  h_S_ := by decide
  dot_S256x8192_S8192x4096_S256x4096_1_0_0_1_n_n_wf := by decide

theorem facts_reference_pre : Cert.Pre_products_within_clip_ReferenceIdeal.Facts where
  bcast_S_S8192x4096 := by decide
  reducesTo_S8192x4096_S_d0_1 := by decide
  h_S_ := by decide
  dot_S8192x8192_S8192x4096_S8192x4096_1_0_0_1_n_n_wf := by decide

/-! ## The precondition, entry by entry -/

/-- The comparison at an entry. -/
theorem within_at [Cert.Pre_products_within_clip_KernelIdeal.Facts] (y : FVec Ideal ⟨2, ![256, 4096]⟩ .f32) (i : (⟨2, ![256, 4096]⟩ : Shape).Idx)
    (h : cmpf .ole (Host.absf y) (broadcastInDim Cert.Pre_products_within_clip_KernelIdeal.S256x4096 ![]
      Cert.Pre_products_within_clip_KernelIdeal.Facts.bcast_S_S256x4096
      (constant Cert.Pre_products_within_clip_KernelIdeal.S_ .f32 0x42700000#32)) i = 1#1) :
    max (y i) (-(y i)) ≤ Ideal.ofBits .f32 0x42700000#32 := by
  have h2 : Ideal.cmp .ole (max (y i) (-(y i))) (Ideal.ofBits .f32 0x42700000#32) = 1#1 := h
  by_contra hn
  simp [Ideal.cmp, hn] at h2

theorem dot_pre [Cert.Pre_products_within_clip_KernelIdeal.Facts] :
    Cert.Pre_products_within_clip_KernelIdeal.dot_S256x8192_S8192x4096_S256x4096_1_0_0_1_n_n = DotDims.plain 256 8192 4096 := rfl

/-- Every entry of a device's product is within the clip. -/
theorem within (x : FVec Ideal ⟨2, ![256, 8192]⟩ .f32) (w : FVec Ideal ⟨2, ![8192, 4096]⟩ .f32)
    [Cert.Pre_products_within_clip_KernelIdeal.Facts]
    (h : Cert.Pre_products_within_clip_KernelIdeal.fn (F := Ideal) x w = fun _ => 1#1) (r : Fin 256) (l : Fin 4096) :
    max (∑ k : Fin 8192, x (ix2 r k) * w (ix2 k l)) (-(∑ k : Fin 8192, x (ix2 r k) * w (ix2 k l))) ≤ Ideal.ofBits .f32 0x42700000#32 := by
  have h0 := congrFun h ix0
  dsimp only [Cert.Pre_products_within_clip_KernelIdeal.fn] at h0
  haveI : Subsingleton (Cert.Pre_products_within_clip_KernelIdeal.S_).Idx := ⟨fun a b => funext fun i => i.elim0⟩
  have h1 := within_at _ (ix2 r l) (Host.reduce_andi_all _ _ _ _ _ h0 (ix2 r l))
  rwa [dot_pre, StackMember.dotGeneral_plain_apply] at h1

/-! ## The reference, entry by entry -/

/-- The reference's result as a function of its arguments. -/
noncomputable def refVal (x : FVec Ideal ⟨2, ![8192, 8192]⟩ .f32) (w : FVec Ideal ⟨2, ![8192, 4096]⟩ .f32) : FVec Ideal ⟨2, ![8192, 4096]⟩ .f32 :=
  fun i => siluClip (Host.dotGeneral (DotDims.plain 8192 8192 4096) none x w i)

theorem refVal_apply (x : FVec Ideal ⟨2, ![8192, 8192]⟩ .f32) (w : FVec Ideal ⟨2, ![8192, 4096]⟩ .f32) (R : Fin 8192) (l : Fin 4096) :
    refVal x w (ix2 R l) = siluClip (∑ k : Fin 8192, x (ix2 R k) * w (ix2 k l)) := by
  unfold refVal
  rw [StackMember.dotGeneral_plain_apply]

theorem dot_ref : Cert.ReferenceIdeal.dot_S8192x8192_S8192x4096_S8192x4096_1_0_0_1_n_n = DotDims.plain 8192 8192 4096 := rfl

/-- The reference's operations after the product, at an entry. -/
theorem clip_apply (hb : Cert.ReferenceIdeal.S_.BroadcastsInDim Cert.ReferenceIdeal.S8192x4096 (![] : Fin 0 → Fin Cert.ReferenceIdeal.S8192x4096.rank))
    (y : FVec Ideal ⟨2, ![8192, 4096]⟩ .f32) (i : (⟨2, ![8192, 4096]⟩ : Shape).Idx) :
    Host.divf y (addf (broadcastInDim Cert.ReferenceIdeal.S8192x4096 ![] hb (constant Cert.ReferenceIdeal.S_ .f32 0x3F800000#32))
      (Host.exp (Host.negf (minimumf (broadcastInDim Cert.ReferenceIdeal.S8192x4096 ![] hb (id (constant Cert.ReferenceIdeal.S_ .f32 0x42700000#32)))
        (maximumf (broadcastInDim Cert.ReferenceIdeal.S8192x4096 ![] hb (id (constant Cert.ReferenceIdeal.S_ .f32 0xC2700000#32))) y))))) i
      = siluClip (y i) := rfl

/-- The reference's result is `refVal`. -/
theorem ref_eq (hb : Cert.ReferenceIdeal.S_.BroadcastsInDim Cert.ReferenceIdeal.S8192x4096 (![] : Fin 0 → Fin Cert.ReferenceIdeal.S8192x4096.rank))
    (x : FVec Ideal ⟨2, ![8192, 8192]⟩ .f32) (w : FVec Ideal ⟨2, ![8192, 4096]⟩ .f32) :
    Host.divf (Host.dotGeneral Cert.ReferenceIdeal.dot_S8192x8192_S8192x4096_S8192x4096_1_0_0_1_n_n none x w) (addf (broadcastInDim Cert.ReferenceIdeal.S8192x4096 ![] hb (constant Cert.ReferenceIdeal.S_ .f32 0x3F800000#32))
      (Host.exp (Host.negf (minimumf (broadcastInDim Cert.ReferenceIdeal.S8192x4096 ![] hb (id (constant Cert.ReferenceIdeal.S_ .f32 0x42700000#32)))
        (maximumf (broadcastInDim Cert.ReferenceIdeal.S8192x4096 ![] hb (id (constant Cert.ReferenceIdeal.S_ .f32 0xC2700000#32)))
          (Host.dotGeneral Cert.ReferenceIdeal.dot_S8192x8192_S8192x4096_S8192x4096_1_0_0_1_n_n none x w))))))
      = refVal x w := funext fun i => by
  rw [clip_apply, dot_ref]
  rfl

/-! ## The two results agree -/

section Value

variable (m : (ℓ : Loc Cert.KernelIdeal.nD Cert.KernelIdeal.τ Cert.KernelIdeal.sig) → Buf (Elt Ideal) ℓ)
variable (x : FVec Ideal ⟨2, ![8192, 8192]⟩ .f32) (w : FVec Ideal ⟨2, ![8192, 4096]⟩ .f32)

/-- An entry of a device's product is the entry of the whole product in the device's rows. -/
theorem prodAt_whole (s : Dev Cert.KernelIdeal.nD) (hx : xArr m s = Layout.block ⟨2, ![256, 8192]⟩ ⟨2, ![8192, 8192]⟩ 0 32 s x)
    (hw : wArr m s = w) (R : Fin 8192) (hs : s.val = R.val / 256) (l : Fin 4096) :
    prodAt m s ⟨R.val % 256, Nat.mod_lt _ (by decide)⟩ l = ∑ k : Fin 8192, x (ix2 R k) * w (ix2 k l) := by
  unfold prodAt
  refine Finset.sum_congr rfl fun k _ => ?_
  rw [hx, hw]
  refine congrArg (fun i => x i * w (ix2 k l)) (funext fun a => Fin.ext ?_)
  match a with
  | ⟨0, _⟩ => show s.val * 256 + R.val % 256 = R.val; omega
  | ⟨1, _⟩ => rfl

/-- A device's result is its block of columns of the reference's. -/
theorem outArr_eq_block [Cert.Pre_products_within_clip_KernelIdeal.Facts] (hpre : Cert.Pre_KernelIdeal_products_within_clip_KernelIdeal m)
    (hx : ∀ s, xArr m s = Layout.block ⟨2, ![256, 8192]⟩ ⟨2, ![8192, 8192]⟩ 0 32 s x) (hw : ∀ s, wArr m s = w) (c : Dev Cert.KernelIdeal.nD) :
    outArr m c = Layout.block ⟨2, ![8192, 128]⟩ ⟨2, ![8192, 4096]⟩ 1 32 c (refVal x w) := by
  funext i
  obtain ⟨R, j, rfl⟩ : ∃ (R : Fin 8192) (j : Fin 128), i = ix2 R j := ⟨i 0, i 1, eq_ix2 i⟩
  have hc : c.val < 32 := c.isLt
  have hj := j.isLt
  have hl : c.val * 128 + j.val < 4096 := by omega
  rw [outArr_apply m c R j hl, Layout.block_apply]
  have hi : ∀ h : Layout.Tiles ⟨2, ![8192, 128]⟩ ⟨2, ![8192, 4096]⟩ 1 32, h.idx c (ix2 R j) = ix2 R ⟨c.val * 128 + j.val, hl⟩ := fun h =>
    funext fun a => Fin.ext (by match a with | ⟨0, _⟩ => rfl | ⟨1, _⟩ => rfl)
  rw [hi, refVal_apply]
  have hin : max (prodAt m (rowDev (ix2 R j)) ⟨R.val % 256, Nat.mod_lt _ (by decide)⟩ ⟨c.val * 128 + j.val, hl⟩) (-_) ≤ _ :=
    within _ _ (hpre (rowDev (ix2 R j))) ⟨R.val % 256, Nat.mod_lt _ (by decide)⟩ ⟨c.val * 128 + j.val, hl⟩
  rw [silu_eq_siluClip _ hin, prodAt_whole m x w (rowDev (ix2 R j)) (hx _) (hw _) R rfl]

end Value

/-! ## The claims -/

theorem frame_ideal_pre [Cert.Pre_products_within_clip_KernelIdeal.Facts] :
    Cert.quiescent_KernelIdeal_pre_products_within_clip_KernelIdeal := fun m ρ _ => frame_ideal m ρ trivial

theorem frame_reference_pre [Cert.Pre_products_within_clip_ReferenceIdeal.Facts] :
    Cert.quiescent_ReferenceIdeal_pre_products_within_clip_ReferenceIdeal := fun m ρ _ => frame_reference m ρ trivial

theorem algebraic [Cert.Pre_products_within_clip_KernelIdeal.Facts] :
    Cert.algebraic_KernelIdeal_ReferenceIdeal_pre_products_within_clip_KernelIdeal := fun m ρ m' ρ' hpre hag =>
  ⟨refVal (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).1.trans (outArr_eq_block m _ _ hpre (fun s => (hag s).1) (fun s => (hag s).2) c), (h.1 c).2⟩)
      (run_main (F := Ideal) m ρ),
    (θ_run Cert.ReferenceIdeal.defs _ _).mono (fun _ h => ⟨(h 0).1.trans (ref_eq _ _ _), (h 0).2⟩) (Cert.ReferenceIdeal.Value.run (F := Ideal) m' ρ')⟩

end Cert.Proof
-- ==== Proof.lean ====
/- The proof of the claims: the frames of the three programs, and the equation of the kernel's blocks with the reference's. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.ReferenceIdeal
public import proofs.«01_k».proof.Proof.Gen.ReferenceIdeal.Run
public import proofs.«01_k».proof.Proof.Launch
public import proofs.«01_k».proof.Proof.Frames
public import proofs.«01_k».proof.Proof.Algebraic
public import Idealize.ShloMosaic.Adequacy
public import Idealize.ShloMosaic.Init

@[expose] public section

namespace Cert.Proof

open Idealize.ShloMosaic Idealize.SL.Sem

theorem claim : Cert.Claim := ⟨Cert.Kernel.Gen.facts, Cert.KernelIdeal.Gen.facts, Cert.ReferenceIdeal.Gen.facts,
  facts_kernel_pre, facts_reference_pre, frame_kernel, frame_ideal, @frame_ideal_pre facts_kernel_pre, frame_reference,
  @frame_reference_pre facts_reference_pre, trivial, @algebraic facts_kernel_pre⟩

end Cert.Proof

end
